-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S64x2x5120 Cert.KernelIdeal.S64x1x5120
  ∧ IdealRules.bf16_pair.BufferStatement Cert.KernelIdeal.S64x2x4480 Cert.KernelIdeal.S64x1x4480
  ∧ IdealRules.bf16_pair.Statement Cert.KernelIdeal.S128x5120 Cert.KernelIdeal.S64x5120
  ∧ IdealRules.bf16_pair.Statement Cert.KernelIdeal.S64x2x5120 Cert.KernelIdeal.S64x1x5120
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S64x2x4480 Cert.KernelIdeal.S64x1x4480
  ∧ IdealRules.bf16_pair.Statement Cert.KernelIdeal.S128x4480 Cert.KernelIdeal.S64x4480

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v266)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v266) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x5120 : Shape := ⟨3, ![128, 1, 5120]⟩
abbrev S4480x2560 : Shape := ⟨2, ![4480, 2560]⟩
abbrev S4480x160 : Shape := ⟨2, ![4480, 160]⟩
abbrev S5120x2240 : Shape := ⟨2, ![5120, 2240]⟩
abbrev S5120x140 : Shape := ⟨2, ![5120, 140]⟩
abbrev S160x4480 : Shape := ⟨2, ![160, 4480]⟩
abbrev S_ : Shape := ⟨0, ![]⟩
abbrev S140x5120 : Shape := ⟨2, ![140, 5120]⟩
abbrev S128x5120 : Shape := ⟨2, ![128, 5120]⟩
abbrev S2240x5120 : Shape := ⟨2, ![2240, 5120]⟩
abbrev S64x5120 : Shape := ⟨2, ![64, 5120]⟩
abbrev S64x4480 : Shape := ⟨2, ![64, 4480]⟩
abbrev S2x160x128 : Shape := ⟨3, ![2, 160, 128]⟩
abbrev S35 : Shape := ⟨1, ![35]⟩
abbrev S20 : Shape := ⟨1, ![20]⟩
abbrev S1 : Shape := ⟨1, ![1]⟩
abbrev S128x2560 : Shape := ⟨2, ![128, 2560]⟩
abbrev S2240x256 : Shape := ⟨2, ![2240, 256]⟩
abbrev S160x128 : Shape := ⟨2, ![160, 128]⟩
abbrev S1x160x128 : Shape := ⟨3, ![1, 160, 128]⟩
abbrev S2560x128 : Shape := ⟨2, ![2560, 128]⟩
abbrev S640x128 : Shape := ⟨2, ![640, 128]⟩
abbrev S640x8x128 : Shape := ⟨3, ![640, 8, 128]⟩
abbrev S640x1x128 : Shape := ⟨3, ![640, 1, 128]⟩
abbrev S5120x128 : Shape := ⟨2, ![5120, 128]⟩
abbrev S160x1x128 : Shape := ⟨3, ![160, 1, 128]⟩
abbrev S160x16x128 : Shape := ⟨3, ![160, 16, 128]⟩
abbrev S5120x256 : Shape := ⟨2, ![5120, 256]⟩
abbrev S128x256 : Shape := ⟨2, ![128, 256]⟩
abbrev S128x128 : Shape := ⟨2, ![128, 128]⟩
abbrev S64x128 : Shape := ⟨2, ![64, 128]⟩
abbrev S140x128 : Shape := ⟨2, ![140, 128]⟩
abbrev S1x140x128 : Shape := ⟨3, ![1, 140, 128]⟩
abbrev S2240x128 : Shape := ⟨2, ![2240, 128]⟩
abbrev S560x128 : Shape := ⟨2, ![560, 128]⟩
abbrev S560x8x128 : Shape := ⟨3, ![560, 8, 128]⟩
abbrev S560x1x128 : Shape := ⟨3, ![560, 1, 128]⟩
abbrev S4480x128 : Shape := ⟨2, ![4480, 128]⟩
abbrev S140x1x128 : Shape := ⟨3, ![140, 1, 128]⟩
abbrev S140x16x128 : Shape := ⟨3, ![140, 16, 128]⟩
abbrev S4480x256 : Shape := ⟨2, ![4480, 256]⟩
abbrev S128x4480 : Shape := ⟨2, ![128, 4480]⟩

abbrev nBuf : Space → Nat
  | .hbm => 403
  | .vmem => 11
  | .smem => 0
  | _ => 0

abbrev hbmTy0_0 (i : Nat) : BufTy := match i % 128 with
  | 0 => ⟨S128x1x5120, .bf16⟩
  | 1 => ⟨S4480x2560, .i8⟩
  | 2 => ⟨S4480x160, .i16⟩
  | 3 => ⟨S4480x2560, .i8⟩
  | 4 => ⟨S4480x160, .i16⟩
  | 5 => ⟨S5120x2240, .i8⟩
  | 6 => ⟨S5120x140, .i16⟩
  | 7 => ⟨S160x4480, .i16⟩
  | 8 => ⟨S160x4480, .i32⟩
  | 9 => ⟨S_, .i32⟩
  | 10 => ⟨S160x4480, .i32⟩
  | 11 => ⟨S160x4480, .i32⟩
  | 12 => ⟨S_, .i32⟩
  | 13 => ⟨S160x4480, .i32⟩
  | 14 => ⟨S160x4480, .i32⟩
  | 15 => ⟨S_, .i32⟩
  | 16 => ⟨S160x4480, .i32⟩
  | 17 => ⟨S160x4480, .i32⟩
  | 18 => ⟨S_, .i32⟩
  | 19 => ⟨S160x4480, .i32⟩
  | 20 => ⟨S160x4480, .i32⟩
  | 21 => ⟨S_, .i32⟩
  | 22 => ⟨S160x4480, .i32⟩
  | 23 => ⟨S160x4480, .i1⟩
  | 24 => ⟨S_, .i32⟩
  | 25 => ⟨S160x4480, .i32⟩
  | 26 => ⟨S160x4480, .i32⟩
  | 27 => ⟨S_, .i32⟩
  | 28 => ⟨S160x4480, .i32⟩
  | 29 => ⟨S160x4480, .i32⟩
  | 30 => ⟨S_, .i32⟩
  | 31 => ⟨S160x4480, .i32⟩
  | 32 => ⟨S160x4480, .i32⟩
  | 33 => ⟨S160x4480, .i32⟩
  | 34 => ⟨S_, .i32⟩
  | 35 => ⟨S160x4480, .i32⟩
  | 36 => ⟨S160x4480, .i32⟩
  | 37 => ⟨S_, .i32⟩
  | 38 => ⟨S160x4480, .i32⟩
  | 39 => ⟨S160x4480, .i32⟩
  | 40 => ⟨S160x4480, .i32⟩
  | 41 => ⟨S_, .i32⟩
  | 42 => ⟨S160x4480, .i32⟩
  | 43 => ⟨S160x4480, .i32⟩
  | 44 => ⟨S_, .i32⟩
  | 45 => ⟨S160x4480, .i32⟩
  | 46 => ⟨S160x4480, .i1⟩
  | 47 => ⟨S160x4480, .i32⟩
  | 48 => ⟨S_, .i32⟩
  | 49 => ⟨S160x4480, .i32⟩
  | 50 => ⟨S160x4480, .i32⟩
  | 51 => ⟨S_, .i32⟩
  | 52 => ⟨S160x4480, .i32⟩
  | 53 => ⟨S160x4480, .i32⟩
  | 54 => ⟨S_, .i32⟩
  | 55 => ⟨S160x4480, .i32⟩
  | 56 => ⟨S160x4480, .i32⟩
  | 57 => ⟨S160x4480, .i32⟩
  | 58 => ⟨S_, .i32⟩
  | 59 => ⟨S160x4480, .i32⟩
  | 60 => ⟨S160x4480, .i32⟩
  | 61 => ⟨S160x4480, .i32⟩
  | 62 => ⟨S_, .i32⟩
  | 63 => ⟨S_, .i32⟩
  | 64 => ⟨S160x4480, .i32⟩
  | 65 => ⟨S160x4480, .i32⟩
  | 66 => ⟨S160x4480, .i32⟩
  | 67 => ⟨S_, .i32⟩
  | 68 => ⟨S160x4480, .i32⟩
  | 69 => ⟨S160x4480, .i32⟩
  | 70 => ⟨S_, .i32⟩
  | 71 => ⟨S160x4480, .i32⟩
  | 72 => ⟨S160x4480, .i32⟩
  | 73 => ⟨S160x4480, .i32⟩
  | 74 => ⟨S_, .i32⟩
  | 75 => ⟨S160x4480, .i32⟩
  | 76 => ⟨S160x4480, .i32⟩
  | 77 => ⟨S_, .i32⟩
  | 78 => ⟨S160x4480, .i32⟩
  | 79 => ⟨S160x4480, .i32⟩
  | 80 => ⟨S_, .i32⟩
  | 81 => ⟨S160x4480, .i32⟩
  | 82 => ⟨S160x4480, .i32⟩
  | 83 => ⟨S_, .i32⟩
  | 84 => ⟨S160x4480, .i32⟩
  | 85 => ⟨S160x4480, .i32⟩
  | 86 => ⟨S160x4480, .i32⟩
  | 87 => ⟨S160x4480, .i32⟩
  | 88 => ⟨S160x4480, .i32⟩
  | 89 => ⟨S160x4480, .i32⟩
  | 90 => ⟨S_, .i32⟩
  | 91 => ⟨S160x4480, .i32⟩
  | 92 => ⟨S160x4480, .i1⟩
  | 93 => ⟨S_, .i32⟩
  | 94 => ⟨S160x4480, .i32⟩
  | 95 => ⟨S160x4480, .i1⟩
  | 96 => ⟨S_, .i32⟩
  | 97 => ⟨S_, .i32⟩
  | 98 => ⟨S160x4480, .i32⟩
  | 99 => ⟨S160x4480, .i32⟩
  | 100 => ⟨S160x4480, .i32⟩
  | 101 => ⟨S160x4480, .i32⟩
  | 102 => ⟨S160x4480, .i32⟩
  | 103 => ⟨S160x4480, .i32⟩
  | 104 => ⟨S160x4480, .i32⟩
  | 105 => ⟨S_, .i32⟩
  | 106 => ⟨S160x4480, .i32⟩
  | 107 => ⟨S160x4480, .i32⟩
  | 108 => ⟨S_, .i32⟩
  | 109 => ⟨S160x4480, .i32⟩
  | 110 => ⟨S160x4480, .i1⟩
  | 111 => ⟨S160x4480, .i32⟩
  | 112 => ⟨S_, .i32⟩
  | 113 => ⟨S160x4480, .i32⟩
  | 114 => ⟨S160x4480, .i32⟩
  | 115 => ⟨S_, .i32⟩
  | 116 => ⟨S160x4480, .i32⟩
  | 117 => ⟨S160x4480, .i32⟩
  | 118 => ⟨S_, .i32⟩
  | 119 => ⟨S160x4480, .i32⟩
  | 120 => ⟨S160x4480, .i32⟩
  | 121 => ⟨S160x4480, .i32⟩
  | 122 => ⟨S_, .i32⟩
  | 123 => ⟨S160x4480, .i32⟩
  | 124 => ⟨S160x4480, .i32⟩
  | 125 => ⟨S160x4480, .i32⟩
  | 126 => ⟨S_, .i32⟩
  | 127 => ⟨S_, .i32⟩
  | _ => ⟨S128x1x5120, .bf16⟩

abbrev hbmTy0_1 (i : Nat) : BufTy := match i % 128 with
  | 0 => ⟨S160x4480, .i32⟩
  | 1 => ⟨S160x4480, .i32⟩
  | 2 => ⟨S160x4480, .i32⟩
  | 3 => ⟨S_, .i32⟩
  | 4 => ⟨S_, .i32⟩
  | 5 => ⟨S160x4480, .i32⟩
  | 6 => ⟨S160x4480, .i32⟩
  | 7 => ⟨S_, .i32⟩
  | 8 => ⟨S160x4480, .i32⟩
  | 9 => ⟨S160x4480, .i32⟩
  | 10 => ⟨S160x4480, .i16⟩
  | 11 => ⟨S160x4480, .i32⟩
  | 12 => ⟨S_, .i32⟩
  | 13 => ⟨S160x4480, .i32⟩
  | 14 => ⟨S160x4480, .i32⟩
  | 15 => ⟨S_, .i32⟩
  | 16 => ⟨S160x4480, .i32⟩
  | 17 => ⟨S160x4480, .i32⟩
  | 18 => ⟨S_, .i32⟩
  | 19 => ⟨S160x4480, .i32⟩
  | 20 => ⟨S160x4480, .i32⟩
  | 21 => ⟨S_, .i32⟩
  | 22 => ⟨S160x4480, .i32⟩
  | 23 => ⟨S160x4480, .i32⟩
  | 24 => ⟨S_, .i32⟩
  | 25 => ⟨S160x4480, .i32⟩
  | 26 => ⟨S160x4480, .i1⟩
  | 27 => ⟨S_, .i32⟩
  | 28 => ⟨S160x4480, .i32⟩
  | 29 => ⟨S160x4480, .i32⟩
  | 30 => ⟨S_, .i32⟩
  | 31 => ⟨S160x4480, .i32⟩
  | 32 => ⟨S160x4480, .i32⟩
  | 33 => ⟨S_, .i32⟩
  | 34 => ⟨S160x4480, .i32⟩
  | 35 => ⟨S160x4480, .i32⟩
  | 36 => ⟨S160x4480, .i32⟩
  | 37 => ⟨S_, .i32⟩
  | 38 => ⟨S160x4480, .i32⟩
  | 39 => ⟨S160x4480, .i32⟩
  | 40 => ⟨S_, .i32⟩
  | 41 => ⟨S160x4480, .i32⟩
  | 42 => ⟨S160x4480, .i32⟩
  | 43 => ⟨S160x4480, .i32⟩
  | 44 => ⟨S_, .i32⟩
  | 45 => ⟨S160x4480, .i32⟩
  | 46 => ⟨S160x4480, .i32⟩
  | 47 => ⟨S_, .i32⟩
  | 48 => ⟨S160x4480, .i32⟩
  | 49 => ⟨S160x4480, .i1⟩
  | 50 => ⟨S160x4480, .i32⟩
  | 51 => ⟨S_, .i32⟩
  | 52 => ⟨S160x4480, .i32⟩
  | 53 => ⟨S160x4480, .i32⟩
  | 54 => ⟨S_, .i32⟩
  | 55 => ⟨S160x4480, .i32⟩
  | 56 => ⟨S160x4480, .i32⟩
  | 57 => ⟨S_, .i32⟩
  | 58 => ⟨S160x4480, .i32⟩
  | 59 => ⟨S160x4480, .i32⟩
  | 60 => ⟨S160x4480, .i32⟩
  | 61 => ⟨S_, .i32⟩
  | 62 => ⟨S160x4480, .i32⟩
  | 63 => ⟨S160x4480, .i32⟩
  | 64 => ⟨S160x4480, .i32⟩
  | 65 => ⟨S_, .i32⟩
  | 66 => ⟨S_, .i32⟩
  | 67 => ⟨S160x4480, .i32⟩
  | 68 => ⟨S160x4480, .i32⟩
  | 69 => ⟨S160x4480, .i32⟩
  | 70 => ⟨S_, .i32⟩
  | 71 => ⟨S160x4480, .i32⟩
  | 72 => ⟨S160x4480, .i32⟩
  | 73 => ⟨S_, .i32⟩
  | 74 => ⟨S160x4480, .i32⟩
  | 75 => ⟨S160x4480, .i32⟩
  | 76 => ⟨S160x4480, .i32⟩
  | 77 => ⟨S_, .i32⟩
  | 78 => ⟨S160x4480, .i32⟩
  | 79 => ⟨S160x4480, .i32⟩
  | 80 => ⟨S_, .i32⟩
  | 81 => ⟨S160x4480, .i32⟩
  | 82 => ⟨S160x4480, .i32⟩
  | 83 => ⟨S_, .i32⟩
  | 84 => ⟨S160x4480, .i32⟩
  | 85 => ⟨S160x4480, .i32⟩
  | 86 => ⟨S_, .i32⟩
  | 87 => ⟨S160x4480, .i32⟩
  | 88 => ⟨S160x4480, .i32⟩
  | 89 => ⟨S160x4480, .i32⟩
  | 90 => ⟨S160x4480, .i32⟩
  | 91 => ⟨S160x4480, .i32⟩
  | 92 => ⟨S160x4480, .i32⟩
  | 93 => ⟨S_, .i32⟩
  | 94 => ⟨S160x4480, .i32⟩
  | 95 => ⟨S160x4480, .i1⟩
  | 96 => ⟨S_, .i32⟩
  | 97 => ⟨S160x4480, .i32⟩
  | 98 => ⟨S160x4480, .i1⟩
  | 99 => ⟨S_, .i32⟩
  | 100 => ⟨S_, .i32⟩
  | 101 => ⟨S160x4480, .i32⟩
  | 102 => ⟨S160x4480, .i32⟩
  | 103 => ⟨S160x4480, .i32⟩
  | 104 => ⟨S160x4480, .i32⟩
  | 105 => ⟨S160x4480, .i32⟩
  | 106 => ⟨S160x4480, .i32⟩
  | 107 => ⟨S160x4480, .i32⟩
  | 108 => ⟨S_, .i32⟩
  | 109 => ⟨S160x4480, .i32⟩
  | 110 => ⟨S160x4480, .i32⟩
  | 111 => ⟨S_, .i32⟩
  | 112 => ⟨S160x4480, .i32⟩
  | 113 => ⟨S160x4480, .i1⟩
  | 114 => ⟨S160x4480, .i32⟩
  | 115 => ⟨S_, .i32⟩
  | 116 => ⟨S160x4480, .i32⟩
  | 117 => ⟨S160x4480, .i32⟩
  | 118 => ⟨S_, .i32⟩
  | 119 => ⟨S160x4480, .i32⟩
  | 120 => ⟨S160x4480, .i32⟩
  | 121 => ⟨S_, .i32⟩
  | 122 => ⟨S160x4480, .i32⟩
  | 123 => ⟨S160x4480, .i32⟩
  | 124 => ⟨S160x4480, .i32⟩
  | 125 => ⟨S_, .i32⟩
  | 126 => ⟨S160x4480, .i32⟩
  | 127 => ⟨S160x4480, .i32⟩
  | _ => ⟨S128x1x5120, .bf16⟩

abbrev hbmTy0_2 (i : Nat) : BufTy := match i % 128 with
  | 0 => ⟨S160x4480, .i32⟩
  | 1 => ⟨S_, .i32⟩
  | 2 => ⟨S_, .i32⟩
  | 3 => ⟨S160x4480, .i32⟩
  | 4 => ⟨S160x4480, .i32⟩
  | 5 => ⟨S160x4480, .i32⟩
  | 6 => ⟨S_, .i32⟩
  | 7 => ⟨S_, .i32⟩
  | 8 => ⟨S160x4480, .i32⟩
  | 9 => ⟨S160x4480, .i32⟩
  | 10 => ⟨S_, .i32⟩
  | 11 => ⟨S160x4480, .i32⟩
  | 12 => ⟨S160x4480, .i32⟩
  | 13 => ⟨S140x5120, .i16⟩
  | 14 => ⟨S140x5120, .i32⟩
  | 15 => ⟨S_, .i32⟩
  | 16 => ⟨S140x5120, .i32⟩
  | 17 => ⟨S140x5120, .i32⟩
  | 18 => ⟨S_, .i32⟩
  | 19 => ⟨S140x5120, .i32⟩
  | 20 => ⟨S140x5120, .i32⟩
  | 21 => ⟨S_, .i32⟩
  | 22 => ⟨S140x5120, .i32⟩
  | 23 => ⟨S140x5120, .i32⟩
  | 24 => ⟨S_, .i32⟩
  | 25 => ⟨S140x5120, .i32⟩
  | 26 => ⟨S140x5120, .i32⟩
  | 27 => ⟨S_, .i32⟩
  | 28 => ⟨S140x5120, .i32⟩
  | 29 => ⟨S140x5120, .i1⟩
  | 30 => ⟨S_, .i32⟩
  | 31 => ⟨S140x5120, .i32⟩
  | 32 => ⟨S140x5120, .i32⟩
  | 33 => ⟨S_, .i32⟩
  | 34 => ⟨S140x5120, .i32⟩
  | 35 => ⟨S140x5120, .i32⟩
  | 36 => ⟨S_, .i32⟩
  | 37 => ⟨S140x5120, .i32⟩
  | 38 => ⟨S140x5120, .i32⟩
  | 39 => ⟨S140x5120, .i32⟩
  | 40 => ⟨S_, .i32⟩
  | 41 => ⟨S140x5120, .i32⟩
  | 42 => ⟨S140x5120, .i32⟩
  | 43 => ⟨S_, .i32⟩
  | 44 => ⟨S140x5120, .i32⟩
  | 45 => ⟨S140x5120, .i32⟩
  | 46 => ⟨S140x5120, .i32⟩
  | 47 => ⟨S_, .i32⟩
  | 48 => ⟨S140x5120, .i32⟩
  | 49 => ⟨S140x5120, .i32⟩
  | 50 => ⟨S_, .i32⟩
  | 51 => ⟨S140x5120, .i32⟩
  | 52 => ⟨S140x5120, .i1⟩
  | 53 => ⟨S140x5120, .i32⟩
  | 54 => ⟨S_, .i32⟩
  | 55 => ⟨S140x5120, .i32⟩
  | 56 => ⟨S140x5120, .i32⟩
  | 57 => ⟨S_, .i32⟩
  | 58 => ⟨S140x5120, .i32⟩
  | 59 => ⟨S140x5120, .i32⟩
  | 60 => ⟨S_, .i32⟩
  | 61 => ⟨S140x5120, .i32⟩
  | 62 => ⟨S140x5120, .i32⟩
  | 63 => ⟨S140x5120, .i32⟩
  | 64 => ⟨S_, .i32⟩
  | 65 => ⟨S140x5120, .i32⟩
  | 66 => ⟨S140x5120, .i32⟩
  | 67 => ⟨S140x5120, .i32⟩
  | 68 => ⟨S_, .i32⟩
  | 69 => ⟨S_, .i32⟩
  | 70 => ⟨S140x5120, .i32⟩
  | 71 => ⟨S140x5120, .i32⟩
  | 72 => ⟨S140x5120, .i32⟩
  | 73 => ⟨S_, .i32⟩
  | 74 => ⟨S140x5120, .i32⟩
  | 75 => ⟨S140x5120, .i32⟩
  | 76 => ⟨S_, .i32⟩
  | 77 => ⟨S140x5120, .i32⟩
  | 78 => ⟨S140x5120, .i32⟩
  | 79 => ⟨S140x5120, .i32⟩
  | 80 => ⟨S_, .i32⟩
  | 81 => ⟨S140x5120, .i32⟩
  | 82 => ⟨S140x5120, .i32⟩
  | 83 => ⟨S_, .i32⟩
  | 84 => ⟨S140x5120, .i32⟩
  | 85 => ⟨S140x5120, .i32⟩
  | 86 => ⟨S_, .i32⟩
  | 87 => ⟨S140x5120, .i32⟩
  | 88 => ⟨S140x5120, .i32⟩
  | 89 => ⟨S_, .i32⟩
  | 90 => ⟨S140x5120, .i32⟩
  | 91 => ⟨S140x5120, .i32⟩
  | 92 => ⟨S140x5120, .i32⟩
  | 93 => ⟨S140x5120, .i32⟩
  | 94 => ⟨S140x5120, .i32⟩
  | 95 => ⟨S140x5120, .i32⟩
  | 96 => ⟨S_, .i32⟩
  | 97 => ⟨S140x5120, .i32⟩
  | 98 => ⟨S140x5120, .i1⟩
  | 99 => ⟨S_, .i32⟩
  | 100 => ⟨S140x5120, .i32⟩
  | 101 => ⟨S140x5120, .i1⟩
  | 102 => ⟨S_, .i32⟩
  | 103 => ⟨S_, .i32⟩
  | 104 => ⟨S140x5120, .i32⟩
  | 105 => ⟨S140x5120, .i32⟩
  | 106 => ⟨S140x5120, .i32⟩
  | 107 => ⟨S140x5120, .i32⟩
  | 108 => ⟨S140x5120, .i32⟩
  | 109 => ⟨S140x5120, .i32⟩
  | 110 => ⟨S140x5120, .i32⟩
  | 111 => ⟨S_, .i32⟩
  | 112 => ⟨S140x5120, .i32⟩
  | 113 => ⟨S140x5120, .i32⟩
  | 114 => ⟨S_, .i32⟩
  | 115 => ⟨S140x5120, .i32⟩
  | 116 => ⟨S140x5120, .i1⟩
  | 117 => ⟨S140x5120, .i32⟩
  | 118 => ⟨S_, .i32⟩
  | 119 => ⟨S140x5120, .i32⟩
  | 120 => ⟨S140x5120, .i32⟩
  | 121 => ⟨S_, .i32⟩
  | 122 => ⟨S140x5120, .i32⟩
  | 123 => ⟨S140x5120, .i32⟩
  | 124 => ⟨S_, .i32⟩
  | 125 => ⟨S140x5120, .i32⟩
  | 126 => ⟨S140x5120, .i32⟩
  | 127 => ⟨S140x5120, .i32⟩
  | _ => ⟨S128x1x5120, .bf16⟩

abbrev hbmTy0_3 (i : Nat) : BufTy := match i % 128 with
  | 0 => ⟨S_, .i32⟩
  | 1 => ⟨S140x5120, .i32⟩
  | 2 => ⟨S140x5120, .i32⟩
  | 3 => ⟨S140x5120, .i32⟩
  | 4 => ⟨S_, .i32⟩
  | 5 => ⟨S_, .i32⟩
  | 6 => ⟨S140x5120, .i32⟩
  | 7 => ⟨S140x5120, .i32⟩
  | 8 => ⟨S140x5120, .i32⟩
  | 9 => ⟨S_, .i32⟩
  | 10 => ⟨S_, .i32⟩
  | 11 => ⟨S140x5120, .i32⟩
  | 12 => ⟨S140x5120, .i32⟩
  | 13 => ⟨S_, .i32⟩
  | 14 => ⟨S140x5120, .i32⟩
  | 15 => ⟨S140x5120, .i32⟩
  | 16 => ⟨S128x5120, .bf16⟩
  | 17 => ⟨S2240x5120, .i8⟩
  | 18 => ⟨S128x5120, .bf16⟩
  | _ => ⟨S128x1x5120, .bf16⟩

abbrev hbmTy (i : Nat) : BufTy := match i / 128 with
  | 0 => hbmTy0_0 i
  | 1 => hbmTy0_1 i
  | 2 => hbmTy0_2 i
  | 3 => hbmTy0_3 i
  | _ => ⟨S128x1x5120, .bf16⟩

abbrev bufTy : (tb : Table) → Fin (tcTables nBuf tb) → BufTy
  | .hbm, ⟨i, _⟩ => hbmTy i
  | .local _ .vmem, ⟨0, _⟩ => ⟨S160x4480, .i32⟩
  | .local _ .vmem, ⟨1, _⟩ => ⟨S160x4480, .i32⟩
  | .local _ .vmem, ⟨2, _⟩ => ⟨S140x5120, .i32⟩
  | .local _ .vmem, ⟨3, _⟩ => ⟨S128x5120, .bf16⟩
  | .local _ .vmem, ⟨4, _⟩ => ⟨S4480x2560, .i8⟩
  | .local _ .vmem, ⟨5, _⟩ => ⟨S4480x2560, .i8⟩
  | .local _ .vmem, ⟨6, _⟩ => ⟨S2240x5120, .i8⟩
  | .local _ .vmem, ⟨7, _⟩ => ⟨S64x5120, .i32⟩
  | .local _ .vmem, ⟨8, _⟩ => ⟨S64x4480, .i32⟩
  | .local _ .vmem, ⟨9, _⟩ => ⟨S2x160x128, .i32⟩
  | .local _ .vmem, ⟨10, _⟩ => ⟨S2x160x128, .i32⟩
  | _, _ => ⟨S128x1x5120, .bf16⟩

abbrev bufScoped : (cs : CoreSpace) → Fin (nBuf (.core cs)) → Bool
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_v25 : Ref sig .tc := ⟨.hbm, 43, rfl⟩
abbrev main_c_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_11 : Ref sig .tc := ⟨.hbm, 48, rfl⟩
abbrev main_v29 : Ref sig .tc := ⟨.hbm, 49, rfl⟩
abbrev main_v30 : Ref sig .tc := ⟨.hbm, 50, rfl⟩
abbrev main_c_12 : Ref sig .tc := ⟨.hbm, 51, rfl⟩
abbrev main_v31 : Ref sig .tc := ⟨.hbm, 52, rfl⟩
abbrev main_v32 : Ref sig .tc := ⟨.hbm, 53, rfl⟩
abbrev main_c_13 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_14 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_15 : Ref sig .tc := ⟨.hbm, 62, rfl⟩
abbrev main_call1_v0 : Ref sig .tc := ⟨.hbm, 63, rfl⟩
abbrev main_call1_v1 : Ref sig .tc := ⟨.hbm, 64, rfl⟩
abbrev main_v39 : Ref sig .tc := ⟨.hbm, 65, rfl⟩
abbrev main_v40 : Ref sig .tc := ⟨.hbm, 66, rfl⟩
abbrev main_c_16 : Ref sig .tc := ⟨.hbm, 67, rfl⟩
abbrev main_v41 : Ref sig .tc := ⟨.hbm, 68, rfl⟩
abbrev main_v42 : Ref sig .tc := ⟨.hbm, 69, rfl⟩
abbrev main_c_17 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_18 : Ref sig .tc := ⟨.hbm, 74, rfl⟩
abbrev main_v46 : Ref sig .tc := ⟨.hbm, 75, rfl⟩
abbrev main_v47 : Ref sig .tc := ⟨.hbm, 76, rfl⟩
abbrev main_c_19 : Ref sig .tc := ⟨.hbm, 77, rfl⟩
abbrev main_v48 : Ref sig .tc := ⟨.hbm, 78, rfl⟩
abbrev main_v49 : Ref sig .tc := ⟨.hbm, 79, rfl⟩
abbrev main_c_20 : Ref sig .tc := ⟨.hbm, 80, rfl⟩
abbrev main_v50 : Ref sig .tc := ⟨.hbm, 81, rfl⟩
abbrev main_v51 : Ref sig .tc := ⟨.hbm, 82, rfl⟩
abbrev main_c_21 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_22 : Ref sig .tc := ⟨.hbm, 90, rfl⟩
abbrev main_v58 : Ref sig .tc := ⟨.hbm, 91, rfl⟩
abbrev main_v59 : Ref sig .tc := ⟨.hbm, 92, rfl⟩
abbrev main_c_23 : Ref sig .tc := ⟨.hbm, 93, rfl⟩
abbrev main_v60 : Ref sig .tc := ⟨.hbm, 94, rfl⟩
abbrev main_v61 : Ref sig .tc := ⟨.hbm, 95, rfl⟩
abbrev main_c_24 : Ref sig .tc := ⟨.hbm, 96, rfl⟩
abbrev main_c_25 : Ref sig .tc := ⟨.hbm, 97, rfl⟩
abbrev main_call2_v0 : Ref sig .tc := ⟨.hbm, 98, rfl⟩
abbrev main_call2_v1 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_26 : Ref sig .tc := ⟨.hbm, 105, rfl⟩
abbrev main_v67 : Ref sig .tc := ⟨.hbm, 106, rfl⟩
abbrev main_v68 : Ref sig .tc := ⟨.hbm, 107, rfl⟩
abbrev main_c_27 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_28 : Ref sig .tc := ⟨.hbm, 112, rfl⟩
abbrev main_v72 : Ref sig .tc := ⟨.hbm, 113, rfl⟩
abbrev main_v73 : Ref sig .tc := ⟨.hbm, 114, rfl⟩
abbrev main_c_29 : Ref sig .tc := ⟨.hbm, 115, rfl⟩
abbrev main_v74 : Ref sig .tc := ⟨.hbm, 116, rfl⟩
abbrev main_v75 : Ref sig .tc := ⟨.hbm, 117, rfl⟩
abbrev main_c_30 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_31 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_32 : Ref sig .tc := ⟨.hbm, 126, rfl⟩
abbrev main_call3_v0 : Ref sig .tc := ⟨.hbm, 127, rfl⟩
abbrev main_call3_v1 : Ref sig .tc := ⟨.hbm, 128, rfl⟩
abbrev main_v82 : Ref sig .tc := ⟨.hbm, 129, rfl⟩
abbrev main_v83 : Ref sig .tc := ⟨.hbm, 130, rfl⟩
abbrev main_c_33 : Ref sig .tc := ⟨.hbm, 131, rfl⟩
abbrev main_call4_v0 : Ref sig .tc := ⟨.hbm, 132, rfl⟩
abbrev main_call4_v1 : Ref sig .tc := ⟨.hbm, 133, rfl⟩
abbrev main_v84 : Ref sig .tc := ⟨.hbm, 134, rfl⟩
abbrev main_c_34 : Ref sig .tc := ⟨.hbm, 135, rfl⟩
abbrev main_v85 : Ref sig .tc := ⟨.hbm, 136, rfl⟩
abbrev main_v86 : Ref sig .tc := ⟨.hbm, 137, rfl⟩
abbrev main_v88 : Ref sig .tc := ⟨.hbm, 138, rfl⟩
abbrev main_v89 : Ref sig .tc := ⟨.hbm, 139, rfl⟩
abbrev main_c_35 : Ref sig .tc := ⟨.hbm, 140, rfl⟩
abbrev main_v90 : Ref sig .tc := ⟨.hbm, 141, rfl⟩
abbrev main_v91 : Ref sig .tc := ⟨.hbm, 142, rfl⟩
abbrev main_c_36 : Ref sig .tc := ⟨.hbm, 143, rfl⟩
abbrev main_v92 : Ref sig .tc := ⟨.hbm, 144, rfl⟩
abbrev main_v93 : Ref sig .tc := ⟨.hbm, 145, rfl⟩
abbrev main_c_37 : Ref sig .tc := ⟨.hbm, 146, rfl⟩
abbrev main_v94 : Ref sig .tc := ⟨.hbm, 147, rfl⟩
abbrev main_v95 : Ref sig .tc := ⟨.hbm, 148, rfl⟩
abbrev main_c_38 : Ref sig .tc := ⟨.hbm, 149, rfl⟩
abbrev main_v96 : Ref sig .tc := ⟨.hbm, 150, rfl⟩
abbrev main_v97 : Ref sig .tc := ⟨.hbm, 151, rfl⟩
abbrev main_c_39 : Ref sig .tc := ⟨.hbm, 152, rfl⟩
abbrev main_v98 : Ref sig .tc := ⟨.hbm, 153, rfl⟩
abbrev main_v99 : Ref sig .tc := ⟨.hbm, 154, rfl⟩
abbrev main_c_40 : Ref sig .tc := ⟨.hbm, 155, rfl⟩
abbrev main_v100 : Ref sig .tc := ⟨.hbm, 156, rfl⟩
abbrev main_v101 : Ref sig .tc := ⟨.hbm, 157, rfl⟩
abbrev main_c_41 : Ref sig .tc := ⟨.hbm, 158, rfl⟩
abbrev main_v102 : Ref sig .tc := ⟨.hbm, 159, rfl⟩
abbrev main_v103 : Ref sig .tc := ⟨.hbm, 160, rfl⟩
abbrev main_c_42 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_c_43 : Ref sig .tc := ⟨.hbm, 165, rfl⟩
abbrev main_v107 : Ref sig .tc := ⟨.hbm, 166, rfl⟩
abbrev main_v108 : Ref sig .tc := ⟨.hbm, 167, rfl⟩
abbrev main_c_44 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_45 : Ref sig .tc := ⟨.hbm, 172, rfl⟩
abbrev main_v112 : Ref sig .tc := ⟨.hbm, 173, rfl⟩
abbrev main_v113 : Ref sig .tc := ⟨.hbm, 174, rfl⟩
abbrev main_c_46 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_47 : Ref sig .tc := ⟨.hbm, 179, rfl⟩
abbrev main_v117 : Ref sig .tc := ⟨.hbm, 180, rfl⟩
abbrev main_v118 : Ref sig .tc := ⟨.hbm, 181, rfl⟩
abbrev main_c_48 : Ref sig .tc := ⟨.hbm, 182, rfl⟩
abbrev main_v119 : Ref sig .tc := ⟨.hbm, 183, rfl⟩
abbrev main_v120 : Ref sig .tc := ⟨.hbm, 184, rfl⟩
abbrev main_c_49 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_c_50 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_c_51 : Ref sig .tc := ⟨.hbm, 193, rfl⟩
abbrev main_call6_v0 : Ref sig .tc := ⟨.hbm, 194, rfl⟩
abbrev main_call6_v1 : Ref sig .tc := ⟨.hbm, 195, rfl⟩
abbrev main_v127 : Ref sig .tc := ⟨.hbm, 196, rfl⟩
abbrev main_v128 : Ref sig .tc := ⟨.hbm, 197, rfl⟩
abbrev main_c_52 : Ref sig .tc := ⟨.hbm, 198, rfl⟩
abbrev main_v129 : Ref sig .tc := ⟨.hbm, 199, rfl⟩
abbrev main_v130 : Ref sig .tc := ⟨.hbm, 200, rfl⟩
abbrev main_c_53 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_c_54 : Ref sig .tc := ⟨.hbm, 205, rfl⟩
abbrev main_v134 : Ref sig .tc := ⟨.hbm, 206, rfl⟩
abbrev main_v135 : Ref sig .tc := ⟨.hbm, 207, rfl⟩
abbrev main_c_55 : Ref sig .tc := ⟨.hbm, 208, rfl⟩
abbrev main_v136 : Ref sig .tc := ⟨.hbm, 209, rfl⟩
abbrev main_v137 : Ref sig .tc := ⟨.hbm, 210, rfl⟩
abbrev main_c_56 : Ref sig .tc := ⟨.hbm, 211, rfl⟩
abbrev main_v138 : Ref sig .tc := ⟨.hbm, 212, rfl⟩
abbrev main_v139 : Ref sig .tc := ⟨.hbm, 213, rfl⟩
abbrev main_c_57 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_58 : Ref sig .tc := ⟨.hbm, 221, rfl⟩
abbrev main_v146 : Ref sig .tc := ⟨.hbm, 222, rfl⟩
abbrev main_v147 : Ref sig .tc := ⟨.hbm, 223, rfl⟩
abbrev main_c_59 : Ref sig .tc := ⟨.hbm, 224, rfl⟩
abbrev main_v148 : Ref sig .tc := ⟨.hbm, 225, rfl⟩
abbrev main_v149 : Ref sig .tc := ⟨.hbm, 226, rfl⟩
abbrev main_c_60 : Ref sig .tc := ⟨.hbm, 227, rfl⟩
abbrev main_c_61 : Ref sig .tc := ⟨.hbm, 228, rfl⟩
abbrev main_call7_v0 : Ref sig .tc := ⟨.hbm, 229, rfl⟩
abbrev main_call7_v1 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_c_62 : Ref sig .tc := ⟨.hbm, 236, rfl⟩
abbrev main_v155 : Ref sig .tc := ⟨.hbm, 237, rfl⟩
abbrev main_v156 : Ref sig .tc := ⟨.hbm, 238, rfl⟩
abbrev main_c_63 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_c_64 : Ref sig .tc := ⟨.hbm, 243, rfl⟩
abbrev main_v160 : Ref sig .tc := ⟨.hbm, 244, rfl⟩
abbrev main_v161 : Ref sig .tc := ⟨.hbm, 245, rfl⟩
abbrev main_c_65 : Ref sig .tc := ⟨.hbm, 246, rfl⟩
abbrev main_v162 : Ref sig .tc := ⟨.hbm, 247, rfl⟩
abbrev main_v163 : Ref sig .tc := ⟨.hbm, 248, rfl⟩
abbrev main_c_66 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_c_67 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_c_68 : Ref sig .tc := ⟨.hbm, 257, rfl⟩
abbrev main_call8_v0 : Ref sig .tc := ⟨.hbm, 258, rfl⟩
abbrev main_call8_v1 : Ref sig .tc := ⟨.hbm, 259, rfl⟩
abbrev main_v170 : Ref sig .tc := ⟨.hbm, 260, rfl⟩
abbrev main_v171 : Ref sig .tc := ⟨.hbm, 261, rfl⟩
abbrev main_c_69 : Ref sig .tc := ⟨.hbm, 262, rfl⟩
abbrev main_call9_v0 : Ref sig .tc := ⟨.hbm, 263, rfl⟩
abbrev main_call9_v1 : Ref sig .tc := ⟨.hbm, 264, rfl⟩
abbrev main_v172 : Ref sig .tc := ⟨.hbm, 265, rfl⟩
abbrev main_c_70 : Ref sig .tc := ⟨.hbm, 266, rfl⟩
abbrev main_v173 : Ref sig .tc := ⟨.hbm, 267, rfl⟩
abbrev main_v174 : Ref sig .tc := ⟨.hbm, 268, rfl⟩
abbrev main_v176 : Ref sig .tc := ⟨.hbm, 269, rfl⟩
abbrev main_v177 : Ref sig .tc := ⟨.hbm, 270, rfl⟩
abbrev main_c_71 : Ref sig .tc := ⟨.hbm, 271, rfl⟩
abbrev main_v178 : Ref sig .tc := ⟨.hbm, 272, rfl⟩
abbrev main_v179 : Ref sig .tc := ⟨.hbm, 273, rfl⟩
abbrev main_c_72 : Ref sig .tc := ⟨.hbm, 274, rfl⟩
abbrev main_v180 : Ref sig .tc := ⟨.hbm, 275, rfl⟩
abbrev main_v181 : Ref sig .tc := ⟨.hbm, 276, rfl⟩
abbrev main_c_73 : Ref sig .tc := ⟨.hbm, 277, rfl⟩
abbrev main_v182 : Ref sig .tc := ⟨.hbm, 278, rfl⟩
abbrev main_v183 : Ref sig .tc := ⟨.hbm, 279, rfl⟩
abbrev main_c_74 : Ref sig .tc := ⟨.hbm, 280, rfl⟩
abbrev main_v184 : Ref sig .tc := ⟨.hbm, 281, rfl⟩
abbrev main_v185 : Ref sig .tc := ⟨.hbm, 282, rfl⟩
abbrev main_c_75 : Ref sig .tc := ⟨.hbm, 283, rfl⟩
abbrev main_v186 : Ref sig .tc := ⟨.hbm, 284, rfl⟩
abbrev main_v187 : Ref sig .tc := ⟨.hbm, 285, rfl⟩
abbrev main_c_76 : Ref sig .tc := ⟨.hbm, 286, rfl⟩
abbrev main_v188 : Ref sig .tc := ⟨.hbm, 287, rfl⟩
abbrev main_v189 : Ref sig .tc := ⟨.hbm, 288, rfl⟩
abbrev main_c_77 : Ref sig .tc := ⟨.hbm, 289, rfl⟩
abbrev main_v190 : Ref sig .tc := ⟨.hbm, 290, rfl⟩
abbrev main_v191 : Ref sig .tc := ⟨.hbm, 291, rfl⟩
abbrev main_c_78 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_c_79 : Ref sig .tc := ⟨.hbm, 296, rfl⟩
abbrev main_v195 : Ref sig .tc := ⟨.hbm, 297, rfl⟩
abbrev main_v196 : Ref sig .tc := ⟨.hbm, 298, rfl⟩
abbrev main_c_80 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_c_81 : Ref sig .tc := ⟨.hbm, 303, rfl⟩
abbrev main_v200 : Ref sig .tc := ⟨.hbm, 304, rfl⟩
abbrev main_v201 : Ref sig .tc := ⟨.hbm, 305, rfl⟩
abbrev main_c_82 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_c_83 : Ref sig .tc := ⟨.hbm, 310, rfl⟩
abbrev main_v205 : Ref sig .tc := ⟨.hbm, 311, rfl⟩
abbrev main_v206 : Ref sig .tc := ⟨.hbm, 312, rfl⟩
abbrev main_c_84 : Ref sig .tc := ⟨.hbm, 313, rfl⟩
abbrev main_v207 : Ref sig .tc := ⟨.hbm, 314, rfl⟩
abbrev main_v208 : Ref sig .tc := ⟨.hbm, 315, rfl⟩
abbrev main_c_85 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_c_86 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_c_87 : Ref sig .tc := ⟨.hbm, 324, rfl⟩
abbrev main_call11_v0 : Ref sig .tc := ⟨.hbm, 325, rfl⟩
abbrev main_call11_v1 : Ref sig .tc := ⟨.hbm, 326, rfl⟩
abbrev main_v215 : Ref sig .tc := ⟨.hbm, 327, rfl⟩
abbrev main_v216 : Ref sig .tc := ⟨.hbm, 328, rfl⟩
abbrev main_c_88 : Ref sig .tc := ⟨.hbm, 329, rfl⟩
abbrev main_v217 : Ref sig .tc := ⟨.hbm, 330, rfl⟩
abbrev main_v218 : Ref sig .tc := ⟨.hbm, 331, rfl⟩
abbrev main_c_89 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_c_90 : Ref sig .tc := ⟨.hbm, 336, rfl⟩
abbrev main_v222 : Ref sig .tc := ⟨.hbm, 337, rfl⟩
abbrev main_v223 : Ref sig .tc := ⟨.hbm, 338, rfl⟩
abbrev main_c_91 : Ref sig .tc := ⟨.hbm, 339, rfl⟩
abbrev main_v224 : Ref sig .tc := ⟨.hbm, 340, rfl⟩
abbrev main_v225 : Ref sig .tc := ⟨.hbm, 341, rfl⟩
abbrev main_c_92 : Ref sig .tc := ⟨.hbm, 342, rfl⟩
abbrev main_v226 : Ref sig .tc := ⟨.hbm, 343, rfl⟩
abbrev main_v227 : Ref sig .tc := ⟨.hbm, 344, rfl⟩
abbrev main_c_93 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_c_94 : Ref sig .tc := ⟨.hbm, 352, rfl⟩
abbrev main_v234 : Ref sig .tc := ⟨.hbm, 353, rfl⟩
abbrev main_v235 : Ref sig .tc := ⟨.hbm, 354, rfl⟩
abbrev main_c_95 : Ref sig .tc := ⟨.hbm, 355, rfl⟩
abbrev main_v236 : Ref sig .tc := ⟨.hbm, 356, rfl⟩
abbrev main_v237 : Ref sig .tc := ⟨.hbm, 357, rfl⟩
abbrev main_c_96 : Ref sig .tc := ⟨.hbm, 358, rfl⟩
abbrev main_c_97 : Ref sig .tc := ⟨.hbm, 359, rfl⟩
abbrev main_call12_v0 : Ref sig .tc := ⟨.hbm, 360, rfl⟩
abbrev main_call12_v1 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_c_98 : Ref sig .tc := ⟨.hbm, 367, rfl⟩
abbrev main_v243 : Ref sig .tc := ⟨.hbm, 368, rfl⟩
abbrev main_v244 : Ref sig .tc := ⟨.hbm, 369, rfl⟩
abbrev main_c_99 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_c_100 : Ref sig .tc := ⟨.hbm, 374, rfl⟩
abbrev main_v248 : Ref sig .tc := ⟨.hbm, 375, rfl⟩
abbrev main_v249 : Ref sig .tc := ⟨.hbm, 376, rfl⟩
abbrev main_c_101 : Ref sig .tc := ⟨.hbm, 377, rfl⟩
abbrev main_v250 : Ref sig .tc := ⟨.hbm, 378, rfl⟩
abbrev main_v251 : Ref sig .tc := ⟨.hbm, 379, rfl⟩
abbrev main_c_102 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_c_103 : Ref sig .tc := ⟨.hbm, 384, rfl⟩
abbrev main_v255 : Ref sig .tc := ⟨.hbm, 385, rfl⟩
abbrev main_v256 : Ref sig .tc := ⟨.hbm, 386, rfl⟩
abbrev main_v257 : Ref sig .tc := ⟨.hbm, 387, rfl⟩
abbrev main_c_104 : Ref sig .tc := ⟨.hbm, 388, rfl⟩
abbrev main_call13_v0 : Ref sig .tc := ⟨.hbm, 389, rfl⟩
abbrev main_call13_v1 : Ref sig .tc := ⟨.hbm, 390, rfl⟩
abbrev main_v258 : Ref sig .tc := ⟨.hbm, 391, rfl⟩
abbrev main_v259 : Ref sig .tc := ⟨.hbm, 392, rfl⟩
abbrev main_c_105 : Ref sig .tc := ⟨.hbm, 393, rfl⟩
abbrev main_call14_v0 : Ref sig .tc := ⟨.hbm, 394, rfl⟩
abbrev main_call14_v1 : Ref sig .tc := ⟨.hbm, 395, rfl⟩
abbrev main_v260 : Ref sig .tc := ⟨.hbm, 396, rfl⟩
abbrev main_c_106 : Ref sig .tc := ⟨.hbm, 397, rfl⟩
abbrev main_v261 : Ref sig .tc := ⟨.hbm, 398, rfl⟩
abbrev main_v262 : Ref sig .tc := ⟨.hbm, 399, rfl⟩
abbrev main_v264 : Ref sig .tc := ⟨.hbm, 400, rfl⟩
abbrev main_v265 : Ref sig .tc := ⟨.hbm, 401, rfl⟩
abbrev main_v266 : Ref sig .tc := ⟨.hbm, 402, rfl⟩
abbrev main_v87 : Ref sig .tc := ⟨.vmem, 0, rfl⟩
abbrev main_v175 : Ref sig .tc := ⟨.vmem, 1, rfl⟩
abbrev main_v263 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c35_i32 : BitVec 32 := 35#32
  let v0 : BitVec 32 := Scalar.addi c0_i32 c35_i32
  let c1_i32 : BitVec 32 := 1#32
  ⟨c0_i32, v0, c1_i32⟩
def k0_mult1 (k0_t1 : Fin k0_t1_loop.trips) : BitVec 32 :=
  let c0_i32_16 : BitVec 32 := 0#32
  let c0_i32 : BitVec 32 := 0#32
  let c1_i32 : BitVec 32 := 1#32
  let arg20 : BitVec 32 := Scf.iv c0_i32 c1_i32 k0_t1
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  v11
def k0_off1 (k0_t1 : Fin k0_t1_loop.trips) : Fin 1 → Nat :=
  let c0_i32_16 : BitVec 32 := 0#32
  let c0_i32 : BitVec 32 := 0#32
  let c1_i32 : BitVec 32 := 1#32
  let arg20 : BitVec 32 := Scf.iv c0_i32 c1_i32 k0_t1
  let c1_i32_15 : BitVec 32 := 1#32
  let v9 : BitVec 32 := Scalar.muli arg20 c1_i32_15
  let v10 : BitVec 32 := Scalar.addi c0_i32_16 v9
  ![v10.toNat]
def k0_off2 (k0_t1 : Fin k0_t1_loop.trips) : Fin 2 → Nat :=
  let c0_i32_16 : BitVec 32 := 0#32
  let c0_i32 : BitVec 32 := 0#32
  let c1_i32 : BitVec 32 := 1#32
  let arg20 : BitVec 32 := Scf.iv c0_i32 c1_i32 k0_t1
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  let v12 : BitVec 32 := v11
  let c0_i32_17 : BitVec 32 := 0#32
  ![v12.toNat, 0]
@[reducible] def k0_t2_loop : Scf.Loop 32 :=
  let c0_i32_1 : BitVec 32 := 0#32
  let c20_i32 : BitVec 32 := 20#32
  let v1 : BitVec 32 := Scalar.addi c0_i32_1 c20_i32
  let c1_i32_2 : BitVec 32 := 1#32
  ⟨c0_i32_1, v1, c1_i32_2⟩
def k0_mult2 (k0_t2 : Fin k0_t2_loop.trips) : BitVec 32 :=
  let c0_i32_16 : BitVec 32 := 0#32
  let c0_i32_1 : BitVec 32 := 0#32
  let c1_i32_2 : BitVec 32 := 1#32
  let arg20 : BitVec 32 := Scf.iv c0_i32_1 c1_i32_2 k0_t2
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  v11
def k0_off3 (k0_t2 : Fin k0_t2_loop.trips) : Fin 1 → Nat :=
  let c0_i32_16 : BitVec 32 := 0#32
  let c0_i32_1 : BitVec 32 := 0#32
  let c1_i32_2 : BitVec 32 := 1#32
  let arg20 : BitVec 32 := Scf.iv c0_i32_1 c1_i32_2 k0_t2
  let c1_i32_15 : BitVec 32 := 1#32
  let v9 : BitVec 32 := Scalar.muli arg20 c1_i32_15
  let v10 : BitVec 32 := Scalar.addi c0_i32_16 v9
  ![v10.toNat]
def k0_off4 (k0_t2 : Fin k0_t2_loop.trips) : Fin 2 → Nat :=
  let c0_i32_17 : BitVec 32 := 0#32
  let c0_i32_16 : BitVec 32 := 0#32
  let c0_i32_1 : BitVec 32 := 0#32
  let c1_i32_2 : BitVec 32 := 1#32
  let arg20 : BitVec 32 := Scf.iv c0_i32_1 c1_i32_2 k0_t2
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  let v12 : BitVec 32 := v11
  ![0, v12.toNat]
@[reducible] def k0_t3_loop : Scf.Loop 32 :=
  let c0_i32_7 : BitVec 32 := 0#32
  let c35_i32_8 : BitVec 32 := 35#32
  let v7 : BitVec 32 := Scalar.addi c0_i32_7 c35_i32_8
  let c1_i32_9 : BitVec 32 := 1#32
  ⟨c0_i32_7, v7, c1_i32_9⟩
def k0_mult3 (k0_t3 : Fin k0_t3_loop.trips) : BitVec 32 :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  v11
def k0_off5 (k0_t3 : Fin k0_t3_loop.trips) : Fin 1 → Nat :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  ![v10.toNat]
def k0_off6 (k0_t3 : Fin k0_t3_loop.trips) : Fin 2 → Nat :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  let v12 : BitVec 32 := v11
  let c0_i32_17 : BitVec 32 := 0#32
  ![v12.toNat, 0]
def k0_mult4 (k0_t3 : Fin k0_t3_loop.trips) : BitVec 32 :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  v21
def k0_off7 (k0_t3 : Fin k0_t3_loop.trips) : Fin 2 → Nat :=
  let c0_22 : Index := 0#32
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  let v22 : BitVec 32 := v21
  let v23 : Index := Scalar.indexCast v22
  ![0, v23.toNat]
def k0_off8 (k0_t3 : Fin k0_t3_loop.trips) : Fin 2 → Nat :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  let v22 : BitVec 32 := v21
  let v47 : Index := Scalar.indexCast v22
  let c0_36 : Index := 0#32
  ![v47.toNat, 0]
def k0_off9 (k0_t3 : Fin k0_t3_loop.trips) : Fin 2 → Nat :=
  let c0_65 : Index := 0#32
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  let v22 : BitVec 32 := v21
  let v134 : Index := Scalar.indexCast v22
  ![0, v134.toNat]
@[reducible] def k0_t4_loop : Scf.Loop 32 :=
  let c0_i32_11 : BitVec 32 := 0#32
  let c20_i32_12 : BitVec 32 := 20#32
  let v8 : BitVec 32 := Scalar.addi c0_i32_11 c20_i32_12
  let c1_i32_13 : BitVec 32 := 1#32
  ⟨c0_i32_11, v8, c1_i32_13⟩
def k0_mult5 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  v11
def k0_off10 (k0_t4 : Fin k0_t4_loop.trips) : Fin 1 → Nat :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  ![v10.toNat]
def k0_off11 (k0_t4 : Fin k0_t4_loop.trips) : Fin 2 → Nat :=
  let c0_i32_17 : BitVec 32 := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  let v12 : BitVec 32 := v11
  ![0, v12.toNat]
def k0_mult6 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_19 : BitVec 32 := 256#32
  let v17 : BitVec 32 := Scalar.muli v10 c256_i32_19
  let c0_i32_20 : BitVec 32 := 0#32
  let v18 : BitVec 32 := Scalar.addi v17 c0_i32_20
  v18
def k0_off12 (k0_t4 : Fin k0_t4_loop.trips) (c0_i32_20 : BitVec 32) : Fin 2 → Nat :=
  let c0_21 : Index := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_19 : BitVec 32 := 256#32
  let v17 : BitVec 32 := Scalar.muli v10 c256_i32_19
  let v18 : BitVec 32 := Scalar.addi v17 c0_i32_20
  let v19 : BitVec 32 := v18
  let v20 : Index := Scalar.indexCast v19
  ![0, v20.toNat]
def k0_off13 (k0_t4 : Fin k0_t4_loop.trips) (c0_i32_20 : BitVec 32) : Fin 2 → Nat :=
  let c0_28 : Index := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_19 : BitVec 32 := 256#32
  let v17 : BitVec 32 := Scalar.muli v10 c256_i32_19
  let v18 : BitVec 32 := Scalar.addi v17 c0_i32_20
  let v19 : BitVec 32 := v18
  let v32 : Index := Scalar.indexCast v19
  ![0, v32.toNat]
def k0_mult7 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_40 : BitVec 32 := 256#32
  let v69 : BitVec 32 := Scalar.muli v10 c256_i32_40
  let c128_i32 : BitVec 32 := 128#32
  let v70 : BitVec 32 := Scalar.addi v69 c128_i32
  v70
def k0_mult8 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_65 : BitVec 32 := 256#32
  let v126 : BitVec 32 := Scalar.muli v10 c256_i32_65
  v126
def k0_off14 (k0_t4 : Fin k0_t4_loop.trips) : Fin 2 → Nat :=
  let c0_66 : Index := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_65 : BitVec 32 := 256#32
  let v126 : BitVec 32 := Scalar.muli v10 c256_i32_65
  let v127 : BitVec 32 := v126
  let v128 : Index := Scalar.indexCast v127
  ![0, v128.toNat]
-- ==== KernelIdeal.lean ====
abbrev S128x1x5120 : Shape := ⟨3, ![128, 1, 5120]⟩
abbrev S4480x2560 : Shape := ⟨2, ![4480, 2560]⟩
abbrev S4480x160 : Shape := ⟨2, ![4480, 160]⟩
abbrev S5120x2240 : Shape := ⟨2, ![5120, 2240]⟩
abbrev S5120x140 : Shape := ⟨2, ![5120, 140]⟩
abbrev S160x4480 : Shape := ⟨2, ![160, 4480]⟩
abbrev S_ : Shape := ⟨0, ![]⟩
abbrev S140x5120 : Shape := ⟨2, ![140, 5120]⟩
abbrev S128x5120 : Shape := ⟨2, ![128, 5120]⟩
abbrev S2240x5120 : Shape := ⟨2, ![2240, 5120]⟩
abbrev S64x5120 : Shape := ⟨2, ![64, 5120]⟩
abbrev S64x2x5120 : Shape := ⟨3, ![64, 2, 5120]⟩
abbrev S64x1x5120 : Shape := ⟨3, ![64, 1, 5120]⟩
abbrev S64x4480 : Shape := ⟨2, ![64, 4480]⟩
abbrev S64x2x4480 : Shape := ⟨3, ![64, 2, 4480]⟩
abbrev S64x1x4480 : Shape := ⟨3, ![64, 1, 4480]⟩
abbrev S2x160x128 : Shape := ⟨3, ![2, 160, 128]⟩
abbrev S35 : Shape := ⟨1, ![35]⟩
abbrev S20 : Shape := ⟨1, ![20]⟩
abbrev S1 : Shape := ⟨1, ![1]⟩
abbrev S128x2560 : Shape := ⟨2, ![128, 2560]⟩
abbrev S2240x256 : Shape := ⟨2, ![2240, 256]⟩
abbrev S160x128 : Shape := ⟨2, ![160, 128]⟩
abbrev S1x160x128 : Shape := ⟨3, ![1, 160, 128]⟩
abbrev S2560x128 : Shape := ⟨2, ![2560, 128]⟩
abbrev S640x128 : Shape := ⟨2, ![640, 128]⟩
abbrev S640x8x128 : Shape := ⟨3, ![640, 8, 128]⟩
abbrev S640x1x128 : Shape := ⟨3, ![640, 1, 128]⟩
abbrev S5120x128 : Shape := ⟨2, ![5120, 128]⟩
abbrev S160x1x128 : Shape := ⟨3, ![160, 1, 128]⟩
abbrev S160x16x128 : Shape := ⟨3, ![160, 16, 128]⟩
abbrev S5120x256 : Shape := ⟨2, ![5120, 256]⟩
abbrev S128x256 : Shape := ⟨2, ![128, 256]⟩
abbrev S128x128 : Shape := ⟨2, ![128, 128]⟩
abbrev S64x128 : Shape := ⟨2, ![64, 128]⟩
abbrev S64x2x128 : Shape := ⟨3, ![64, 2, 128]⟩
abbrev S64x1x128 : Shape := ⟨3, ![64, 1, 128]⟩
abbrev S140x128 : Shape := ⟨2, ![140, 128]⟩
abbrev S1x140x128 : Shape := ⟨3, ![1, 140, 128]⟩
abbrev S2240x128 : Shape := ⟨2, ![2240, 128]⟩
abbrev S560x128 : Shape := ⟨2, ![560, 128]⟩
abbrev S560x8x128 : Shape := ⟨3, ![560, 8, 128]⟩
abbrev S560x1x128 : Shape := ⟨3, ![560, 1, 128]⟩
abbrev S4480x128 : Shape := ⟨2, ![4480, 128]⟩
abbrev S140x1x128 : Shape := ⟨3, ![140, 1, 128]⟩
abbrev S140x16x128 : Shape := ⟨3, ![140, 16, 128]⟩
abbrev S4480x256 : Shape := ⟨2, ![4480, 256]⟩
abbrev S128x4480 : Shape := ⟨2, ![128, 4480]⟩

abbrev nBuf : Space → Nat
  | .hbm => 403
  | .vmem => 11
  | .smem => 0
  | _ => 0

abbrev hbmTy0_0 (i : Nat) : BufTy := match i % 128 with
  | 0 => ⟨S128x1x5120, .bf16⟩
  | 1 => ⟨S4480x2560, .i8⟩
  | 2 => ⟨S4480x160, .i16⟩
  | 3 => ⟨S4480x2560, .i8⟩
  | 4 => ⟨S4480x160, .i16⟩
  | 5 => ⟨S5120x2240, .i8⟩
  | 6 => ⟨S5120x140, .i16⟩
  | 7 => ⟨S160x4480, .i16⟩
  | 8 => ⟨S160x4480, .i32⟩
  | 9 => ⟨S_, .i32⟩
  | 10 => ⟨S160x4480, .i32⟩
  | 11 => ⟨S160x4480, .i32⟩
  | 12 => ⟨S_, .i32⟩
  | 13 => ⟨S160x4480, .i32⟩
  | 14 => ⟨S160x4480, .i32⟩
  | 15 => ⟨S_, .i32⟩
  | 16 => ⟨S160x4480, .i32⟩
  | 17 => ⟨S160x4480, .i32⟩
  | 18 => ⟨S_, .i32⟩
  | 19 => ⟨S160x4480, .i32⟩
  | 20 => ⟨S160x4480, .i32⟩
  | 21 => ⟨S_, .i32⟩
  | 22 => ⟨S160x4480, .i32⟩
  | 23 => ⟨S160x4480, .i1⟩
  | 24 => ⟨S_, .i32⟩
  | 25 => ⟨S160x4480, .i32⟩
  | 26 => ⟨S160x4480, .i32⟩
  | 27 => ⟨S_, .i32⟩
  | 28 => ⟨S160x4480, .i32⟩
  | 29 => ⟨S160x4480, .i32⟩
  | 30 => ⟨S_, .i32⟩
  | 31 => ⟨S160x4480, .i32⟩
  | 32 => ⟨S160x4480, .i32⟩
  | 33 => ⟨S160x4480, .i32⟩
  | 34 => ⟨S_, .i32⟩
  | 35 => ⟨S160x4480, .i32⟩
  | 36 => ⟨S160x4480, .i32⟩
  | 37 => ⟨S_, .i32⟩
  | 38 => ⟨S160x4480, .i32⟩
  | 39 => ⟨S160x4480, .i32⟩
  | 40 => ⟨S160x4480, .i32⟩
  | 41 => ⟨S_, .i32⟩
  | 42 => ⟨S160x4480, .i32⟩
  | 43 => ⟨S160x4480, .i32⟩
  | 44 => ⟨S_, .i32⟩
  | 45 => ⟨S160x4480, .i32⟩
  | 46 => ⟨S160x4480, .i1⟩
  | 47 => ⟨S160x4480, .i32⟩
  | 48 => ⟨S_, .i32⟩
  | 49 => ⟨S160x4480, .i32⟩
  | 50 => ⟨S160x4480, .i32⟩
  | 51 => ⟨S_, .i32⟩
  | 52 => ⟨S160x4480, .i32⟩
  | 53 => ⟨S160x4480, .i32⟩
  | 54 => ⟨S_, .i32⟩
  | 55 => ⟨S160x4480, .i32⟩
  | 56 => ⟨S160x4480, .i32⟩
  | 57 => ⟨S160x4480, .i32⟩
  | 58 => ⟨S_, .i32⟩
  | 59 => ⟨S160x4480, .i32⟩
  | 60 => ⟨S160x4480, .i32⟩
  | 61 => ⟨S160x4480, .i32⟩
  | 62 => ⟨S_, .i32⟩
  | 63 => ⟨S_, .i32⟩
  | 64 => ⟨S160x4480, .i32⟩
  | 65 => ⟨S160x4480, .i32⟩
  | 66 => ⟨S160x4480, .i32⟩
  | 67 => ⟨S_, .i32⟩
  | 68 => ⟨S160x4480, .i32⟩
  | 69 => ⟨S160x4480, .i32⟩
  | 70 => ⟨S_, .i32⟩
  | 71 => ⟨S160x4480, .i32⟩
  | 72 => ⟨S160x4480, .i32⟩
  | 73 => ⟨S160x4480, .i32⟩
  | 74 => ⟨S_, .i32⟩
  | 75 => ⟨S160x4480, .i32⟩
  | 76 => ⟨S160x4480, .i32⟩
  | 77 => ⟨S_, .i32⟩
  | 78 => ⟨S160x4480, .i32⟩
  | 79 => ⟨S160x4480, .i32⟩
  | 80 => ⟨S_, .i32⟩
  | 81 => ⟨S160x4480, .i32⟩
  | 82 => ⟨S160x4480, .i32⟩
  | 83 => ⟨S_, .i32⟩
  | 84 => ⟨S160x4480, .i32⟩
  | 85 => ⟨S160x4480, .i32⟩
  | 86 => ⟨S160x4480, .i32⟩
  | 87 => ⟨S160x4480, .i32⟩
  | 88 => ⟨S160x4480, .i32⟩
  | 89 => ⟨S160x4480, .i32⟩
  | 90 => ⟨S_, .i32⟩
  | 91 => ⟨S160x4480, .i32⟩
  | 92 => ⟨S160x4480, .i1⟩
  | 93 => ⟨S_, .i32⟩
  | 94 => ⟨S160x4480, .i32⟩
  | 95 => ⟨S160x4480, .i1⟩
  | 96 => ⟨S_, .i32⟩
  | 97 => ⟨S_, .i32⟩
  | 98 => ⟨S160x4480, .i32⟩
  | 99 => ⟨S160x4480, .i32⟩
  | 100 => ⟨S160x4480, .i32⟩
  | 101 => ⟨S160x4480, .i32⟩
  | 102 => ⟨S160x4480, .i32⟩
  | 103 => ⟨S160x4480, .i32⟩
  | 104 => ⟨S160x4480, .i32⟩
  | 105 => ⟨S_, .i32⟩
  | 106 => ⟨S160x4480, .i32⟩
  | 107 => ⟨S160x4480, .i32⟩
  | 108 => ⟨S_, .i32⟩
  | 109 => ⟨S160x4480, .i32⟩
  | 110 => ⟨S160x4480, .i1⟩
  | 111 => ⟨S160x4480, .i32⟩
  | 112 => ⟨S_, .i32⟩
  | 113 => ⟨S160x4480, .i32⟩
  | 114 => ⟨S160x4480, .i32⟩
  | 115 => ⟨S_, .i32⟩
  | 116 => ⟨S160x4480, .i32⟩
  | 117 => ⟨S160x4480, .i32⟩
  | 118 => ⟨S_, .i32⟩
  | 119 => ⟨S160x4480, .i32⟩
  | 120 => ⟨S160x4480, .i32⟩
  | 121 => ⟨S160x4480, .i32⟩
  | 122 => ⟨S_, .i32⟩
  | 123 => ⟨S160x4480, .i32⟩
  | 124 => ⟨S160x4480, .i32⟩
  | 125 => ⟨S160x4480, .i32⟩
  | 126 => ⟨S_, .i32⟩
  | 127 => ⟨S_, .i32⟩
  | _ => ⟨S128x1x5120, .bf16⟩

abbrev hbmTy0_1 (i : Nat) : BufTy := match i % 128 with
  | 0 => ⟨S160x4480, .i32⟩
  | 1 => ⟨S160x4480, .i32⟩
  | 2 => ⟨S160x4480, .i32⟩
  | 3 => ⟨S_, .i32⟩
  | 4 => ⟨S_, .i32⟩
  | 5 => ⟨S160x4480, .i32⟩
  | 6 => ⟨S160x4480, .i32⟩
  | 7 => ⟨S_, .i32⟩
  | 8 => ⟨S160x4480, .i32⟩
  | 9 => ⟨S160x4480, .i32⟩
  | 10 => ⟨S160x4480, .i16⟩
  | 11 => ⟨S160x4480, .i32⟩
  | 12 => ⟨S_, .i32⟩
  | 13 => ⟨S160x4480, .i32⟩
  | 14 => ⟨S160x4480, .i32⟩
  | 15 => ⟨S_, .i32⟩
  | 16 => ⟨S160x4480, .i32⟩
  | 17 => ⟨S160x4480, .i32⟩
  | 18 => ⟨S_, .i32⟩
  | 19 => ⟨S160x4480, .i32⟩
  | 20 => ⟨S160x4480, .i32⟩
  | 21 => ⟨S_, .i32⟩
  | 22 => ⟨S160x4480, .i32⟩
  | 23 => ⟨S160x4480, .i32⟩
  | 24 => ⟨S_, .i32⟩
  | 25 => ⟨S160x4480, .i32⟩
  | 26 => ⟨S160x4480, .i1⟩
  | 27 => ⟨S_, .i32⟩
  | 28 => ⟨S160x4480, .i32⟩
  | 29 => ⟨S160x4480, .i32⟩
  | 30 => ⟨S_, .i32⟩
  | 31 => ⟨S160x4480, .i32⟩
  | 32 => ⟨S160x4480, .i32⟩
  | 33 => ⟨S_, .i32⟩
  | 34 => ⟨S160x4480, .i32⟩
  | 35 => ⟨S160x4480, .i32⟩
  | 36 => ⟨S160x4480, .i32⟩
  | 37 => ⟨S_, .i32⟩
  | 38 => ⟨S160x4480, .i32⟩
  | 39 => ⟨S160x4480, .i32⟩
  | 40 => ⟨S_, .i32⟩
  | 41 => ⟨S160x4480, .i32⟩
  | 42 => ⟨S160x4480, .i32⟩
  | 43 => ⟨S160x4480, .i32⟩
  | 44 => ⟨S_, .i32⟩
  | 45 => ⟨S160x4480, .i32⟩
  | 46 => ⟨S160x4480, .i32⟩
  | 47 => ⟨S_, .i32⟩
  | 48 => ⟨S160x4480, .i32⟩
  | 49 => ⟨S160x4480, .i1⟩
  | 50 => ⟨S160x4480, .i32⟩
  | 51 => ⟨S_, .i32⟩
  | 52 => ⟨S160x4480, .i32⟩
  | 53 => ⟨S160x4480, .i32⟩
  | 54 => ⟨S_, .i32⟩
  | 55 => ⟨S160x4480, .i32⟩
  | 56 => ⟨S160x4480, .i32⟩
  | 57 => ⟨S_, .i32⟩
  | 58 => ⟨S160x4480, .i32⟩
  | 59 => ⟨S160x4480, .i32⟩
  | 60 => ⟨S160x4480, .i32⟩
  | 61 => ⟨S_, .i32⟩
  | 62 => ⟨S160x4480, .i32⟩
  | 63 => ⟨S160x4480, .i32⟩
  | 64 => ⟨S160x4480, .i32⟩
  | 65 => ⟨S_, .i32⟩
  | 66 => ⟨S_, .i32⟩
  | 67 => ⟨S160x4480, .i32⟩
  | 68 => ⟨S160x4480, .i32⟩
  | 69 => ⟨S160x4480, .i32⟩
  | 70 => ⟨S_, .i32⟩
  | 71 => ⟨S160x4480, .i32⟩
  | 72 => ⟨S160x4480, .i32⟩
  | 73 => ⟨S_, .i32⟩
  | 74 => ⟨S160x4480, .i32⟩
  | 75 => ⟨S160x4480, .i32⟩
  | 76 => ⟨S160x4480, .i32⟩
  | 77 => ⟨S_, .i32⟩
  | 78 => ⟨S160x4480, .i32⟩
  | 79 => ⟨S160x4480, .i32⟩
  | 80 => ⟨S_, .i32⟩
  | 81 => ⟨S160x4480, .i32⟩
  | 82 => ⟨S160x4480, .i32⟩
  | 83 => ⟨S_, .i32⟩
  | 84 => ⟨S160x4480, .i32⟩
  | 85 => ⟨S160x4480, .i32⟩
  | 86 => ⟨S_, .i32⟩
  | 87 => ⟨S160x4480, .i32⟩
  | 88 => ⟨S160x4480, .i32⟩
  | 89 => ⟨S160x4480, .i32⟩
  | 90 => ⟨S160x4480, .i32⟩
  | 91 => ⟨S160x4480, .i32⟩
  | 92 => ⟨S160x4480, .i32⟩
  | 93 => ⟨S_, .i32⟩
  | 94 => ⟨S160x4480, .i32⟩
  | 95 => ⟨S160x4480, .i1⟩
  | 96 => ⟨S_, .i32⟩
  | 97 => ⟨S160x4480, .i32⟩
  | 98 => ⟨S160x4480, .i1⟩
  | 99 => ⟨S_, .i32⟩
  | 100 => ⟨S_, .i32⟩
  | 101 => ⟨S160x4480, .i32⟩
  | 102 => ⟨S160x4480, .i32⟩
  | 103 => ⟨S160x4480, .i32⟩
  | 104 => ⟨S160x4480, .i32⟩
  | 105 => ⟨S160x4480, .i32⟩
  | 106 => ⟨S160x4480, .i32⟩
  | 107 => ⟨S160x4480, .i32⟩
  | 108 => ⟨S_, .i32⟩
  | 109 => ⟨S160x4480, .i32⟩
  | 110 => ⟨S160x4480, .i32⟩
  | 111 => ⟨S_, .i32⟩
  | 112 => ⟨S160x4480, .i32⟩
  | 113 => ⟨S160x4480, .i1⟩
  | 114 => ⟨S160x4480, .i32⟩
  | 115 => ⟨S_, .i32⟩
  | 116 => ⟨S160x4480, .i32⟩
  | 117 => ⟨S160x4480, .i32⟩
  | 118 => ⟨S_, .i32⟩
  | 119 => ⟨S160x4480, .i32⟩
  | 120 => ⟨S160x4480, .i32⟩
  | 121 => ⟨S_, .i32⟩
  | 122 => ⟨S160x4480, .i32⟩
  | 123 => ⟨S160x4480, .i32⟩
  | 124 => ⟨S160x4480, .i32⟩
  | 125 => ⟨S_, .i32⟩
  | 126 => ⟨S160x4480, .i32⟩
  | 127 => ⟨S160x4480, .i32⟩
  | _ => ⟨S128x1x5120, .bf16⟩

abbrev hbmTy0_2 (i : Nat) : BufTy := match i % 128 with
  | 0 => ⟨S160x4480, .i32⟩
  | 1 => ⟨S_, .i32⟩
  | 2 => ⟨S_, .i32⟩
  | 3 => ⟨S160x4480, .i32⟩
  | 4 => ⟨S160x4480, .i32⟩
  | 5 => ⟨S160x4480, .i32⟩
  | 6 => ⟨S_, .i32⟩
  | 7 => ⟨S_, .i32⟩
  | 8 => ⟨S160x4480, .i32⟩
  | 9 => ⟨S160x4480, .i32⟩
  | 10 => ⟨S_, .i32⟩
  | 11 => ⟨S160x4480, .i32⟩
  | 12 => ⟨S160x4480, .i32⟩
  | 13 => ⟨S140x5120, .i16⟩
  | 14 => ⟨S140x5120, .i32⟩
  | 15 => ⟨S_, .i32⟩
  | 16 => ⟨S140x5120, .i32⟩
  | 17 => ⟨S140x5120, .i32⟩
  | 18 => ⟨S_, .i32⟩
  | 19 => ⟨S140x5120, .i32⟩
  | 20 => ⟨S140x5120, .i32⟩
  | 21 => ⟨S_, .i32⟩
  | 22 => ⟨S140x5120, .i32⟩
  | 23 => ⟨S140x5120, .i32⟩
  | 24 => ⟨S_, .i32⟩
  | 25 => ⟨S140x5120, .i32⟩
  | 26 => ⟨S140x5120, .i32⟩
  | 27 => ⟨S_, .i32⟩
  | 28 => ⟨S140x5120, .i32⟩
  | 29 => ⟨S140x5120, .i1⟩
  | 30 => ⟨S_, .i32⟩
  | 31 => ⟨S140x5120, .i32⟩
  | 32 => ⟨S140x5120, .i32⟩
  | 33 => ⟨S_, .i32⟩
  | 34 => ⟨S140x5120, .i32⟩
  | 35 => ⟨S140x5120, .i32⟩
  | 36 => ⟨S_, .i32⟩
  | 37 => ⟨S140x5120, .i32⟩
  | 38 => ⟨S140x5120, .i32⟩
  | 39 => ⟨S140x5120, .i32⟩
  | 40 => ⟨S_, .i32⟩
  | 41 => ⟨S140x5120, .i32⟩
  | 42 => ⟨S140x5120, .i32⟩
  | 43 => ⟨S_, .i32⟩
  | 44 => ⟨S140x5120, .i32⟩
  | 45 => ⟨S140x5120, .i32⟩
  | 46 => ⟨S140x5120, .i32⟩
  | 47 => ⟨S_, .i32⟩
  | 48 => ⟨S140x5120, .i32⟩
  | 49 => ⟨S140x5120, .i32⟩
  | 50 => ⟨S_, .i32⟩
  | 51 => ⟨S140x5120, .i32⟩
  | 52 => ⟨S140x5120, .i1⟩
  | 53 => ⟨S140x5120, .i32⟩
  | 54 => ⟨S_, .i32⟩
  | 55 => ⟨S140x5120, .i32⟩
  | 56 => ⟨S140x5120, .i32⟩
  | 57 => ⟨S_, .i32⟩
  | 58 => ⟨S140x5120, .i32⟩
  | 59 => ⟨S140x5120, .i32⟩
  | 60 => ⟨S_, .i32⟩
  | 61 => ⟨S140x5120, .i32⟩
  | 62 => ⟨S140x5120, .i32⟩
  | 63 => ⟨S140x5120, .i32⟩
  | 64 => ⟨S_, .i32⟩
  | 65 => ⟨S140x5120, .i32⟩
  | 66 => ⟨S140x5120, .i32⟩
  | 67 => ⟨S140x5120, .i32⟩
  | 68 => ⟨S_, .i32⟩
  | 69 => ⟨S_, .i32⟩
  | 70 => ⟨S140x5120, .i32⟩
  | 71 => ⟨S140x5120, .i32⟩
  | 72 => ⟨S140x5120, .i32⟩
  | 73 => ⟨S_, .i32⟩
  | 74 => ⟨S140x5120, .i32⟩
  | 75 => ⟨S140x5120, .i32⟩
  | 76 => ⟨S_, .i32⟩
  | 77 => ⟨S140x5120, .i32⟩
  | 78 => ⟨S140x5120, .i32⟩
  | 79 => ⟨S140x5120, .i32⟩
  | 80 => ⟨S_, .i32⟩
  | 81 => ⟨S140x5120, .i32⟩
  | 82 => ⟨S140x5120, .i32⟩
  | 83 => ⟨S_, .i32⟩
  | 84 => ⟨S140x5120, .i32⟩
  | 85 => ⟨S140x5120, .i32⟩
  | 86 => ⟨S_, .i32⟩
  | 87 => ⟨S140x5120, .i32⟩
  | 88 => ⟨S140x5120, .i32⟩
  | 89 => ⟨S_, .i32⟩
  | 90 => ⟨S140x5120, .i32⟩
  | 91 => ⟨S140x5120, .i32⟩
  | 92 => ⟨S140x5120, .i32⟩
  | 93 => ⟨S140x5120, .i32⟩
  | 94 => ⟨S140x5120, .i32⟩
  | 95 => ⟨S140x5120, .i32⟩
  | 96 => ⟨S_, .i32⟩
  | 97 => ⟨S140x5120, .i32⟩
  | 98 => ⟨S140x5120, .i1⟩
  | 99 => ⟨S_, .i32⟩
  | 100 => ⟨S140x5120, .i32⟩
  | 101 => ⟨S140x5120, .i1⟩
  | 102 => ⟨S_, .i32⟩
  | 103 => ⟨S_, .i32⟩
  | 104 => ⟨S140x5120, .i32⟩
  | 105 => ⟨S140x5120, .i32⟩
  | 106 => ⟨S140x5120, .i32⟩
  | 107 => ⟨S140x5120, .i32⟩
  | 108 => ⟨S140x5120, .i32⟩
  | 109 => ⟨S140x5120, .i32⟩
  | 110 => ⟨S140x5120, .i32⟩
  | 111 => ⟨S_, .i32⟩
  | 112 => ⟨S140x5120, .i32⟩
  | 113 => ⟨S140x5120, .i32⟩
  | 114 => ⟨S_, .i32⟩
  | 115 => ⟨S140x5120, .i32⟩
  | 116 => ⟨S140x5120, .i1⟩
  | 117 => ⟨S140x5120, .i32⟩
  | 118 => ⟨S_, .i32⟩
  | 119 => ⟨S140x5120, .i32⟩
  | 120 => ⟨S140x5120, .i32⟩
  | 121 => ⟨S_, .i32⟩
  | 122 => ⟨S140x5120, .i32⟩
  | 123 => ⟨S140x5120, .i32⟩
  | 124 => ⟨S_, .i32⟩
  | 125 => ⟨S140x5120, .i32⟩
  | 126 => ⟨S140x5120, .i32⟩
  | 127 => ⟨S140x5120, .i32⟩
  | _ => ⟨S128x1x5120, .bf16⟩

abbrev hbmTy0_3 (i : Nat) : BufTy := match i % 128 with
  | 0 => ⟨S_, .i32⟩
  | 1 => ⟨S140x5120, .i32⟩
  | 2 => ⟨S140x5120, .i32⟩
  | 3 => ⟨S140x5120, .i32⟩
  | 4 => ⟨S_, .i32⟩
  | 5 => ⟨S_, .i32⟩
  | 6 => ⟨S140x5120, .i32⟩
  | 7 => ⟨S140x5120, .i32⟩
  | 8 => ⟨S140x5120, .i32⟩
  | 9 => ⟨S_, .i32⟩
  | 10 => ⟨S_, .i32⟩
  | 11 => ⟨S140x5120, .i32⟩
  | 12 => ⟨S140x5120, .i32⟩
  | 13 => ⟨S_, .i32⟩
  | 14 => ⟨S140x5120, .i32⟩
  | 15 => ⟨S140x5120, .i32⟩
  | 16 => ⟨S128x5120, .bf16⟩
  | 17 => ⟨S2240x5120, .i8⟩
  | 18 => ⟨S128x5120, .bf16⟩
  | _ => ⟨S128x1x5120, .bf16⟩

abbrev hbmTy (i : Nat) : BufTy := match i / 128 with
  | 0 => hbmTy0_0 i
  | 1 => hbmTy0_1 i
  | 2 => hbmTy0_2 i
  | 3 => hbmTy0_3 i
  | _ => ⟨S128x1x5120, .bf16⟩

abbrev bufTy : (tb : Table) → Fin (tcTables nBuf tb) → BufTy
  | .hbm, ⟨i, _⟩ => hbmTy i
  | .local _ .vmem, ⟨0, _⟩ => ⟨S160x4480, .i32⟩
  | .local _ .vmem, ⟨1, _⟩ => ⟨S160x4480, .i32⟩
  | .local _ .vmem, ⟨2, _⟩ => ⟨S140x5120, .i32⟩
  | .local _ .vmem, ⟨3, _⟩ => ⟨S128x5120, .bf16⟩
  | .local _ .vmem, ⟨4, _⟩ => ⟨S4480x2560, .i8⟩
  | .local _ .vmem, ⟨5, _⟩ => ⟨S4480x2560, .i8⟩
  | .local _ .vmem, ⟨6, _⟩ => ⟨S2240x5120, .i8⟩
  | .local _ .vmem, ⟨7, _⟩ => ⟨S64x2x5120, .bf16⟩
  | .local _ .vmem, ⟨8, _⟩ => ⟨S64x2x4480, .bf16⟩
  | .local _ .vmem, ⟨9, _⟩ => ⟨S2x160x128, .i32⟩
  | .local _ .vmem, ⟨10, _⟩ => ⟨S2x160x128, .i32⟩
  | _, _ => ⟨S128x1x5120, .bf16⟩

abbrev bufScoped : (cs : CoreSpace) → Fin (nBuf (.core cs)) → Bool
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_v25 : Ref sig .tc := ⟨.hbm, 43, rfl⟩
abbrev main_c_10 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_11 : Ref sig .tc := ⟨.hbm, 48, rfl⟩
abbrev main_v29 : Ref sig .tc := ⟨.hbm, 49, rfl⟩
abbrev main_v30 : Ref sig .tc := ⟨.hbm, 50, rfl⟩
abbrev main_c_12 : Ref sig .tc := ⟨.hbm, 51, rfl⟩
abbrev main_v31 : Ref sig .tc := ⟨.hbm, 52, rfl⟩
abbrev main_v32 : Ref sig .tc := ⟨.hbm, 53, rfl⟩
abbrev main_c_13 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_14 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_15 : Ref sig .tc := ⟨.hbm, 62, rfl⟩
abbrev main_call1_v0 : Ref sig .tc := ⟨.hbm, 63, rfl⟩
abbrev main_call1_v1 : Ref sig .tc := ⟨.hbm, 64, rfl⟩
abbrev main_v39 : Ref sig .tc := ⟨.hbm, 65, rfl⟩
abbrev main_v40 : Ref sig .tc := ⟨.hbm, 66, rfl⟩
abbrev main_c_16 : Ref sig .tc := ⟨.hbm, 67, rfl⟩
abbrev main_v41 : Ref sig .tc := ⟨.hbm, 68, rfl⟩
abbrev main_v42 : Ref sig .tc := ⟨.hbm, 69, rfl⟩
abbrev main_c_17 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_18 : Ref sig .tc := ⟨.hbm, 74, rfl⟩
abbrev main_v46 : Ref sig .tc := ⟨.hbm, 75, rfl⟩
abbrev main_v47 : Ref sig .tc := ⟨.hbm, 76, rfl⟩
abbrev main_c_19 : Ref sig .tc := ⟨.hbm, 77, rfl⟩
abbrev main_v48 : Ref sig .tc := ⟨.hbm, 78, rfl⟩
abbrev main_v49 : Ref sig .tc := ⟨.hbm, 79, rfl⟩
abbrev main_c_20 : Ref sig .tc := ⟨.hbm, 80, rfl⟩
abbrev main_v50 : Ref sig .tc := ⟨.hbm, 81, rfl⟩
abbrev main_v51 : Ref sig .tc := ⟨.hbm, 82, rfl⟩
abbrev main_c_21 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_22 : Ref sig .tc := ⟨.hbm, 90, rfl⟩
abbrev main_v58 : Ref sig .tc := ⟨.hbm, 91, rfl⟩
abbrev main_v59 : Ref sig .tc := ⟨.hbm, 92, rfl⟩
abbrev main_c_23 : Ref sig .tc := ⟨.hbm, 93, rfl⟩
abbrev main_v60 : Ref sig .tc := ⟨.hbm, 94, rfl⟩
abbrev main_v61 : Ref sig .tc := ⟨.hbm, 95, rfl⟩
abbrev main_c_24 : Ref sig .tc := ⟨.hbm, 96, rfl⟩
abbrev main_c_25 : Ref sig .tc := ⟨.hbm, 97, rfl⟩
abbrev main_call2_v0 : Ref sig .tc := ⟨.hbm, 98, rfl⟩
abbrev main_call2_v1 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_26 : Ref sig .tc := ⟨.hbm, 105, rfl⟩
abbrev main_v67 : Ref sig .tc := ⟨.hbm, 106, rfl⟩
abbrev main_v68 : Ref sig .tc := ⟨.hbm, 107, rfl⟩
abbrev main_c_27 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_28 : Ref sig .tc := ⟨.hbm, 112, rfl⟩
abbrev main_v72 : Ref sig .tc := ⟨.hbm, 113, rfl⟩
abbrev main_v73 : Ref sig .tc := ⟨.hbm, 114, rfl⟩
abbrev main_c_29 : Ref sig .tc := ⟨.hbm, 115, rfl⟩
abbrev main_v74 : Ref sig .tc := ⟨.hbm, 116, rfl⟩
abbrev main_v75 : Ref sig .tc := ⟨.hbm, 117, rfl⟩
abbrev main_c_30 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_31 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_32 : Ref sig .tc := ⟨.hbm, 126, rfl⟩
abbrev main_call3_v0 : Ref sig .tc := ⟨.hbm, 127, rfl⟩
abbrev main_call3_v1 : Ref sig .tc := ⟨.hbm, 128, rfl⟩
abbrev main_v82 : Ref sig .tc := ⟨.hbm, 129, rfl⟩
abbrev main_v83 : Ref sig .tc := ⟨.hbm, 130, rfl⟩
abbrev main_c_33 : Ref sig .tc := ⟨.hbm, 131, rfl⟩
abbrev main_call4_v0 : Ref sig .tc := ⟨.hbm, 132, rfl⟩
abbrev main_call4_v1 : Ref sig .tc := ⟨.hbm, 133, rfl⟩
abbrev main_v84 : Ref sig .tc := ⟨.hbm, 134, rfl⟩
abbrev main_c_34 : Ref sig .tc := ⟨.hbm, 135, rfl⟩
abbrev main_v85 : Ref sig .tc := ⟨.hbm, 136, rfl⟩
abbrev main_v86 : Ref sig .tc := ⟨.hbm, 137, rfl⟩
abbrev main_v88 : Ref sig .tc := ⟨.hbm, 138, rfl⟩
abbrev main_v89 : Ref sig .tc := ⟨.hbm, 139, rfl⟩
abbrev main_c_35 : Ref sig .tc := ⟨.hbm, 140, rfl⟩
abbrev main_v90 : Ref sig .tc := ⟨.hbm, 141, rfl⟩
abbrev main_v91 : Ref sig .tc := ⟨.hbm, 142, rfl⟩
abbrev main_c_36 : Ref sig .tc := ⟨.hbm, 143, rfl⟩
abbrev main_v92 : Ref sig .tc := ⟨.hbm, 144, rfl⟩
abbrev main_v93 : Ref sig .tc := ⟨.hbm, 145, rfl⟩
abbrev main_c_37 : Ref sig .tc := ⟨.hbm, 146, rfl⟩
abbrev main_v94 : Ref sig .tc := ⟨.hbm, 147, rfl⟩
abbrev main_v95 : Ref sig .tc := ⟨.hbm, 148, rfl⟩
abbrev main_c_38 : Ref sig .tc := ⟨.hbm, 149, rfl⟩
abbrev main_v96 : Ref sig .tc := ⟨.hbm, 150, rfl⟩
abbrev main_v97 : Ref sig .tc := ⟨.hbm, 151, rfl⟩
abbrev main_c_39 : Ref sig .tc := ⟨.hbm, 152, rfl⟩
abbrev main_v98 : Ref sig .tc := ⟨.hbm, 153, rfl⟩
abbrev main_v99 : Ref sig .tc := ⟨.hbm, 154, rfl⟩
abbrev main_c_40 : Ref sig .tc := ⟨.hbm, 155, rfl⟩
abbrev main_v100 : Ref sig .tc := ⟨.hbm, 156, rfl⟩
abbrev main_v101 : Ref sig .tc := ⟨.hbm, 157, rfl⟩
abbrev main_c_41 : Ref sig .tc := ⟨.hbm, 158, rfl⟩
abbrev main_v102 : Ref sig .tc := ⟨.hbm, 159, rfl⟩
abbrev main_v103 : Ref sig .tc := ⟨.hbm, 160, rfl⟩
abbrev main_c_42 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_c_43 : Ref sig .tc := ⟨.hbm, 165, rfl⟩
abbrev main_v107 : Ref sig .tc := ⟨.hbm, 166, rfl⟩
abbrev main_v108 : Ref sig .tc := ⟨.hbm, 167, rfl⟩
abbrev main_c_44 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_c_45 : Ref sig .tc := ⟨.hbm, 172, rfl⟩
abbrev main_v112 : Ref sig .tc := ⟨.hbm, 173, rfl⟩
abbrev main_v113 : Ref sig .tc := ⟨.hbm, 174, rfl⟩
abbrev main_c_46 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_47 : Ref sig .tc := ⟨.hbm, 179, rfl⟩
abbrev main_v117 : Ref sig .tc := ⟨.hbm, 180, rfl⟩
abbrev main_v118 : Ref sig .tc := ⟨.hbm, 181, rfl⟩
abbrev main_c_48 : Ref sig .tc := ⟨.hbm, 182, rfl⟩
abbrev main_v119 : Ref sig .tc := ⟨.hbm, 183, rfl⟩
abbrev main_v120 : Ref sig .tc := ⟨.hbm, 184, rfl⟩
abbrev main_c_49 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_c_50 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_c_51 : Ref sig .tc := ⟨.hbm, 193, rfl⟩
abbrev main_call6_v0 : Ref sig .tc := ⟨.hbm, 194, rfl⟩
abbrev main_call6_v1 : Ref sig .tc := ⟨.hbm, 195, rfl⟩
abbrev main_v127 : Ref sig .tc := ⟨.hbm, 196, rfl⟩
abbrev main_v128 : Ref sig .tc := ⟨.hbm, 197, rfl⟩
abbrev main_c_52 : Ref sig .tc := ⟨.hbm, 198, rfl⟩
abbrev main_v129 : Ref sig .tc := ⟨.hbm, 199, rfl⟩
abbrev main_v130 : Ref sig .tc := ⟨.hbm, 200, rfl⟩
abbrev main_c_53 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_c_54 : Ref sig .tc := ⟨.hbm, 205, rfl⟩
abbrev main_v134 : Ref sig .tc := ⟨.hbm, 206, rfl⟩
abbrev main_v135 : Ref sig .tc := ⟨.hbm, 207, rfl⟩
abbrev main_c_55 : Ref sig .tc := ⟨.hbm, 208, rfl⟩
abbrev main_v136 : Ref sig .tc := ⟨.hbm, 209, rfl⟩
abbrev main_v137 : Ref sig .tc := ⟨.hbm, 210, rfl⟩
abbrev main_c_56 : Ref sig .tc := ⟨.hbm, 211, rfl⟩
abbrev main_v138 : Ref sig .tc := ⟨.hbm, 212, rfl⟩
abbrev main_v139 : Ref sig .tc := ⟨.hbm, 213, rfl⟩
abbrev main_c_57 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_58 : Ref sig .tc := ⟨.hbm, 221, rfl⟩
abbrev main_v146 : Ref sig .tc := ⟨.hbm, 222, rfl⟩
abbrev main_v147 : Ref sig .tc := ⟨.hbm, 223, rfl⟩
abbrev main_c_59 : Ref sig .tc := ⟨.hbm, 224, rfl⟩
abbrev main_v148 : Ref sig .tc := ⟨.hbm, 225, rfl⟩
abbrev main_v149 : Ref sig .tc := ⟨.hbm, 226, rfl⟩
abbrev main_c_60 : Ref sig .tc := ⟨.hbm, 227, rfl⟩
abbrev main_c_61 : Ref sig .tc := ⟨.hbm, 228, rfl⟩
abbrev main_call7_v0 : Ref sig .tc := ⟨.hbm, 229, rfl⟩
abbrev main_call7_v1 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_c_62 : Ref sig .tc := ⟨.hbm, 236, rfl⟩
abbrev main_v155 : Ref sig .tc := ⟨.hbm, 237, rfl⟩
abbrev main_v156 : Ref sig .tc := ⟨.hbm, 238, rfl⟩
abbrev main_c_63 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_c_64 : Ref sig .tc := ⟨.hbm, 243, rfl⟩
abbrev main_v160 : Ref sig .tc := ⟨.hbm, 244, rfl⟩
abbrev main_v161 : Ref sig .tc := ⟨.hbm, 245, rfl⟩
abbrev main_c_65 : Ref sig .tc := ⟨.hbm, 246, rfl⟩
abbrev main_v162 : Ref sig .tc := ⟨.hbm, 247, rfl⟩
abbrev main_v163 : Ref sig .tc := ⟨.hbm, 248, rfl⟩
abbrev main_c_66 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_c_67 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_c_68 : Ref sig .tc := ⟨.hbm, 257, rfl⟩
abbrev main_call8_v0 : Ref sig .tc := ⟨.hbm, 258, rfl⟩
abbrev main_call8_v1 : Ref sig .tc := ⟨.hbm, 259, rfl⟩
abbrev main_v170 : Ref sig .tc := ⟨.hbm, 260, rfl⟩
abbrev main_v171 : Ref sig .tc := ⟨.hbm, 261, rfl⟩
abbrev main_c_69 : Ref sig .tc := ⟨.hbm, 262, rfl⟩
abbrev main_call9_v0 : Ref sig .tc := ⟨.hbm, 263, rfl⟩
abbrev main_call9_v1 : Ref sig .tc := ⟨.hbm, 264, rfl⟩
abbrev main_v172 : Ref sig .tc := ⟨.hbm, 265, rfl⟩
abbrev main_c_70 : Ref sig .tc := ⟨.hbm, 266, rfl⟩
abbrev main_v173 : Ref sig .tc := ⟨.hbm, 267, rfl⟩
abbrev main_v174 : Ref sig .tc := ⟨.hbm, 268, rfl⟩
abbrev main_v176 : Ref sig .tc := ⟨.hbm, 269, rfl⟩
abbrev main_v177 : Ref sig .tc := ⟨.hbm, 270, rfl⟩
abbrev main_c_71 : Ref sig .tc := ⟨.hbm, 271, rfl⟩
abbrev main_v178 : Ref sig .tc := ⟨.hbm, 272, rfl⟩
abbrev main_v179 : Ref sig .tc := ⟨.hbm, 273, rfl⟩
abbrev main_c_72 : Ref sig .tc := ⟨.hbm, 274, rfl⟩
abbrev main_v180 : Ref sig .tc := ⟨.hbm, 275, rfl⟩
abbrev main_v181 : Ref sig .tc := ⟨.hbm, 276, rfl⟩
abbrev main_c_73 : Ref sig .tc := ⟨.hbm, 277, rfl⟩
abbrev main_v182 : Ref sig .tc := ⟨.hbm, 278, rfl⟩
abbrev main_v183 : Ref sig .tc := ⟨.hbm, 279, rfl⟩
abbrev main_c_74 : Ref sig .tc := ⟨.hbm, 280, rfl⟩
abbrev main_v184 : Ref sig .tc := ⟨.hbm, 281, rfl⟩
abbrev main_v185 : Ref sig .tc := ⟨.hbm, 282, rfl⟩
abbrev main_c_75 : Ref sig .tc := ⟨.hbm, 283, rfl⟩
abbrev main_v186 : Ref sig .tc := ⟨.hbm, 284, rfl⟩
abbrev main_v187 : Ref sig .tc := ⟨.hbm, 285, rfl⟩
abbrev main_c_76 : Ref sig .tc := ⟨.hbm, 286, rfl⟩
abbrev main_v188 : Ref sig .tc := ⟨.hbm, 287, rfl⟩
abbrev main_v189 : Ref sig .tc := ⟨.hbm, 288, rfl⟩
abbrev main_c_77 : Ref sig .tc := ⟨.hbm, 289, rfl⟩
abbrev main_v190 : Ref sig .tc := ⟨.hbm, 290, rfl⟩
abbrev main_v191 : Ref sig .tc := ⟨.hbm, 291, rfl⟩
abbrev main_c_78 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_c_79 : Ref sig .tc := ⟨.hbm, 296, rfl⟩
abbrev main_v195 : Ref sig .tc := ⟨.hbm, 297, rfl⟩
abbrev main_v196 : Ref sig .tc := ⟨.hbm, 298, rfl⟩
abbrev main_c_80 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_c_81 : Ref sig .tc := ⟨.hbm, 303, rfl⟩
abbrev main_v200 : Ref sig .tc := ⟨.hbm, 304, rfl⟩
abbrev main_v201 : Ref sig .tc := ⟨.hbm, 305, rfl⟩
abbrev main_c_82 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_c_83 : Ref sig .tc := ⟨.hbm, 310, rfl⟩
abbrev main_v205 : Ref sig .tc := ⟨.hbm, 311, rfl⟩
abbrev main_v206 : Ref sig .tc := ⟨.hbm, 312, rfl⟩
abbrev main_c_84 : Ref sig .tc := ⟨.hbm, 313, rfl⟩
abbrev main_v207 : Ref sig .tc := ⟨.hbm, 314, rfl⟩
abbrev main_v208 : Ref sig .tc := ⟨.hbm, 315, rfl⟩
abbrev main_c_85 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_c_86 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_c_87 : Ref sig .tc := ⟨.hbm, 324, rfl⟩
abbrev main_call11_v0 : Ref sig .tc := ⟨.hbm, 325, rfl⟩
abbrev main_call11_v1 : Ref sig .tc := ⟨.hbm, 326, rfl⟩
abbrev main_v215 : Ref sig .tc := ⟨.hbm, 327, rfl⟩
abbrev main_v216 : Ref sig .tc := ⟨.hbm, 328, rfl⟩
abbrev main_c_88 : Ref sig .tc := ⟨.hbm, 329, rfl⟩
abbrev main_v217 : Ref sig .tc := ⟨.hbm, 330, rfl⟩
abbrev main_v218 : Ref sig .tc := ⟨.hbm, 331, rfl⟩
abbrev main_c_89 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_c_90 : Ref sig .tc := ⟨.hbm, 336, rfl⟩
abbrev main_v222 : Ref sig .tc := ⟨.hbm, 337, rfl⟩
abbrev main_v223 : Ref sig .tc := ⟨.hbm, 338, rfl⟩
abbrev main_c_91 : Ref sig .tc := ⟨.hbm, 339, rfl⟩
abbrev main_v224 : Ref sig .tc := ⟨.hbm, 340, rfl⟩
abbrev main_v225 : Ref sig .tc := ⟨.hbm, 341, rfl⟩
abbrev main_c_92 : Ref sig .tc := ⟨.hbm, 342, rfl⟩
abbrev main_v226 : Ref sig .tc := ⟨.hbm, 343, rfl⟩
abbrev main_v227 : Ref sig .tc := ⟨.hbm, 344, rfl⟩
abbrev main_c_93 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_c_94 : Ref sig .tc := ⟨.hbm, 352, rfl⟩
abbrev main_v234 : Ref sig .tc := ⟨.hbm, 353, rfl⟩
abbrev main_v235 : Ref sig .tc := ⟨.hbm, 354, rfl⟩
abbrev main_c_95 : Ref sig .tc := ⟨.hbm, 355, rfl⟩
abbrev main_v236 : Ref sig .tc := ⟨.hbm, 356, rfl⟩
abbrev main_v237 : Ref sig .tc := ⟨.hbm, 357, rfl⟩
abbrev main_c_96 : Ref sig .tc := ⟨.hbm, 358, rfl⟩
abbrev main_c_97 : Ref sig .tc := ⟨.hbm, 359, rfl⟩
abbrev main_call12_v0 : Ref sig .tc := ⟨.hbm, 360, rfl⟩
abbrev main_call12_v1 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_c_98 : Ref sig .tc := ⟨.hbm, 367, rfl⟩
abbrev main_v243 : Ref sig .tc := ⟨.hbm, 368, rfl⟩
abbrev main_v244 : Ref sig .tc := ⟨.hbm, 369, rfl⟩
abbrev main_c_99 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_c_100 : Ref sig .tc := ⟨.hbm, 374, rfl⟩
abbrev main_v248 : Ref sig .tc := ⟨.hbm, 375, rfl⟩
abbrev main_v249 : Ref sig .tc := ⟨.hbm, 376, rfl⟩
abbrev main_c_101 : Ref sig .tc := ⟨.hbm, 377, rfl⟩
abbrev main_v250 : Ref sig .tc := ⟨.hbm, 378, rfl⟩
abbrev main_v251 : Ref sig .tc := ⟨.hbm, 379, rfl⟩
abbrev main_c_102 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_c_103 : Ref sig .tc := ⟨.hbm, 384, rfl⟩
abbrev main_v255 : Ref sig .tc := ⟨.hbm, 385, rfl⟩
abbrev main_v256 : Ref sig .tc := ⟨.hbm, 386, rfl⟩
abbrev main_v257 : Ref sig .tc := ⟨.hbm, 387, rfl⟩
abbrev main_c_104 : Ref sig .tc := ⟨.hbm, 388, rfl⟩
abbrev main_call13_v0 : Ref sig .tc := ⟨.hbm, 389, rfl⟩
abbrev main_call13_v1 : Ref sig .tc := ⟨.hbm, 390, rfl⟩
abbrev main_v258 : Ref sig .tc := ⟨.hbm, 391, rfl⟩
abbrev main_v259 : Ref sig .tc := ⟨.hbm, 392, rfl⟩
abbrev main_c_105 : Ref sig .tc := ⟨.hbm, 393, rfl⟩
abbrev main_call14_v0 : Ref sig .tc := ⟨.hbm, 394, rfl⟩
abbrev main_call14_v1 : Ref sig .tc := ⟨.hbm, 395, rfl⟩
abbrev main_v260 : Ref sig .tc := ⟨.hbm, 396, rfl⟩
abbrev main_c_106 : Ref sig .tc := ⟨.hbm, 397, rfl⟩
abbrev main_v261 : Ref sig .tc := ⟨.hbm, 398, rfl⟩
abbrev main_v262 : Ref sig .tc := ⟨.hbm, 399, rfl⟩
abbrev main_v264 : Ref sig .tc := ⟨.hbm, 400, rfl⟩
abbrev main_v265 : Ref sig .tc := ⟨.hbm, 401, rfl⟩
abbrev main_v266 : Ref sig .tc := ⟨.hbm, 402, rfl⟩
abbrev main_v87 : Ref sig .tc := ⟨.vmem, 0, rfl⟩
abbrev main_v175 : Ref sig .tc := ⟨.vmem, 1, rfl⟩
abbrev main_v263 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c35_i32 : BitVec 32 := 35#32
  let v0 : BitVec 32 := Scalar.addi c0_i32 c35_i32
  let c1_i32 : BitVec 32 := 1#32
  ⟨c0_i32, v0, c1_i32⟩
def k0_mult1 (k0_t1 : Fin k0_t1_loop.trips) : BitVec 32 :=
  let c0_i32_16 : BitVec 32 := 0#32
  let c0_i32 : BitVec 32 := 0#32
  let c1_i32 : BitVec 32 := 1#32
  let arg20 : BitVec 32 := Scf.iv c0_i32 c1_i32 k0_t1
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  v11
def k0_off1 (k0_t1 : Fin k0_t1_loop.trips) : Fin 1 → Nat :=
  let c0_i32_16 : BitVec 32 := 0#32
  let c0_i32 : BitVec 32 := 0#32
  let c1_i32 : BitVec 32 := 1#32
  let arg20 : BitVec 32 := Scf.iv c0_i32 c1_i32 k0_t1
  let c1_i32_15 : BitVec 32 := 1#32
  let v9 : BitVec 32 := Scalar.muli arg20 c1_i32_15
  let v10 : BitVec 32 := Scalar.addi c0_i32_16 v9
  ![v10.toNat]
def k0_off2 (k0_t1 : Fin k0_t1_loop.trips) : Fin 2 → Nat :=
  let c0_i32_16 : BitVec 32 := 0#32
  let c0_i32 : BitVec 32 := 0#32
  let c1_i32 : BitVec 32 := 1#32
  let arg20 : BitVec 32 := Scf.iv c0_i32 c1_i32 k0_t1
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  let v12 : BitVec 32 := v11
  let c0_i32_17 : BitVec 32 := 0#32
  ![v12.toNat, 0]
@[reducible] def k0_t2_loop : Scf.Loop 32 :=
  let c0_i32_1 : BitVec 32 := 0#32
  let c20_i32 : BitVec 32 := 20#32
  let v1 : BitVec 32 := Scalar.addi c0_i32_1 c20_i32
  let c1_i32_2 : BitVec 32 := 1#32
  ⟨c0_i32_1, v1, c1_i32_2⟩
def k0_mult2 (k0_t2 : Fin k0_t2_loop.trips) : BitVec 32 :=
  let c0_i32_16 : BitVec 32 := 0#32
  let c0_i32_1 : BitVec 32 := 0#32
  let c1_i32_2 : BitVec 32 := 1#32
  let arg20 : BitVec 32 := Scf.iv c0_i32_1 c1_i32_2 k0_t2
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  v11
def k0_off3 (k0_t2 : Fin k0_t2_loop.trips) : Fin 1 → Nat :=
  let c0_i32_16 : BitVec 32 := 0#32
  let c0_i32_1 : BitVec 32 := 0#32
  let c1_i32_2 : BitVec 32 := 1#32
  let arg20 : BitVec 32 := Scf.iv c0_i32_1 c1_i32_2 k0_t2
  let c1_i32_15 : BitVec 32 := 1#32
  let v9 : BitVec 32 := Scalar.muli arg20 c1_i32_15
  let v10 : BitVec 32 := Scalar.addi c0_i32_16 v9
  ![v10.toNat]
def k0_off4 (k0_t2 : Fin k0_t2_loop.trips) : Fin 2 → Nat :=
  let c0_i32_17 : BitVec 32 := 0#32
  let c0_i32_16 : BitVec 32 := 0#32
  let c0_i32_1 : BitVec 32 := 0#32
  let c1_i32_2 : BitVec 32 := 1#32
  let arg20 : BitVec 32 := Scf.iv c0_i32_1 c1_i32_2 k0_t2
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  let v12 : BitVec 32 := v11
  ![0, v12.toNat]
@[reducible] def k0_t3_loop : Scf.Loop 32 :=
  let c0_i32_7 : BitVec 32 := 0#32
  let c35_i32_8 : BitVec 32 := 35#32
  let v7 : BitVec 32 := Scalar.addi c0_i32_7 c35_i32_8
  let c1_i32_9 : BitVec 32 := 1#32
  ⟨c0_i32_7, v7, c1_i32_9⟩
def k0_mult3 (k0_t3 : Fin k0_t3_loop.trips) : BitVec 32 :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  v11
def k0_off5 (k0_t3 : Fin k0_t3_loop.trips) : Fin 1 → Nat :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  ![v10.toNat]
def k0_off6 (k0_t3 : Fin k0_t3_loop.trips) : Fin 2 → Nat :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32 : BitVec 32 := 128#32
  let v11 : BitVec 32 := Scalar.muli v10 c128_i32
  let v12 : BitVec 32 := v11
  let c0_i32_17 : BitVec 32 := 0#32
  ![v12.toNat, 0]
def k0_mult4 (k0_t3 : Fin k0_t3_loop.trips) : BitVec 32 :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  v21
def k0_off7 (k0_t3 : Fin k0_t3_loop.trips) : Fin 2 → Nat :=
  let c0_22 : Index := 0#32
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  let v22 : BitVec 32 := v21
  let v23 : Index := Scalar.indexCast v22
  ![0, v23.toNat]
def k0_off8 (k0_t3 : Fin k0_t3_loop.trips) : Fin 2 → Nat :=
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  let v22 : BitVec 32 := v21
  let v47 : Index := Scalar.indexCast v22
  let c0_36 : Index := 0#32
  ![v47.toNat, 0]
def k0_off9 (k0_t3 : Fin k0_t3_loop.trips) : Fin 3 → Nat :=
  let c0_65 : Index := 0#32
  let c0_i32_16 : BitVec 32 := 0#32
  let c0_i32_7 : BitVec 32 := 0#32
  let c1_i32_9 : BitVec 32 := 1#32
  let arg20 : BitVec 32 := Scf.iv c0_i32_7 c1_i32_9 k0_t3
  let c1_i32_15 : BitVec 32 := 1#32
  let v9 : BitVec 32 := Scalar.muli arg20 c1_i32_15
  let v10 : BitVec 32 := Scalar.addi c0_i32_16 v9
  let c128_i32_21 : BitVec 32 := 128#32
  let v21 : BitVec 32 := Scalar.muli v10 c128_i32_21
  let v22 : BitVec 32 := v21
  let v134 : Index := Scalar.indexCast v22
  ![0, 0, v134.toNat]
@[reducible] def k0_t4_loop : Scf.Loop 32 :=
  let c0_i32_11 : BitVec 32 := 0#32
  let c20_i32_12 : BitVec 32 := 20#32
  let v8 : BitVec 32 := Scalar.addi c0_i32_11 c20_i32_12
  let c1_i32_13 : BitVec 32 := 1#32
  ⟨c0_i32_11, v8, c1_i32_13⟩
def k0_mult5 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  v11
def k0_off10 (k0_t4 : Fin k0_t4_loop.trips) : Fin 1 → Nat :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  ![v10.toNat]
def k0_off11 (k0_t4 : Fin k0_t4_loop.trips) : Fin 2 → Nat :=
  let c0_i32_17 : BitVec 32 := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32 : BitVec 32 := 256#32
  let v11 : BitVec 32 := Scalar.muli v10 c256_i32
  let v12 : BitVec 32 := v11
  ![0, v12.toNat]
def k0_mult6 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_19 : BitVec 32 := 256#32
  let v17 : BitVec 32 := Scalar.muli v10 c256_i32_19
  let c0_i32_20 : BitVec 32 := 0#32
  let v18 : BitVec 32 := Scalar.addi v17 c0_i32_20
  v18
def k0_off12 (k0_t4 : Fin k0_t4_loop.trips) (c0_i32_20 : BitVec 32) : Fin 2 → Nat :=
  let c0_21 : Index := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_19 : BitVec 32 := 256#32
  let v17 : BitVec 32 := Scalar.muli v10 c256_i32_19
  let v18 : BitVec 32 := Scalar.addi v17 c0_i32_20
  let v19 : BitVec 32 := v18
  let v20 : Index := Scalar.indexCast v19
  ![0, v20.toNat]
def k0_off13 (k0_t4 : Fin k0_t4_loop.trips) (c0_i32_20 : BitVec 32) : Fin 2 → Nat :=
  let c0_28 : Index := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_19 : BitVec 32 := 256#32
  let v17 : BitVec 32 := Scalar.muli v10 c256_i32_19
  let v18 : BitVec 32 := Scalar.addi v17 c0_i32_20
  let v19 : BitVec 32 := v18
  let v32 : Index := Scalar.indexCast v19
  ![0, v32.toNat]
def k0_mult7 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_40 : BitVec 32 := 256#32
  let v69 : BitVec 32 := Scalar.muli v10 c256_i32_40
  let c128_i32 : BitVec 32 := 128#32
  let v70 : BitVec 32 := Scalar.addi v69 c128_i32
  v70
def k0_mult8 (k0_t4 : Fin k0_t4_loop.trips) : BitVec 32 :=
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_65 : BitVec 32 := 256#32
  let v126 : BitVec 32 := Scalar.muli v10 c256_i32_65
  v126
def k0_off14 (k0_t4 : Fin k0_t4_loop.trips) : Fin 2 → Nat :=
  let c0_66 : Index := 0#32
  let c0_i32_16 : BitVec 32 := 0#32
  let c0_i32_11 : BitVec 32 := 0#32
  let c1_i32_13 : BitVec 32 := 1#32
  let arg20 : BitVec 32 := Scf.iv c0_i32_11 c1_i32_13 k0_t4
  let c1_i32_15 : BitVec 32 := 1#32
  let v9 : BitVec 32 := Scalar.muli arg20 c1_i32_15
  let v10 : BitVec 32 := Scalar.addi c0_i32_16 v9
  let c256_i32_65 : BitVec 32 := 256#32
  let v126 : BitVec 32 := Scalar.muli v10 c256_i32_65
  let v127 : BitVec 32 := v126
  let v128 : Index := Scalar.indexCast v127
  ![0, v128.toNat]
-- ==== ReferenceIdeal.lean ====
abbrev S128x1x5120 : Shape := ⟨3, ![128, 1, 5120]⟩
abbrev S4480x2560 : Shape := ⟨2, ![4480, 2560]⟩
abbrev S4480x160 : Shape := ⟨2, ![4480, 160]⟩
abbrev S5120x2240 : Shape := ⟨2, ![5120, 2240]⟩
abbrev S5120x140 : Shape := ⟨2, ![5120, 140]⟩
abbrev S_ : Shape := ⟨0, ![]⟩
abbrev S4480x160x16 : Shape := ⟨3, ![4480, 160, 16]⟩
abbrev S128x1x2560 : Shape := ⟨3, ![128, 1, 2560]⟩
abbrev S128x1x4480 : Shape := ⟨3, ![128, 1, 4480]⟩
abbrev S5120x140x16 : Shape := ⟨3, ![5120, 140, 16]⟩
abbrev S128x1x2240 : Shape := ⟨3, ![128, 1, 2240]⟩
abbrev S128x5120 : Shape := ⟨2, ![128, 5120]⟩

abbrev nBuf : Space → Nat
  | .hbm => 209
  | .vmem => 0
  | .smem => 0
  | _ => 0

abbrev hbmTy0_0 (i : Nat) : BufTy := match i % 128 with
  | 0 => ⟨S128x1x5120, .bf16⟩
  | 1 => ⟨S4480x2560, .i8⟩
  | 2 => ⟨S4480x160, .i16⟩
  | 3 => ⟨S4480x2560, .i8⟩
  | 4 => ⟨S4480x160, .i16⟩
  | 5 => ⟨S5120x2240, .i8⟩
  | 6 => ⟨S5120x140, .i16⟩
  | 7 => ⟨S4480x160, .i32⟩
  | 8 => ⟨S_, .i32⟩
  | 9 => ⟨S4480x160, .i32⟩
  | 10 => ⟨S4480x160, .i32⟩
  | 11 => ⟨S_, .i32⟩
  | 12 => ⟨S4480x160, .i32⟩
  | 13 => ⟨S4480x160, .i32⟩
  | 14 => ⟨S_, .i32⟩
  | 15 => ⟨S4480x160, .i32⟩
  | 16 => ⟨S4480x160, .i32⟩
  | 17 => ⟨S_, .i32⟩
  | 18 => ⟨S4480x160, .i32⟩
  | 19 => ⟨S4480x160, .i32⟩
  | 20 => ⟨S_, .i32⟩
  | 21 => ⟨S4480x160, .i32⟩
  | 22 => ⟨S4480x160, .i1⟩
  | 23 => ⟨S_, .i32⟩
  | 24 => ⟨S4480x160, .i32⟩
  | 25 => ⟨S4480x160, .i32⟩
  | 26 => ⟨S4480x160, .i32⟩
  | 27 => ⟨S4480x160, .f32⟩
  | 28 => ⟨S_, .i32⟩
  | 29 => ⟨S4480x160, .i32⟩
  | 30 => ⟨S4480x160, .i32⟩
  | 31 => ⟨S_, .i32⟩
  | 32 => ⟨S4480x160, .i32⟩
  | 33 => ⟨S4480x160, .i32⟩
  | 34 => ⟨S_, .i32⟩
  | 35 => ⟨S4480x160, .i32⟩
  | 36 => ⟨S4480x160, .i32⟩
  | 37 => ⟨S4480x160, .f32⟩
  | 38 => ⟨S4480x160, .f32⟩
  | 39 => ⟨S_, .i32⟩
  | 40 => ⟨S4480x160, .i32⟩
  | 41 => ⟨S4480x160, .i1⟩
  | 42 => ⟨S4480x160, .f32⟩
  | 43 => ⟨S4480x160, .f32⟩
  | 44 => ⟨S4480x160x16, .f32⟩
  | 45 => ⟨S4480x2560, .f32⟩
  | 46 => ⟨S4480x2560, .i32⟩
  | 47 => ⟨S_, .i32⟩
  | 48 => ⟨S4480x2560, .i32⟩
  | 49 => ⟨S4480x2560, .i32⟩
  | 50 => ⟨S4480x2560, .f32⟩
  | 51 => ⟨S_, .i32⟩
  | 52 => ⟨S4480x2560, .i32⟩
  | 53 => ⟨S4480x2560, .i32⟩
  | 54 => ⟨S4480x2560, .f32⟩
  | 55 => ⟨S_, .f32⟩
  | 56 => ⟨S4480x2560, .f32⟩
  | 57 => ⟨S4480x2560, .f32⟩
  | 58 => ⟨S4480x2560, .f32⟩
  | 59 => ⟨S4480x2560, .bf16⟩
  | 60 => ⟨S_, .f32⟩
  | 61 => ⟨S4480x2560, .f32⟩
  | 62 => ⟨S4480x2560, .f32⟩
  | 63 => ⟨S4480x2560, .f32⟩
  | 64 => ⟨S4480x2560, .bf16⟩
  | 65 => ⟨S128x1x2560, .bf16⟩
  | 66 => ⟨S128x1x4480, .f32⟩
  | 67 => ⟨S128x1x2560, .bf16⟩
  | 68 => ⟨S128x1x4480, .f32⟩
  | 69 => ⟨S128x1x4480, .f32⟩
  | 70 => ⟨S4480x160, .i32⟩
  | 71 => ⟨S_, .i32⟩
  | 72 => ⟨S4480x160, .i32⟩
  | 73 => ⟨S4480x160, .i32⟩
  | 74 => ⟨S_, .i32⟩
  | 75 => ⟨S4480x160, .i32⟩
  | 76 => ⟨S4480x160, .i32⟩
  | 77 => ⟨S_, .i32⟩
  | 78 => ⟨S4480x160, .i32⟩
  | 79 => ⟨S4480x160, .i32⟩
  | 80 => ⟨S_, .i32⟩
  | 81 => ⟨S4480x160, .i32⟩
  | 82 => ⟨S4480x160, .i32⟩
  | 83 => ⟨S_, .i32⟩
  | 84 => ⟨S4480x160, .i32⟩
  | 85 => ⟨S4480x160, .i1⟩
  | 86 => ⟨S_, .i32⟩
  | 87 => ⟨S4480x160, .i32⟩
  | 88 => ⟨S4480x160, .i32⟩
  | 89 => ⟨S4480x160, .i32⟩
  | 90 => ⟨S4480x160, .f32⟩
  | 91 => ⟨S_, .i32⟩
  | 92 => ⟨S4480x160, .i32⟩
  | 93 => ⟨S4480x160, .i32⟩
  | 94 => ⟨S_, .i32⟩
  | 95 => ⟨S4480x160, .i32⟩
  | 96 => ⟨S4480x160, .i32⟩
  | 97 => ⟨S_, .i32⟩
  | 98 => ⟨S4480x160, .i32⟩
  | 99 => ⟨S4480x160, .i32⟩
  | 100 => ⟨S4480x160, .f32⟩
  | 101 => ⟨S4480x160, .f32⟩
  | 102 => ⟨S_, .i32⟩
  | 103 => ⟨S4480x160, .i32⟩
  | 104 => ⟨S4480x160, .i1⟩
  | 105 => ⟨S4480x160, .f32⟩
  | 106 => ⟨S4480x160, .f32⟩
  | 107 => ⟨S4480x160x16, .f32⟩
  | 108 => ⟨S4480x2560, .f32⟩
  | 109 => ⟨S4480x2560, .i32⟩
  | 110 => ⟨S_, .i32⟩
  | 111 => ⟨S4480x2560, .i32⟩
  | 112 => ⟨S4480x2560, .i32⟩
  | 113 => ⟨S4480x2560, .f32⟩
  | 114 => ⟨S_, .i32⟩
  | 115 => ⟨S4480x2560, .i32⟩
  | 116 => ⟨S4480x2560, .i32⟩
  | 117 => ⟨S4480x2560, .f32⟩
  | 118 => ⟨S_, .f32⟩
  | 119 => ⟨S4480x2560, .f32⟩
  | 120 => ⟨S4480x2560, .f32⟩
  | 121 => ⟨S4480x2560, .f32⟩
  | 122 => ⟨S4480x2560, .bf16⟩
  | 123 => ⟨S_, .f32⟩
  | 124 => ⟨S4480x2560, .f32⟩
  | 125 => ⟨S4480x2560, .f32⟩
  | 126 => ⟨S4480x2560, .f32⟩
  | 127 => ⟨S4480x2560, .bf16⟩
  | _ => ⟨S128x1x5120, .bf16⟩

abbrev hbmTy0_1 (i : Nat) : BufTy := match i % 128 with
  | 0 => ⟨S128x1x2560, .bf16⟩
  | 1 => ⟨S128x1x4480, .f32⟩
  | 2 => ⟨S128x1x2560, .bf16⟩
  | 3 => ⟨S128x1x4480, .f32⟩
  | 4 => ⟨S128x1x4480, .f32⟩
  | 5 => ⟨S128x1x4480, .f32⟩
  | 6 => ⟨S128x1x4480, .f32⟩
  | 7 => ⟨S_, .f32⟩
  | 8 => ⟨S128x1x4480, .f32⟩
  | 9 => ⟨S128x1x4480, .f32⟩
  | 10 => ⟨S_, .f32⟩
  | 11 => ⟨S128x1x4480, .f32⟩
  | 12 => ⟨S128x1x4480, .f32⟩
  | 13 => ⟨S128x1x4480, .f32⟩
  | 14 => ⟨S128x1x4480, .f32⟩
  | 15 => ⟨S128x1x4480, .bf16⟩
  | 16 => ⟨S5120x140, .i32⟩
  | 17 => ⟨S_, .i32⟩
  | 18 => ⟨S5120x140, .i32⟩
  | 19 => ⟨S5120x140, .i32⟩
  | 20 => ⟨S_, .i32⟩
  | 21 => ⟨S5120x140, .i32⟩
  | 22 => ⟨S5120x140, .i32⟩
  | 23 => ⟨S_, .i32⟩
  | 24 => ⟨S5120x140, .i32⟩
  | 25 => ⟨S5120x140, .i32⟩
  | 26 => ⟨S_, .i32⟩
  | 27 => ⟨S5120x140, .i32⟩
  | 28 => ⟨S5120x140, .i32⟩
  | 29 => ⟨S_, .i32⟩
  | 30 => ⟨S5120x140, .i32⟩
  | 31 => ⟨S5120x140, .i1⟩
  | 32 => ⟨S_, .i32⟩
  | 33 => ⟨S5120x140, .i32⟩
  | 34 => ⟨S5120x140, .i32⟩
  | 35 => ⟨S5120x140, .i32⟩
  | 36 => ⟨S5120x140, .f32⟩
  | 37 => ⟨S_, .i32⟩
  | 38 => ⟨S5120x140, .i32⟩
  | 39 => ⟨S5120x140, .i32⟩
  | 40 => ⟨S_, .i32⟩
  | 41 => ⟨S5120x140, .i32⟩
  | 42 => ⟨S5120x140, .i32⟩
  | 43 => ⟨S_, .i32⟩
  | 44 => ⟨S5120x140, .i32⟩
  | 45 => ⟨S5120x140, .i32⟩
  | 46 => ⟨S5120x140, .f32⟩
  | 47 => ⟨S5120x140, .f32⟩
  | 48 => ⟨S_, .i32⟩
  | 49 => ⟨S5120x140, .i32⟩
  | 50 => ⟨S5120x140, .i1⟩
  | 51 => ⟨S5120x140, .f32⟩
  | 52 => ⟨S5120x140, .f32⟩
  | 53 => ⟨S5120x140x16, .f32⟩
  | 54 => ⟨S5120x2240, .f32⟩
  | 55 => ⟨S5120x2240, .i32⟩
  | 56 => ⟨S_, .i32⟩
  | 57 => ⟨S5120x2240, .i32⟩
  | 58 => ⟨S5120x2240, .i32⟩
  | 59 => ⟨S5120x2240, .f32⟩
  | 60 => ⟨S_, .i32⟩
  | 61 => ⟨S5120x2240, .i32⟩
  | 62 => ⟨S5120x2240, .i32⟩
  | 63 => ⟨S5120x2240, .f32⟩
  | 64 => ⟨S_, .f32⟩
  | 65 => ⟨S5120x2240, .f32⟩
  | 66 => ⟨S5120x2240, .f32⟩
  | 67 => ⟨S5120x2240, .f32⟩
  | 68 => ⟨S5120x2240, .bf16⟩
  | 69 => ⟨S_, .f32⟩
  | 70 => ⟨S5120x2240, .f32⟩
  | 71 => ⟨S5120x2240, .f32⟩
  | 72 => ⟨S5120x2240, .f32⟩
  | 73 => ⟨S5120x2240, .bf16⟩
  | 74 => ⟨S128x1x2240, .bf16⟩
  | 75 => ⟨S128x1x5120, .f32⟩
  | 76 => ⟨S128x1x2240, .bf16⟩
  | 77 => ⟨S128x1x5120, .f32⟩
  | 78 => ⟨S128x1x5120, .f32⟩
  | 79 => ⟨S128x1x5120, .bf16⟩
  | 80 => ⟨S128x5120, .bf16⟩
  | _ => ⟨S128x1x5120, .bf16⟩

abbrev hbmTy (i : Nat) : BufTy := match i / 128 with
  | 0 => hbmTy0_0 i
  | 1 => hbmTy0_1 i
  | _ => ⟨S128x1x5120, .bf16⟩

abbrev bufTy : (tb : Table) → Fin (tcTables nBuf tb) → BufTy
  | .hbm, ⟨i, _⟩ => hbmTy i
  | _, _ => ⟨S128x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_c_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_18 : Ref sig .tc := ⟨.hbm, 91, rfl⟩
abbrev main_v64 : Ref sig .tc := ⟨.hbm, 92, rfl⟩
abbrev main_v65 : Ref sig .tc := ⟨.hbm, 93, rfl⟩
abbrev main_c_19 : Ref sig .tc := ⟨.hbm, 94, rfl⟩
abbrev main_v66 : Ref sig .tc := ⟨.hbm, 95, rfl⟩
abbrev main_v67 : Ref sig .tc := ⟨.hbm, 96, rfl⟩
abbrev main_c_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_22 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_25 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_26 : Ref sig .tc := ⟨.hbm, 135, rfl⟩
abbrev main_v100 : Ref sig .tc := ⟨.hbm, 136, rfl⟩
abbrev main_v101 : Ref sig .tc := ⟨.hbm, 137, rfl⟩
abbrev main_cst_27 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_28 : Ref sig .tc := ⟨.hbm, 145, rfl⟩
abbrev main_v108 : Ref sig .tc := ⟨.hbm, 146, rfl⟩
abbrev main_v109 : Ref sig .tc := ⟨.hbm, 147, rfl⟩
abbrev main_c_29 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_c_31 : Ref sig .tc := ⟨.hbm, 154, rfl⟩
abbrev main_v114 : Ref sig .tc := ⟨.hbm, 155, rfl⟩
abbrev main_v115 : Ref sig .tc := ⟨.hbm, 156, rfl⟩
abbrev main_c_32 : Ref sig .tc := ⟨.hbm, 157, rfl⟩
abbrev main_v116 : Ref sig .tc := ⟨.hbm, 158, rfl⟩
abbrev main_v117 : Ref sig .tc := ⟨.hbm, 159, rfl⟩
abbrev main_c_33 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_34 : Ref sig .tc := ⟨.hbm, 165, rfl⟩
abbrev main_v122 : Ref sig .tc := ⟨.hbm, 166, rfl⟩
abbrev main_v123 : Ref sig .tc := ⟨.hbm, 167, rfl⟩
abbrev main_c_35 : Ref sig .tc := ⟨.hbm, 168, rfl⟩
abbrev main_v124 : Ref sig .tc := ⟨.hbm, 169, rfl⟩
abbrev main_v125 : Ref sig .tc := ⟨.hbm, 170, rfl⟩
abbrev main_c_36 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_37 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_38 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_c_39 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_40 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_41 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩

abbrev nD : Nat := 1
abbrev τ : Topo := Topo.v7x

variable {F : FTy → Type} [FloatOps F]
-- ==== Proof.BitsParts.lean ====
/-
  The body of the kernel run once, over bit patterns: the row blocks of the gate and up codes and the column blocks of
  the down codes are families of transfers, each started by a trip of one loop and awaited by a trip of a later one.
-/
module

public import proofs.«01_k».proof.Proof.Gen.Kernel.Frame
public import proofs.«01_k».proof.Proof.Gen.Kernel.Loops
public import Idealize.ShloMosaic.Lib.Batch
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The operands -/

abbrev mX : Memref sig .tc .hbm S128x5120 .bf16 := Memref.whole main_v264
abbrev mG : Memref sig .tc .hbm S4480x2560 .i8 := Memref.whole main_arg1
abbrev mU : Memref sig .tc .hbm S4480x2560 .i8 := Memref.whole main_arg3
abbrev mD : Memref sig .tc .hbm S2240x5120 .i8 := Memref.whole main_v265
abbrev mGs : Memref sig .tc .vmem S160x4480 .i32 := Memref.whole main_v87
abbrev mUs : Memref sig .tc .vmem S160x4480 .i32 := Memref.whole main_v175
abbrev mDs : Memref sig .tc .vmem S140x5120 .i32 := Memref.whole main_v263
abbrev mO : Memref sig .tc .hbm S128x5120 .bf16 := Memref.whole main_v266
abbrev sIo : Memref sig .tc .vmem S128x5120 .bf16 := Memref.whole cc0_scratch0
abbrev sG : Memref sig .tc .vmem S4480x2560 .i8 := Memref.whole cc0_scratch1
abbrev sU : Memref sig .tc .vmem S4480x2560 .i8 := Memref.whole cc0_scratch2
abbrev sD : Memref sig .tc .vmem S2240x5120 .i8 := Memref.whole cc0_scratch3
abbrev sX : Memref sig .tc .vmem S64x5120 .i32 := Memref.whole cc0_scratch4
abbrev sH : Memref sig .tc .vmem S64x4480 .i32 := Memref.whole cc0_scratch5
abbrev sHiLo : Memref sig .tc .vmem S2x160x128 .i32 := Memref.whole cc0_scratch6
abbrev sLoHi : Memref sig .tc .vmem S2x160x128 .i32 := Memref.whole cc0_scratch7

/-- What a buffer holds, on a core. -/
abbrev Cont (c : Dev nD) {sp : Space} {S : Shape} {e : EltTy} (M : Memref sig .tc sp S e) : Type := Buf (Elt F) (M.view.loc (c : Thread nD τ))
/-- A buffer whole. -/
abbrev pt (c : Dev nD) {sp : Space} {S : Shape} {e : EltTy} (M : Memref sig .tc sp S e) (f : Cont (F := F) c M) : sProp 𝕄 :=
  M.view.loc (c : Thread nD τ) ↦{fullShare} f
/-- A buffer's elements under a view of it. -/
abbrev ptV (c : Dev nD) {sp : Space} {S : Shape} {e : EltTy} (M : Memref sig .tc sp S e) (f : Cont (F := F) c M) : sProp 𝕄 :=
  M.view.loc (c : Thread nD τ) ↦[M.view.set]{fullShare} f

/-- Rows of a code array, as the transfers name them. -/
abbrev rowBlk {sp : Space} (M : Memref sig .tc sp S4480x2560 .i8) (o : Fin 2 → ℕ) (h : ∀ a, o a + S128x2560.size a ≤ S4480x2560.size a) :
    Memref sig .tc sp S128x2560 .i8 := M.slice (Rect.unit (s := S4480x2560) o S128x2560.size h) (fun _ => rfl)
/-- Columns of the down codes, as the transfers name them. -/
abbrev colBlk {sp : Space} (M : Memref sig .tc sp S2240x5120 .i8) (o : Fin 2 → ℕ) (h : ∀ a, o a + S2240x256.size a ≤ S2240x5120.size a) :
    Memref sig .tc sp S2240x256 .i8 := M.slice (Rect.unit (s := S2240x5120) o S2240x256.size h) (fun _ => rfl)
/-- The semaphore cells of the two families, as the transfers name them. -/
abbrev rowCell (o : Fin 1 → ℕ) (h : ∀ a, o a + S1.size a ≤ S35.size a) : DmaSem sig :=
  ((cc0_scratch9.slice (Rect.unit (s := S35) o S1.size h)).squeeze S_ squeezes_S1_S_).sem
abbrev colCell (o : Fin 1 → ℕ) (h : ∀ a, o a + S1.size a ≤ S20.size a) : DmaSem sig :=
  ((cc0_scratch10.slice (Rect.unit (s := S20) o S1.size h)).squeeze S_ squeezes_S1_S_).sem

/-! ## One member of the family of row blocks: at rest, in flight, landed -/

section Rows

variable (c : Dev nD) (f1 : Cont (F := F) c mG) (f2 : Cont (F := F) c mU)
variable (p : Fin 1 → ℕ) (hp : ∀ a, p a + S1.size a ≤ S35.size a) (o : Fin 2 → ℕ) (ho : ∀ a, o a + S128x2560.size a ≤ S4480x2560.size a)

/-- What a landed block of gate codes holds, over what was there. -/
abbrev gLand (d : Cont (F := F) c (rowBlk sG o ho)) : Cont (F := F) c (rowBlk sG o ho) :=
  (rowBlk sG o ho).view.writes (Elt F) d [⟨Rect.whole S128x2560, ReadAs.same.apply ((rowBlk mG o ho).view.read (Elt F) f1)⟩]
abbrev uLand (d : Cont (F := F) c (rowBlk sU o ho)) : Cont (F := F) c (rowBlk sU o ho) :=
  (rowBlk sU o ho).view.writes (Elt F) d [⟨Rect.whole S128x2560, ReadAs.same.apply ((rowBlk mU o ho).view.read (Elt F) f2)⟩]

def rowDeliv (d1 : Cont (F := F) c (rowBlk sG o ho)) (d2 : Cont (F := F) c (rowBlk sU o ho)) : Fin 2 → sProp 𝕄
  | 0 => iprop(ptV c (rowBlk sG o ho) (gLand c f1 o ho d1) ∗ ptV c (rowBlk mG o ho) f1)
  | 1 => iprop(ptV c (rowBlk sU o ho) (uLand c f2 o ho d2) ∗ ptV c (rowBlk mU o ho) f2)
instance rowDeliv_storable (d1 : Cont (F := F) c (rowBlk sG o ho)) (d2 : Cont (F := F) c (rowBlk sU o ho)) (t : Fin 2) :
    Storable (upEmb : UEmb _ 𝕄) (rowDeliv c f1 f2 o ho d1 d2 t) := by
  fin_cases t <;> simp only [rowDeliv] <;> infer_instance

def rowIdle : sProp 𝕄 :=
  iprop(semVal ((c : Thread nD τ), SemLoc.dma (rowCell p hp)) 0 ∗ ptV c (rowBlk mG o ho) f1 ∗ ptV c (rowBlk mU o ho) f2
    ∗ (∃ d, ptV c (rowBlk sG o ho) d) ∗ (∃ d, ptV c (rowBlk sU o ho) d))
def rowFly : sProp 𝕄 :=
  iprop(∃ d1 d2, Transfers.Batch (countersEmb (U := Pipeline.UD sig nD τ)) (c : Thread nD τ) (.dma (rowCell p hp)) () 10240
    (rowDeliv c f1 f2 o ho d1 d2) 2 0)
end Rows

theorem inbC35 (b : Fin 35) : ∀ a, (![b.val] : Fin 1 → ℕ) a + S1.size a ≤ S35.size a := by
  have := b.isLt; intro a; fin_cases a; show b.val + 1 ≤ 35; omega
theorem inbR35 (b : Fin 35) : ∀ a, (![128 * b.val, 0] : Fin 2 → ℕ) a + S128x2560.size a ≤ S4480x2560.size a := by
  have := b.isLt; intro a; fin_cases a
  · show 128 * b.val + 128 ≤ 4480; omega
  · show 0 + 2560 ≤ 2560; omega

theorem rowIdle_congr (c : Dev nD) (f1 : Cont (F := F) c mG) (f2 : Cont (F := F) c mU) {p p' : Fin 1 → ℕ} {o o' : Fin 2 → ℕ} (hpp : p = p') (hoo : o = o')
    (hp hp' ho ho') : rowIdle c f1 f2 p hp o ho = rowIdle c f1 f2 p' hp' o' ho' := by subst hpp; subst hoo; rfl
theorem rowFly_congr (c : Dev nD) (f1 : Cont (F := F) c mG) (f2 : Cont (F := F) c mU) {p p' : Fin 1 → ℕ} {o o' : Fin 2 → ℕ} (hpp : p = p') (hoo : o = o')
    (hp hp' ho ho') : rowFly c f1 f2 p hp o ho = rowFly c f1 f2 p' hp' o' ho' := by subst hpp; subst hoo; rfl
abbrev idleR (c : Dev nD) (f1 : Cont (F := F) c mG) (f2 : Cont (F := F) c mU) (b : Fin 35) : sProp 𝕄 := rowIdle c f1 f2 ![b.val] (inbC35 b) ![128 * b.val, 0] (inbR35 b)
abbrev flyR (c : Dev nD) (f1 : Cont (F := F) c mG) (f2 : Cont (F := F) c mU) (b : Fin 35) : sProp 𝕄 := rowFly c f1 f2 ![b.val] (inbC35 b) ![128 * b.val, 0] (inbR35 b)
/-! ## One member of the family of column blocks: at rest, in flight, landed -/

section Cols

variable (c : Dev nD) (f3 : Cont (F := F) c mD)
variable (p : Fin 1 → ℕ) (hp : ∀ a, p a + S1.size a ≤ S20.size a) (o : Fin 2 → ℕ) (ho : ∀ a, o a + S2240x256.size a ≤ S2240x5120.size a)

/-- What a landed block of down codes holds, over what was there. -/
abbrev dLand (d : Cont (F := F) c (colBlk sD o ho)) : Cont (F := F) c (colBlk sD o ho) :=
  (colBlk sD o ho).view.writes (Elt F) d [⟨Rect.whole S2240x256, ReadAs.same.apply ((colBlk mD o ho).view.read (Elt F) f3)⟩]

def colDeliv (d : Cont (F := F) c (colBlk sD o ho)) : Fin 1 → sProp 𝕄
  | 0 => iprop(ptV c (colBlk sD o ho) (dLand c f3 o ho d) ∗ ptV c (colBlk mD o ho) f3)
instance colDeliv_storable (d : Cont (F := F) c (colBlk sD o ho)) (t : Fin 1) : Storable (upEmb : UEmb _ 𝕄) (colDeliv c f3 o ho d t) := by
  fin_cases t; simp only [colDeliv]; infer_instance

def colIdle : sProp 𝕄 :=
  iprop(semVal ((c : Thread nD τ), SemLoc.dma (colCell p hp)) 0 ∗ ptV c (colBlk mD o ho) f3 ∗ (∃ d, ptV c (colBlk sD o ho) d))
def colFly : sProp 𝕄 :=
  iprop(∃ d, Transfers.Batch (countersEmb (U := Pipeline.UD sig nD τ)) (c : Thread nD τ) (.dma (colCell p hp)) () 17920
    (colDeliv c f3 o ho d) 1 0)

end Cols

theorem inbC20 (b : Fin 20) : ∀ a, (![b.val] : Fin 1 → ℕ) a + S1.size a ≤ S20.size a := by
  have := b.isLt; intro a; fin_cases a; show b.val + 1 ≤ 20; omega
theorem inbR20 (b : Fin 20) : ∀ a, (![0, 256 * b.val] : Fin 2 → ℕ) a + S2240x256.size a ≤ S2240x5120.size a := by
  have := b.isLt; intro a; fin_cases a
  · show 0 + 2240 ≤ 2240; omega
  · show 256 * b.val + 256 ≤ 5120; omega

theorem colIdle_congr (c : Dev nD) (f3 : Cont (F := F) c mD) {p p' : Fin 1 → ℕ} {o o' : Fin 2 → ℕ} (hpp : p = p') (hoo : o = o')
    (hp hp' ho ho') : colIdle c f3 p hp o ho = colIdle c f3 p' hp' o' ho' := by subst hpp; subst hoo; rfl
theorem colFly_congr (c : Dev nD) (f3 : Cont (F := F) c mD) {p p' : Fin 1 → ℕ} {o o' : Fin 2 → ℕ} (hpp : p = p') (hoo : o = o')
    (hp hp' ho ho') : colFly c f3 p hp o ho = colFly c f3 p' hp' o' ho' := by subst hpp; subst hoo; rfl

abbrev idleD (c : Dev nD) (f3 : Cont (F := F) c mD) (b : Fin 20) : sProp 𝕄 := colIdle c f3 ![b.val] (inbC20 b) ![0, 256 * b.val] (inbR20 b)
abbrev flyD (c : Dev nD) (f3 : Cont (F := F) c mD) (b : Fin 20) : sProp 𝕄 := colFly c f3 ![b.val] (inbC20 b) ![0, 256 * b.val] (inbR20 b)

theorem trips1 : k0_t1_loop.trips = 35 := by decide
theorem trips2 : k0_t2_loop.trips = 20 := by decide
theorem trips3 : k0_t3_loop.trips = 35 := by decide
theorem trips4 : k0_t4_loop.trips = 20 := by decide

end Cert.Kernel.Hand

end
-- ==== Proof.BitsStep1.lean ====
/-
  One trip of the loop that starts the transfers of the gate and up codes.
-/
module

public import proofs.«01_k».proof.Proof.BitsParts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The loop that starts the row blocks' transfers -/

def inv1 (c : Dev nD) (f1 : Cont (F := F) c mG) (f2 : Cont (F := F) c mU) (k : ℕ) (_ : Unit) : sProp 𝕄 :=
  iprop(bigSep (Ring.rangeSet 35 0 k) (flyR c f1 f2) ∗ bigSep (Ring.rangeSet 35 k 35) (idleR c f1 f2))

abbrev body1 : Fin k0_t1_loop.trips → Unit → Prog (TpuEff nD τ sig (Elt F) Λ₀ .tc) Unit :=
  k0_t1_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step1 (c : Dev nD) (f1 : Cont (F := F) c mG) (f2 : Cont (F := F) c mU) (k : Fin k0_t1_loop.trips) (acc : Unit) :
    inv1 c f1 f2 k acc ⊢ wp frame (wpE (defs₀ (F := F)) Variants.none c none) Set.univ (body1 k acc) (inv1 c f1 f2 (k.val + 1)) := by
  have hk : k.val < 35 := trips1 ▸ k.isLt
  unfold inv1
  have e1 : idleR c f1 f2 ⟨k.val, hk⟩ = rowIdle c f1 f2 (k0_off1 k) (k0_off1_inb k) (k0_off2 k) (k0_off2_inb k) :=
    rowIdle_congr c f1 f2 (k0_off1_eq k).symm (k0_off2_eq k).symm _ _ _ _
  have e2 : bigSep (Ring.rangeSet 35 0 (k.val + 1)) (flyR c f1 f2)
      = iprop(rowFly c f1 f2 (k0_off1 k) (k0_off1_inb k) (k0_off2 k) (k0_off2_inb k) ∗ bigSep (Ring.rangeSet 35 0 k.val) (flyR c f1 f2)) := by
    rw [Ring.bigSep_rangeSet_last (Φ := flyR c f1 f2) (Nat.succ_pos k.val) hk]
    exact congrArg (fun A => iprop(A ∗ bigSep (Ring.rangeSet 35 0 k.val) (flyR c f1 f2)))
      (rowFly_congr c f1 f2 (k0_off1_eq k).symm (k0_off2_eq k).symm _ _ _ _)
  rw [Ring.bigSep_rangeSet_head (Φ := idleR c f1 f2) hk hk, e1, e2]
  unfold rowIdle ptV rowBlk rowCell
  iintro ⟨HF, ⟨Hc, Hg, Hu, ⟨%d1, H1⟩, ⟨%d2, H2⟩⟩, HI⟩
  imod (Transfers.batch_alloc' (Lvl := ℕ) (countersEmb (U := Pipeline.UD sig nD τ)) (c : Thread nD τ) () 10240
    (rowDeliv c f1 f2 (k0_off2 k) (k0_off2_inb k) d1 d2) (sm := .dma (rowCell (k0_off1 k) (k0_off1_inb k))) (E := Set.univ)) $$ Hc with HB
  unfold rowDeliv gLand uLand ptV rowBlk
  unfold body1 k0_t1_body
  sl_exec
  sl_step
  isplitr [HI]
  · isplitl [HB]
    · unfold rowFly; iexists d1, d2; unfold rowDeliv; iexact HB
    · iexact HF
  · iexact HI

end Cert.Kernel.Hand

end
-- ==== Proof.BitsStep2.lean ====
/-
  One trip of the loop that starts the transfers of the down codes.
-/
module

public import proofs.«01_k».proof.Proof.BitsParts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The loop that starts the column blocks' transfers -/

def inv2 (c : Dev nD) (f3 : Cont (F := F) c mD) (k : ℕ) (_ : Unit) : sProp 𝕄 :=
  iprop(bigSep (Ring.rangeSet 20 0 k) (flyD c f3) ∗ bigSep (Ring.rangeSet 20 k 20) (idleD c f3))

abbrev body2 : Fin k0_t2_loop.trips → Unit → Prog (TpuEff nD τ sig (Elt F) Λ₀ .tc) Unit :=
  k0_t2_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step2 (c : Dev nD) (f3 : Cont (F := F) c mD) (k : Fin k0_t2_loop.trips) (acc : Unit) :
    inv2 c f3 k acc ⊢ wp frame (wpE (defs₀ (F := F)) Variants.none c none) Set.univ (body2 k acc) (inv2 c f3 (k.val + 1)) := by
  have hk : k.val < 20 := trips2 ▸ k.isLt
  unfold inv2
  have e1 : idleD c f3 ⟨k.val, hk⟩ = colIdle c f3 (k0_off3 k) (k0_off3_inb k) (k0_off4 k) (k0_off4_inb k) :=
    colIdle_congr c f3 (k0_off3_eq k).symm (k0_off4_eq k).symm _ _ _ _
  have e2 : bigSep (Ring.rangeSet 20 0 (k.val + 1)) (flyD c f3)
      = iprop(colFly c f3 (k0_off3 k) (k0_off3_inb k) (k0_off4 k) (k0_off4_inb k) ∗ bigSep (Ring.rangeSet 20 0 k.val) (flyD c f3)) := by
    rw [Ring.bigSep_rangeSet_last (Φ := flyD c f3) (Nat.succ_pos k.val) hk]
    exact congrArg (fun A => iprop(A ∗ bigSep (Ring.rangeSet 20 0 k.val) (flyD c f3)))
      (colFly_congr c f3 (k0_off3_eq k).symm (k0_off4_eq k).symm _ _ _ _)
  rw [Ring.bigSep_rangeSet_head (Φ := idleD c f3) hk hk, e1, e2]
  unfold colIdle ptV colBlk colCell
  iintro ⟨HF, ⟨Hc, Hg, ⟨%d, H1⟩⟩, HI⟩
  imod (Transfers.batch_alloc' (Lvl := ℕ) (countersEmb (U := Pipeline.UD sig nD τ)) (c : Thread nD τ) () 17920
    (colDeliv c f3 (k0_off4 k) (k0_off4_inb k) d) (sm := .dma (colCell (k0_off3 k) (k0_off3_inb k))) (E := Set.univ)) $$ Hc with HB
  unfold colDeliv dLand ptV colBlk
  unfold body2 k0_t2_body
  sl_exec
  sl_step
  isplitr [HI]
  · isplitl [HB]
    · unfold colFly; iexists d; unfold colDeliv; iexact HB
    · iexact HF
  · iexact HI

end Cert.Kernel.Hand

end
-- ==== Proof.BitsStep3.lean ====
/-
  One trip of the loop over the row blocks.
-/
module

public import proofs.«01_k».proof.Proof.BitsParts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The loop over the row blocks: the gated values -/

def inv3 (c : Dev nD) (f1 : Cont (F := F) c mG) (f2 : Cont (F := F) c mU) (fa : Cont (F := F) c mGs) (fb : Cont (F := F) c mUs)
    (fx : Cont (F := F) c sX) (k : ℕ) (_ : Unit) : sProp 𝕄 :=
  iprop(bigSep (Ring.rangeSet 35 0 k) (idleR c f1 f2) ∗ bigSep (Ring.rangeSet 35 k 35) (flyR c f1 f2)
    ∗ pt c mGs fa ∗ pt c mUs fb ∗ pt c sX fx ∗ (∃ h, pt c sH h) ∗ (∃ p, pt c sHiLo p) ∗ (∃ q, pt c sLoHi q)
    ∗ ∃ W, owes (c : Thread nD τ) 0 W)

abbrev body3 : Fin k0_t3_loop.trips → Unit → Prog (TpuEff nD τ sig (Elt F) Λ₀ .tc) Unit :=
  k0_t3_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step3 (c : Dev nD) (f1 : Cont (F := F) c mG) (f2 : Cont (F := F) c mU) (fa : Cont (F := F) c mGs) (fb : Cont (F := F) c mUs)
    (fx : Cont (F := F) c sX) (k : Fin k0_t3_loop.trips) (acc : Unit) :
    inv3 c f1 f2 fa fb fx k acc
      ⊢ wp frame (wpE (defs₀ (F := F)) Variants.none c none) Set.univ (body3 k acc) (inv3 c f1 f2 fa fb fx (k.val + 1)) := by
  have hk : k.val < 35 := trips3 ▸ k.isLt
  unfold inv3
  have e1 : flyR c f1 f2 ⟨k.val, hk⟩ = rowFly c f1 f2 (k0_off5 k) (k0_off5_inb k) (k0_off6 k) (k0_off6_inb k) :=
    rowFly_congr c f1 f2 (k0_off5_eq k).symm (k0_off6_eq k).symm _ _ _ _
  have e2 : bigSep (Ring.rangeSet 35 0 (k.val + 1)) (idleR c f1 f2)
      = iprop(rowIdle c f1 f2 (k0_off5 k) (k0_off5_inb k) (k0_off6 k) (k0_off6_inb k) ∗ bigSep (Ring.rangeSet 35 0 k.val) (idleR c f1 f2)) := by
    rw [Ring.bigSep_rangeSet_last (Φ := idleR c f1 f2) (Nat.succ_pos k.val) hk]
    exact congrArg (fun A => iprop(A ∗ bigSep (Ring.rangeSet 35 0 k.val) (idleR c f1 f2)))
      (rowIdle_congr c f1 f2 (k0_off5_eq k).symm (k0_off6_eq k).symm _ _ _ _)
  rw [Ring.bigSep_rangeSet_head (Φ := flyR c f1 f2) hk hk, e1, e2]
  unfold rowFly
  iintro ⟨HI, ⟨⟨%d1, %d2, HB⟩, HF⟩, Ha, Hb, Hx, ⟨%h, Hh⟩, ⟨%p, Hp⟩, ⟨%q, Hq⟩, ⟨%W, HW⟩⟩
  unfold rowDeliv gLand uLand ptV rowBlk rowCell
  unfold body3 k0_t3_body
  simp only [k0_part1_eq_skeleton, k0_part2_eq_skeleton, k0_part3_eq_skeleton]
  unfold k0_part1_skel k0_part2_skel k0_part3_skel
  sl_exec
  ihave HG := (show _ ⊢ ptV c (rowBlk sG (k0_off6 k) (k0_off6_inb k)) (gLand c f1 (k0_off6 k) (k0_off6_inb k) d1) from .rfl) $$ HB_dst0
  ihave HU := (show _ ⊢ ptV c (rowBlk sU (k0_off6 k) (k0_off6_inb k)) (uLand c f2 (k0_off6 k) (k0_off6_inb k) d2) from .rfl) $$ HB_dst1
  unfold gLand uLand ptV rowBlk
  sl_exec
  sl_step
  isplitl [HI HB HG HB_src0 HU HB_src1]
  · isplitr [HI]
    · unfold rowIdle ptV rowBlk rowCell
      isplitl [HB]; · iexact HB
      isplitl [HB_src0]; · iexact HB_src0
      isplitl [HB_src1]; · iexact HB_src1
      isplitl [HG]; · iexists _; iexact HG
      iexists _; iexact HU
    · iexact HI
  isplitl [HF]; · iexact HF
  isplitl [Ha]; · iexact Ha
  isplitl [Hb]; · iexact Hb
  isplitl [Hx]; · iexact Hx
  isplitl [Hh]; · iexists _; iexact Hh
  isplitl [Hp]; · iexists _; iexact Hp
  isplitl [Hq]; · iexists _; iexact Hq
  iexists _; iexact HW

end Cert.Kernel.Hand

end
-- ==== Proof.BitsStep4.lean ====
/-
  One trip of the loop over the column blocks.
-/
module

public import proofs.«01_k».proof.Proof.BitsParts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The loop over the column blocks: the result's columns -/

def inv4 (c : Dev nD) (f3 : Cont (F := F) c mD) (fd : Cont (F := F) c mDs) (fh : Cont (F := F) c sH) (k : ℕ) (_ : Unit) : sProp 𝕄 :=
  iprop(bigSep (Ring.rangeSet 20 0 k) (idleD c f3) ∗ bigSep (Ring.rangeSet 20 k 20) (flyD c f3)
    ∗ pt c mDs fd ∗ pt c sH fh ∗ (∃ y, pt c sIo y) ∗ (∃ p, pt c sHiLo p) ∗ (∃ q, pt c sLoHi q)
    ∗ ∃ W, owes (c : Thread nD τ) 0 W)

abbrev body4 : Fin k0_t4_loop.trips → Unit → Prog (TpuEff nD τ sig (Elt F) Λ₀ .tc) Unit :=
  k0_t4_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step4 (c : Dev nD) (f3 : Cont (F := F) c mD) (fd : Cont (F := F) c mDs) (fh : Cont (F := F) c sH) (k : Fin k0_t4_loop.trips) (acc : Unit) :
    inv4 c f3 fd fh k acc
      ⊢ wp frame (wpE (defs₀ (F := F)) Variants.none c none) Set.univ (body4 k acc) (inv4 c f3 fd fh (k.val + 1)) := by
  have hk : k.val < 20 := trips4 ▸ k.isLt
  unfold inv4
  have e1 : flyD c f3 ⟨k.val, hk⟩ = colFly c f3 (k0_off10 k) (k0_off10_inb k) (k0_off11 k) (k0_off11_inb k) :=
    colFly_congr c f3 (k0_off10_eq k).symm (k0_off11_eq k).symm _ _ _ _
  have e2 : bigSep (Ring.rangeSet 20 0 (k.val + 1)) (idleD c f3)
      = iprop(colIdle c f3 (k0_off10 k) (k0_off10_inb k) (k0_off11 k) (k0_off11_inb k) ∗ bigSep (Ring.rangeSet 20 0 k.val) (idleD c f3)) := by
    rw [Ring.bigSep_rangeSet_last (Φ := idleD c f3) (Nat.succ_pos k.val) hk]
    exact congrArg (fun A => iprop(A ∗ bigSep (Ring.rangeSet 20 0 k.val) (idleD c f3)))
      (colIdle_congr c f3 (k0_off10_eq k).symm (k0_off11_eq k).symm _ _ _ _)
  rw [Ring.bigSep_rangeSet_head (Φ := flyD c f3) hk hk, e1, e2]
  unfold colFly
  iintro ⟨HI, ⟨⟨%d1, HB⟩, HF⟩, Hd, Hh, ⟨%y, Hy⟩, ⟨%p, Hp⟩, ⟨%q, Hq⟩, ⟨%W, HW⟩⟩
  unfold colDeliv dLand ptV colBlk colCell
  unfold body4 k0_t4_body
  simp only [k0_part4_eq_skeleton, k0_part5_eq_skeleton, k0_part6_eq_skeleton]
  unfold k0_part4_skel k0_part5_skel k0_part6_skel
  sl_exec
  ihave HG := (show _ ⊢ ptV c (colBlk sD (k0_off11 k) (k0_off11_inb k)) (dLand c f3 (k0_off11 k) (k0_off11_inb k) d1) from .rfl) $$ HB_dst0
  unfold dLand ptV colBlk
  sl_exec
  sl_step
  isplitl [HI HB HG HB_src0]
  · isplitr [HI]
    · unfold colIdle ptV colBlk colCell
      isplitl [HB]; · iexact HB
      isplitl [HB_src0]; · iexact HB_src0
      iexists _; iexact HG
    · iexact HI
  isplitl [HF]; · iexact HF
  isplitl [Hd]; · iexact Hd
  isplitl [Hh]; · iexact Hh
  isplitl [Hy]; · iexists _; iexact Hy
  isplitl [Hp]; · iexists _; iexact Hp
  isplitl [Hq]; · iexists _; iexact Hq
  iexists _; iexact HW

end Cert.Kernel.Hand

end
-- ==== Proof.BitsBlocks.lean ====
/-
  The code arrays as their blocks, and the two families of transfers opened and closed.
-/
module

public import proofs.«01_k».proof.Proof.BitsParts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The arrays as their blocks -/

abbrev rset (b : Fin 35) : Finset S4480x2560.Idx := (Rect.unit (s := S4480x2560) ![128 * b.val, 0] S128x2560.size (inbR35 b)).set
theorem mem_rset (b : Fin 35) (y : S4480x2560.Idx) : y ∈ rset b ↔ 128 * b.val ≤ (y 0).val ∧ (y 0).val < 128 * b.val + 128 := by
  rw [Rect.mem_set_unit]
  have h1 : (y 1).val < 2560 := (y 1).isLt
  constructor
  · intro H; exact H 0
  · intro H a; fin_cases a
    · exact H
    · show 0 ≤ (y 1).val ∧ (y 1).val < 0 + 2560; omega
theorem rset_disj : ∀ b b' : Fin 35, b ≠ b' → Disjoint (rset b) (rset b') := fun b b' hne => by
  rw [Finset.disjoint_left]; intro y hy hy'; rw [mem_rset] at hy hy'; exact hne (Fin.ext (by omega))
theorem rset_cover : Finset.univ.biUnion rset = Finset.univ := by
  ext y; simp only [Finset.mem_biUnion, Finset.mem_univ, true_and, iff_true]
  have h : (y 0).val < 4480 := (y 0).isLt
  exact ⟨⟨(y 0).val / 128, by omega⟩, (mem_rset _ _).mpr ⟨by show 128 * ((y 0).val / 128) ≤ _; omega, by show _ < 128 * ((y 0).val / 128) + 128; omega⟩⟩

abbrev cset (b : Fin 20) : Finset S2240x5120.Idx := (Rect.unit (s := S2240x5120) ![0, 256 * b.val] S2240x256.size (inbR20 b)).set
theorem mem_cset (b : Fin 20) (y : S2240x5120.Idx) : y ∈ cset b ↔ 256 * b.val ≤ (y 1).val ∧ (y 1).val < 256 * b.val + 256 := by
  rw [Rect.mem_set_unit]
  have h1 : (y 0).val < 2240 := (y 0).isLt
  constructor
  · intro H; exact H 1
  · intro H a; fin_cases a
    · show 0 ≤ (y 0).val ∧ (y 0).val < 0 + 2240; omega
    · exact H
theorem cset_disj : ∀ b b' : Fin 20, b ≠ b' → Disjoint (cset b) (cset b') := fun b b' hne => by
  rw [Finset.disjoint_left]; intro y hy hy'; rw [mem_cset] at hy hy'; exact hne (Fin.ext (by omega))
theorem cset_cover : Finset.univ.biUnion cset = Finset.univ := by
  ext y; simp only [Finset.mem_biUnion, Finset.mem_univ, true_and, iff_true]
  have h : (y 1).val < 5120 := (y 1).isLt
  exact ⟨⟨(y 1).val / 256, by omega⟩, (mem_cset _ _).mpr ⟨by show 256 * ((y 1).val / 256) ≤ _; omega, by show _ < 256 * ((y 1).val / 256) + 256; omega⟩⟩

theorem mG_split (c : Dev nD) (f : Cont (F := F) c mG) :
    (pt c mG f : sProp 𝕄) = bigSep Finset.univ fun b => ptV c (rowBlk mG ![128 * b.val, 0] (inbR35 b)) f :=
  (Ring.pointsTo_blocks (ℓ := mG.view.loc (c : Thread nD τ)) (q := fullShare) rset rset_disj rset_cover f).trans
    (bigSep_congr fun b _ => congrArg (fun S => (mG.view.loc (c : Thread nD τ) ↦[S]{fullShare} f : sProp 𝕄)) (View.set_slice_whole _ _).symm)
theorem mU_split (c : Dev nD) (f : Cont (F := F) c mU) :
    (pt c mU f : sProp 𝕄) = bigSep Finset.univ fun b => ptV c (rowBlk mU ![128 * b.val, 0] (inbR35 b)) f :=
  (Ring.pointsTo_blocks (ℓ := mU.view.loc (c : Thread nD τ)) (q := fullShare) rset rset_disj rset_cover f).trans
    (bigSep_congr fun b _ => congrArg (fun S => (mU.view.loc (c : Thread nD τ) ↦[S]{fullShare} f : sProp 𝕄)) (View.set_slice_whole _ _).symm)
theorem sG_split (c : Dev nD) (f : Cont (F := F) c sG) :
    (pt c sG f : sProp 𝕄) = bigSep Finset.univ fun b => ptV c (rowBlk sG ![128 * b.val, 0] (inbR35 b)) f :=
  (Ring.pointsTo_blocks (ℓ := sG.view.loc (c : Thread nD τ)) (q := fullShare) rset rset_disj rset_cover f).trans
    (bigSep_congr fun b _ => congrArg (fun S => (sG.view.loc (c : Thread nD τ) ↦[S]{fullShare} f : sProp 𝕄)) (View.set_slice_whole _ _).symm)
theorem sU_split (c : Dev nD) (f : Cont (F := F) c sU) :
    (pt c sU f : sProp 𝕄) = bigSep Finset.univ fun b => ptV c (rowBlk sU ![128 * b.val, 0] (inbR35 b)) f :=
  (Ring.pointsTo_blocks (ℓ := sU.view.loc (c : Thread nD τ)) (q := fullShare) rset rset_disj rset_cover f).trans
    (bigSep_congr fun b _ => congrArg (fun S => (sU.view.loc (c : Thread nD τ) ↦[S]{fullShare} f : sProp 𝕄)) (View.set_slice_whole _ _).symm)
theorem mD_split (c : Dev nD) (f : Cont (F := F) c mD) :
    (pt c mD f : sProp 𝕄) = bigSep Finset.univ fun b => ptV c (colBlk mD ![0, 256 * b.val] (inbR20 b)) f :=
  (Ring.pointsTo_blocks (ℓ := mD.view.loc (c : Thread nD τ)) (q := fullShare) cset cset_disj cset_cover f).trans
    (bigSep_congr fun b _ => congrArg (fun S => (mD.view.loc (c : Thread nD τ) ↦[S]{fullShare} f : sProp 𝕄)) (View.set_slice_whole _ _).symm)
theorem sD_split (c : Dev nD) (f : Cont (F := F) c sD) :
    (pt c sD f : sProp 𝕄) = bigSep Finset.univ fun b => ptV c (colBlk sD ![0, 256 * b.val] (inbR20 b)) f :=
  (Ring.pointsTo_blocks (ℓ := sD.view.loc (c : Thread nD τ)) (q := fullShare) cset cset_disj cset_cover f).trans
    (bigSep_congr fun b _ => congrArg (fun S => (sD.view.loc (c : Thread nD τ) ↦[S]{fullShare} f : sProp 𝕄)) (View.set_slice_whole _ _).symm)
theorem sG_join (c : Dev nD) :
    (bigSep Finset.univ fun b => iprop(∃ d, ptV c (rowBlk sG ![128 * b.val, 0] (inbR35 b)) d) : sProp 𝕄) ⊢ iprop(∃ f : Cont (F := F) c sG, pt c sG f) := by
  refine (Entails.of_eq (bigSep_congr fun b _ => ?_)).trans (Ring.pointsTo_blocks_join_exists (ℓ := sG.view.loc (c : Thread nD τ)) (q := fullShare) rset rset_disj rset_cover sG.view.junk)
  exact congrArg (fun S => (iprop(∃ d, sG.view.loc (c : Thread nD τ) ↦[S]{fullShare} d) : sProp 𝕄)) (View.set_slice_whole _ _)
theorem sU_join (c : Dev nD) :
    (bigSep Finset.univ fun b => iprop(∃ d, ptV c (rowBlk sU ![128 * b.val, 0] (inbR35 b)) d) : sProp 𝕄) ⊢ iprop(∃ f : Cont (F := F) c sU, pt c sU f) := by
  refine (Entails.of_eq (bigSep_congr fun b _ => ?_)).trans (Ring.pointsTo_blocks_join_exists (ℓ := sU.view.loc (c : Thread nD τ)) (q := fullShare) rset rset_disj rset_cover sU.view.junk)
  exact congrArg (fun S => (iprop(∃ d, sU.view.loc (c : Thread nD τ) ↦[S]{fullShare} d) : sProp 𝕄)) (View.set_slice_whole _ _)
theorem sD_join (c : Dev nD) :
    (bigSep Finset.univ fun b => iprop(∃ d, ptV c (colBlk sD ![0, 256 * b.val] (inbR20 b)) d) : sProp 𝕄) ⊢ iprop(∃ f : Cont (F := F) c sD, pt c sD f) := by
  refine (Entails.of_eq (bigSep_congr fun b _ => ?_)).trans (Ring.pointsTo_blocks_join_exists (ℓ := sD.view.loc (c : Thread nD τ)) (q := fullShare) cset cset_disj cset_cover sD.view.junk)
  exact congrArg (fun S => (iprop(∃ d, sD.view.loc (c : Thread nD τ) ↦[S]{fullShare} d) : sProp 𝕄)) (View.set_slice_whole _ _)

/-! ## The families opened and closed -/

abbrev cellsR (c : Dev nD) : sProp 𝕄 := bigSep Finset.univ fun b : Fin 35 => semVal ((c : Thread nD τ), SemLoc.dma (rowCell ![b.val] (inbC35 b))) 0
abbrev cellsD (c : Dev nD) : sProp 𝕄 := bigSep Finset.univ fun b : Fin 20 => semVal ((c : Thread nD τ), SemLoc.dma (colCell ![b.val] (inbC20 b))) 0

theorem sep35 (A B : Fin 35 → sProp 𝕄) : (bigSep Finset.univ fun b => iprop(A b ∗ B b)) = iprop(bigSep Finset.univ A ∗ bigSep Finset.univ B) := BI.bigSep_sep _ _ _
theorem sep20 (A B : Fin 20 → sProp 𝕄) : (bigSep Finset.univ fun b => iprop(A b ∗ B b)) = iprop(bigSep Finset.univ A ∗ bigSep Finset.univ B) := BI.bigSep_sep _ _ _
theorem idleR_eq (c : Dev nD) (f1 : Cont (F := F) c mG) (f2 : Cont (F := F) c mU) :
    (bigSep Finset.univ (idleR c f1 f2) : sProp 𝕄) = iprop(cellsR c ∗ pt c mG f1 ∗ pt c mU f2
      ∗ (bigSep Finset.univ fun b : Fin 35 => iprop(∃ d, ptV c (rowBlk sG ![128 * b.val, 0] (inbR35 b)) d))
      ∗ (bigSep Finset.univ fun b : Fin 35 => iprop(∃ d, ptV c (rowBlk sU ![128 * b.val, 0] (inbR35 b)) d))) := by
  rw [mG_split, mU_split]
  unfold idleR rowIdle
  rw [sep35, sep35, sep35, sep35]
theorem idleD_eq (c : Dev nD) (f3 : Cont (F := F) c mD) :
    (bigSep Finset.univ (idleD c f3) : sProp 𝕄) = iprop(cellsD c ∗ pt c mD f3
      ∗ (bigSep Finset.univ fun b : Fin 20 => iprop(∃ d, ptV c (colBlk sD ![0, 256 * b.val] (inbR20 b)) d))) := by
  rw [mD_split]
  unfold idleD colIdle
  rw [sep20, sep20]

theorem rows_open (c : Dev nD) (f1 : Cont (F := F) c mG) (f2 : Cont (F := F) c mU) (d1 : Cont (F := F) c sG) (d2 : Cont (F := F) c sU) :
    iprop(cellsR c ∗ pt c mG f1 ∗ pt c mU f2 ∗ pt c sG d1 ∗ pt c sU d2) ⊢ (bigSep Finset.univ (idleR c f1 f2) : sProp 𝕄) := by
  rw [idleR_eq]
  iintro ⟨Hc, H1, H2, H3, H4⟩
  isplitl [Hc]; · iexact Hc
  isplitl [H1]; · iexact H1
  isplitl [H2]; · iexact H2
  isplitl [H3]
  · iapply ((Entails.of_eq (sG_split c d1)).trans (bigSep_mono fun b _ => by
      show (ptV c (rowBlk sG ![128 * b.val, 0] (inbR35 b)) d1 : sProp 𝕄) ⊢ iprop(∃ d, ptV c (rowBlk sG ![128 * b.val, 0] (inbR35 b)) d)
      iintro H; iexists d1; iexact H)); iexact H3
  · iapply ((Entails.of_eq (sU_split c d2)).trans (bigSep_mono fun b _ => by
      show (ptV c (rowBlk sU ![128 * b.val, 0] (inbR35 b)) d2 : sProp 𝕄) ⊢ iprop(∃ d, ptV c (rowBlk sU ![128 * b.val, 0] (inbR35 b)) d)
      iintro H; iexists d2; iexact H)); iexact H4
theorem rows_close (c : Dev nD) (f1 : Cont (F := F) c mG) (f2 : Cont (F := F) c mU) :
    (bigSep Finset.univ (idleR c f1 f2) : sProp 𝕄) ⊢ iprop(cellsR c ∗ pt c mG f1 ∗ pt c mU f2 ∗ (∃ d, pt c sG d) ∗ (∃ d, pt c sU d)) := by
  rw [idleR_eq]
  iintro ⟨Hc, H1, H2, H3, H4⟩
  isplitl [Hc]; · iexact Hc
  isplitl [H1]; · iexact H1
  isplitl [H2]; · iexact H2
  isplitl [H3]
  · iapply (sG_join c); iexact H3
  · iapply (sU_join c); iexact H4
theorem cols_open (c : Dev nD) (f3 : Cont (F := F) c mD) (d : Cont (F := F) c sD) :
    iprop(cellsD c ∗ pt c mD f3 ∗ pt c sD d) ⊢ (bigSep Finset.univ (idleD c f3) : sProp 𝕄) := by
  rw [idleD_eq]
  iintro ⟨Hc, H1, H3⟩
  isplitl [Hc]; · iexact Hc
  isplitl [H1]; · iexact H1
  iapply ((Entails.of_eq (sD_split c d)).trans (bigSep_mono fun b _ => by
      show (ptV c (colBlk sD ![0, 256 * b.val] (inbR20 b)) d : sProp 𝕄) ⊢ iprop(∃ d, ptV c (colBlk sD ![0, 256 * b.val] (inbR20 b)) d)
      iintro H; iexists d; iexact H)); iexact H3
theorem cols_close (c : Dev nD) (f3 : Cont (F := F) c mD) :
    (bigSep Finset.univ (idleD c f3) : sProp 𝕄) ⊢ iprop(cellsD c ∗ pt c mD f3 ∗ (∃ d, pt c sD d)) := by
  rw [idleD_eq]
  iintro ⟨Hc, H1, H3⟩
  isplitl [Hc]; · iexact Hc
  isplitl [H1]; · iexact H1
  iapply (sD_join c); iexact H3

end Cert.Kernel.Hand

end
-- ==== Proof.BitsRun.lean ====
/-
  The kernel's body run once over its operands.
-/
module

public import proofs.«01_k».proof.Proof.BitsStep1
public import proofs.«01_k».proof.Proof.BitsStep2
public import proofs.«01_k».proof.Proof.BitsStep3
public import proofs.«01_k».proof.Proof.BitsStep4
public import proofs.«01_k».proof.Proof.BitsBlocks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The body, once -/

abbrev cellIn (c : Dev nD) : sProp 𝕄 := semVal ((c : Thread nD τ), SemLoc.dma cc0_scratch8.sem) 0
abbrev cellOut (c : Dev nD) : sProp 𝕄 := semVal ((c : Thread nD τ), SemLoc.dma cc0_scratch11.sem) 0

/-- What the body takes and gives back: its operands at what they hold, the result, the scratch buffers and the semaphores. -/
def held (c : Dev nD) (f0 : Cont (F := F) c mX) (f1 : Cont (F := F) c mG) (f2 : Cont (F := F) c mU) (f3 : Cont (F := F) c mD)
    (fa : Cont (F := F) c mGs) (fb : Cont (F := F) c mUs) (fd : Cont (F := F) c mDs) : sProp 𝕄 :=
  iprop(iprop((∃ f : Cont (F := F) c sIo, pt c sIo f) ∗ (∃ f : Cont (F := F) c sG, pt c sG f) ∗ (∃ f : Cont (F := F) c sU, pt c sU f) ∗ (∃ f : Cont (F := F) c sD, pt c sD f)
      ∗ (∃ f : Cont (F := F) c sX, pt c sX f) ∗ (∃ f : Cont (F := F) c sH, pt c sH f) ∗ (∃ f : Cont (F := F) c sHiLo, pt c sHiLo f) ∗ (∃ f : Cont (F := F) c sLoHi, pt c sLoHi f))
    ∗ iprop(cellIn c ∗ cellsR c ∗ cellsD c ∗ cellOut c)
    ∗ iprop(pt c mX f0 ∗ pt c mG f1 ∗ pt c mU f2 ∗ pt c mD f3 ∗ pt c mGs fa ∗ pt c mUs fb ∗ pt c mDs fd)
    ∗ (∃ y : Cont (F := F) c mO, pt c mO y))

theorem some_x (c : Dev nD) (f : Cont (F := F) c sX) : (pt c sX f : sProp 𝕄) ⊢ iprop(∃ x : Cont (F := F) c sX, pt c sX x) := by
  iintro H; iexists f; iexact H
/-- The loops' last states. -/
theorem inv1_end (c : Dev nD) (f1 : Cont (F := F) c mG) (f2 : Cont (F := F) c mU) (acc : Unit) :
    inv1 c f1 f2 (Scf.trips k0_t1_loop.lb k0_t1_loop.ub k0_t1_loop.st) acc ⊢ (bigSep Finset.univ (flyR c f1 f2) : sProp 𝕄) := by
  rw [show Scf.trips k0_t1_loop.lb k0_t1_loop.ub k0_t1_loop.st = 35 from trips1]
  unfold inv1; rw [Ring.rangeSet_univ]
  iintro ⟨H, -⟩; iexact H
theorem inv2_end (c : Dev nD) (f3 : Cont (F := F) c mD) (acc : Unit) :
    inv2 c f3 (Scf.trips k0_t2_loop.lb k0_t2_loop.ub k0_t2_loop.st) acc ⊢ (bigSep Finset.univ (flyD c f3) : sProp 𝕄) := by
  rw [show Scf.trips k0_t2_loop.lb k0_t2_loop.ub k0_t2_loop.st = 20 from trips2]
  unfold inv2; rw [Ring.rangeSet_univ]
  iintro ⟨H, -⟩; iexact H
theorem inv3_end (c : Dev nD) (f1 : Cont (F := F) c mG) (f2 : Cont (F := F) c mU) (fa : Cont (F := F) c mGs) (fb : Cont (F := F) c mUs)
    (fx : Cont (F := F) c sX) (acc : Unit) :
    inv3 c f1 f2 fa fb fx (Scf.trips k0_t3_loop.lb k0_t3_loop.ub k0_t3_loop.st) acc
      ⊢ (iprop(bigSep Finset.univ (idleR c f1 f2) ∗ pt c mGs fa ∗ pt c mUs fb ∗ pt c sX fx ∗ (∃ h, pt c sH h) ∗ (∃ p, pt c sHiLo p)
          ∗ (∃ q, pt c sLoHi q) ∗ ∃ W, owes (c : Thread nD τ) 0 W) : sProp 𝕄) := by
  rw [show Scf.trips k0_t3_loop.lb k0_t3_loop.ub k0_t3_loop.st = 35 from trips3]
  unfold inv3; rw [Ring.rangeSet_univ]
  iintro ⟨H, -, Hr⟩
  isplitl [H]; · iexact H
  iexact Hr
theorem inv4_end (c : Dev nD) (f3 : Cont (F := F) c mD) (fd : Cont (F := F) c mDs) (fh : Cont (F := F) c sH) (acc : Unit) :
    inv4 c f3 fd fh (Scf.trips k0_t4_loop.lb k0_t4_loop.ub k0_t4_loop.st) acc
      ⊢ (iprop(bigSep Finset.univ (idleD c f3) ∗ pt c mDs fd ∗ pt c sH fh ∗ (∃ y, pt c sIo y) ∗ (∃ p, pt c sHiLo p)
          ∗ (∃ q, pt c sLoHi q) ∗ ∃ W, owes (c : Thread nD τ) 0 W) : sProp 𝕄) := by
  rw [show Scf.trips k0_t4_loop.lb k0_t4_loop.ub k0_t4_loop.st = 20 from trips4]
  unfold inv4; rw [Ring.rangeSet_univ]
  iintro ⟨H, -, Hr⟩
  isplitl [H]; · iexact H
  iexact Hr

theorem bodyRun (c : Dev nD) (f0 : Cont (F := F) c mX) (f1 : Cont (F := F) c mG) (f2 : Cont (F := F) c mU) (f3 : Cont (F := F) c mD)
    (fa : Cont (F := F) c mGs) (fb : Cont (F := F) c mUs) (fd : Cont (F := F) c mDs) (W : Waits sig Unit) :
    iprop(held c f0 f1 f2 f3 fa fb fd ∗ owes (c : Thread nD τ) 0 W)
      ⊢ wp frame (wpE (defs₀ (F := F)) Variants.none c none) Set.univ
          (cc0_swiglu_mlp mX (Memref.isWhole_whole _) mG (Memref.isWhole_whole _) mU (Memref.isWhole_whole _) mD (Memref.isWhole_whole _)
            mGs (Memref.isWhole_whole _) mUs (Memref.isWhole_whole _) mDs (Memref.isWhole_whole _) mO (Memref.isWhole_whole _)
            sIo (Memref.isWhole_whole _) sG (Memref.isWhole_whole _) sU (Memref.isWhole_whole _) sD (Memref.isWhole_whole _)
            sX (Memref.isWhole_whole _) sH (Memref.isWhole_whole _) sHiLo (Memref.isWhole_whole _) sLoHi (Memref.isWhole_whole _)
            cc0_scratch8 cc0_scratch9 cc0_scratch10 cc0_scratch11)
          fun _ => iprop(held c f0 f1 f2 f3 fa fb fd ∗ ∃ W', owes (c : Thread nD τ) 0 W') := by
  unfold held
  simp only [cc0_swiglu_mlp_eq_skeleton]
  unfold cc0_swiglu_mlp_skel
  iintro ⟨⟨⟨⟨%g0, Hio⟩, ⟨%g1, Hsg⟩, ⟨%g2, Hsu⟩, ⟨%g3, Hsd⟩, ⟨%g4, Hsx⟩, ⟨%g5, Hsh⟩, ⟨%g6, Hp⟩, ⟨%g7, Hq⟩⟩, ⟨Hi, HcR, HcD, Ho⟩,
    ⟨H0, H1, H2, H3, Ha, Hb, Hd⟩, ⟨%y, Hy⟩⟩, HW⟩
  ihave HR := (rows_open c f1 f2 g1 g2) $$ [HcR H1 H2 Hsg Hsu]
  · isplitl [HcR]; · iexact HcR
    isplitl [H1]; · iexact H1
    isplitl [H2]; · iexact H2
    isplitl [Hsg]; · iexact Hsg
    iexact Hsu
  ihave HD := (cols_open c f3 g3) $$ [HcD H3 Hsd]
  · isplitl [HcD]; · iexact HcD
    isplitl [H3]; · iexact H3
    iexact Hsd
  sl_exec
  sl_for (inv1 c f1 f2) $$ [HR]
  case region => intro k acc; exact step1 c f1 f2 k acc
  · unfold inv1
    rw [Ring.bigSep_rangeSet_empty (Φ := flyR c f1 f2) (le_refl 0), Ring.rangeSet_univ]
    isplitr; · iempintro
    iexact HR
  iintro %acc1 HR
  sl_exec
  sl_for (inv2 c f3) $$ [HD]
  case region => intro k acc; exact step2 c f3 k acc
  · unfold inv2
    rw [Ring.bigSep_rangeSet_empty (Φ := flyD c f3) (le_refl 0), Ring.rangeSet_univ]
    isplitr; · iempintro
    iexact HD
  iintro %acc2 HD
  sl_exec
  ihave Hsx := (some_x c _) $$ Hsx
  icases Hsx with ⟨%x, Hsx⟩
  ihave HR := (inv1_end c f1 f2 acc1) $$ HR
  ihave HD := (inv2_end c f3 acc2) $$ HD
  sl_for (inv3 c f1 f2 fa fb x) $$ [HR Ha Hb Hsx Hsh Hp Hq HW]
  case region => intro k acc; exact step3 c f1 f2 fa fb x k acc
  · unfold inv3
    rw [Ring.bigSep_rangeSet_empty (Φ := idleR c f1 f2) (le_refl 0), Ring.rangeSet_univ]
    isplitr; · iempintro
    isplitl [HR]; · iexact HR
    isplitl [Ha]; · iexact Ha
    isplitl [Hb]; · iexact Hb
    isplitl [Hsx]; · iexact Hsx
    isplitl [Hsh]; · iexists _; iexact Hsh
    isplitl [Hp]; · iexists _; iexact Hp
    isplitl [Hq]; · iexists _; iexact Hq
    iexists _; iexact HW
  iintro %acc3 HR
  ihave HR := (inv3_end c f1 f2 fa fb x acc3) $$ HR
  icases HR with ⟨HR, Ha, Hb, Hsx, ⟨%h, Hsh⟩, ⟨%p, Hp⟩, ⟨%q, Hq⟩, ⟨%W3, HW⟩⟩
  sl_for (inv4 c f3 fd h) $$ [HD Hd Hsh Hio Hp Hq HW]
  case region => intro k acc; exact step4 c f3 fd h k acc
  · unfold inv4
    rw [Ring.bigSep_rangeSet_empty (Φ := idleD c f3) (le_refl 0), Ring.rangeSet_univ]
    isplitr; · iempintro
    isplitl [HD]; · iexact HD
    isplitl [Hd]; · iexact Hd
    isplitl [Hsh]; · iexact Hsh
    isplitl [Hio]; · iexists _; iexact Hio
    isplitl [Hp]; · iexists _; iexact Hp
    isplitl [Hq]; · iexists _; iexact Hq
    iexists _; iexact HW
  iintro %acc4 HD
  ihave HD := (inv4_end c f3 fd h acc4) $$ HD
  icases HD with ⟨HD, Hd, Hsh, ⟨%g0', Hio⟩, ⟨%p', Hp⟩, ⟨%q', Hq⟩, ⟨%W4, HW⟩⟩
  sl_exec
  sl_step
  ihave HR := (rows_close c f1 f2) $$ HR
  icases HR with ⟨HcR, H1, H2, Hsg, Hsu⟩
  ihave HD := (cols_close c f3) $$ HD
  icases HD with ⟨HcD, H3, Hsd⟩
  isplitr [HW]
  · isplitl [Hio Hsg Hsu Hsd Hsx Hsh Hp Hq]
    · isplitl [Hio]; · iexists _; iexact Hio
      isplitl [Hsg]; · iexact Hsg
      isplitl [Hsu]; · iexact Hsu
      isplitl [Hsd]; · iexact Hsd
      isplitl [Hsx]; · iexists _; iexact Hsx
      isplitl [Hsh]; · iexists _; iexact Hsh
      isplitl [Hp]; · iexists _; iexact Hp
      iexists _; iexact Hq
    isplitl [Hi HcR HcD Ho]
    · isplitl [Hi]; · iexact Hi
      isplitl [HcR]; · iexact HcR
      isplitl [HcD]; · iexact HcD
      iexact Ho
    isplitr [Hy]
    · isplitl [H0]; · iexact H0
      isplitl [H1]; · iexact H1
      isplitl [H2]; · iexact H2
      isplitl [H3]; · iexact H3
      isplitl [Ha]; · iexact Ha
      isplitl [Hb]; · iexact Hb
      iexact Hd
    iexists _; iexact Hy
  iexists _; iexact HW

end Cert.Kernel.Hand

end
-- ==== Proof.BitsFrame.lean ====
/-
  The kernel's program run from a launch: its arguments and semaphores are left as they were.
-/
module

public import proofs.«01_k».proof.Proof.BitsRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

set_option maxHeartbeats 800000 in
/-- The host operations, then the region, at the algebra with the transfers' counters. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh⟩) main_chain

/-- What the body's transfers and loads read, and what they write. -/
def H0 : Finset (Ref sig .tc) := {main_v264, main_arg1, main_arg3, main_v265, main_v87, main_v175, main_v263}
def R0 : Finset (Ref sig .tc) := {main_v266}

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePostR cfgs dats 0 R0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩) h

/-! ## The body's own semaphores: the one for the rows of `x`, the two families, the one for the result -/

abbrev osem0 : (Unit ⊕ (Fin 35 ⊕ (Fin 20 ⊕ Unit))) → SemLoc sig
  | .inl _ => .dma cc0_scratch8.sem
  | .inr (.inl b) => .dma (rowCell ![b.val] (inbC35 b))
  | .inr (.inr (.inl b)) => .dma (colCell ![b.val] (inbC20 b))
  | .inr (.inr (.inr _)) => .dma cc0_scratch11.sem

theorem ownSemFacts0 : Pipeline.OwnSemFacts cfg0.spec osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(cellIn c ∗ cellsR c ∗ cellsD c ∗ cellOut c) := by
  unfold Pipeline.ownSems0
  rw [BI.bigSep_univ_sum, BI.bigSep_univ_sum, BI.bigSep_univ_sum, BI.bigSep_univ_of_subsingleton (), BI.bigSep_univ_of_subsingleton ()]
  rfl

theorem H0_sub : H0 ⊆ Pipeline.restRefs sig cfg0.spec := by decide
theorem R0_sub : R0 ⊆ Pipeline.restRefs sig cfg0.spec \ H0 := by decide
theorem hbmPts0_eq (c : Dev nD) :
    (bigSep H0 (fun b => ((c : Thread nD τ).loc b) ↦{fullShare} V m c b) : sProp 𝕄)
      = iprop(pt c mX (V m c main_v264) ∗ pt c mG (V m c main_arg1) ∗ pt c mU (V m c main_arg3) ∗ pt c mD (V m c main_v265)
          ∗ pt c mGs (V m c main_v87) ∗ pt c mUs (V m c main_v175) ∗ pt c mDs (V m c main_v263)) := by
  rw [BI.bigSep_eq_bigSepL_of_eq [main_v264, main_arg1, main_arg3, main_v265, main_v87, main_v175, main_v263] (by decide) (by decide)]; rfl
theorem ownedPts0_eq (c : Dev nD) :
    (Pipeline.owned R0 c : sProp 𝕄) = iprop(∃ y : Cont (F := F) c mO, pt c mO y) := by
  unfold Pipeline.owned; rw [BI.bigSep_eq_bigSepL_of_eq [main_v266] (by decide) (by decide)]; rfl

theorem PhiDR0_eq (c : Dev nD) :
    (Pipeline.ΦDR osem0 cfg0.spec H0 R0 (V m) c : sProp 𝕄)
      = iprop(iprop((∃ f : Cont (F := F) c sIo, pt c sIo f) ∗ (∃ f : Cont (F := F) c sG, pt c sG f) ∗ (∃ f : Cont (F := F) c sU, pt c sU f) ∗ (∃ f : Cont (F := F) c sD, pt c sD f)
            ∗ (∃ f : Cont (F := F) c sX, pt c sX f) ∗ (∃ f : Cont (F := F) c sH, pt c sH f) ∗ (∃ f : Cont (F := F) c sHiLo, pt c sHiLo f) ∗ (∃ f : Cont (F := F) c sLoHi, pt c sLoHi f))
          ∗ (∃ r, prngReg c r)
          ∗ iprop(cellIn c ∗ cellsR c ∗ cellsD c ∗ cellOut c)
          ∗ iprop(pt c mX (V m c main_v264) ∗ pt c mG (V m c main_arg1) ∗ pt c mU (V m c main_arg3) ∗ pt c mD (V m c main_v265)
              ∗ pt c mGs (V m c main_v87) ∗ pt c mUs (V m c main_v175) ∗ pt c mDs (V m c main_v263))
          ∗ (∃ y : Cont (F := F) c mO, pt c mO y)) := by
  rw [Pipeline.ΦDR_eq, scopedRest0_eq, ownSems00_eq, hbmPts0_eq, ownedPts0_eq]

/-! ## The proof data and the body's obligation -/

def dats (_ : Fin 1) (c : Dev nD) : Dat τ (Elt F) Unit ℕ (Pipeline.UD sig nD τ) ℕ cfg0 c where
  A w := w.elim0
  after w _ := w.elim0
  Φ _ := Pipeline.ΦDR osem0 cfg0.spec H0 R0 (V m) c
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨Hs, Hg, Hc, Hh, Hy⟩, ⟨%W, -, HW⟩⟩
  iapply (wp_wand_r Idealize.ShloMosaic.frame (wpE (defs₀ (F := F)) Variants.none c none) (Q := fun _ => iprop(held c (V m c main_v264) (V m c main_arg1) (V m c main_arg3) (V m c main_v265) (V m c main_v87) (V m c main_v175) (V m c main_v263)
    ∗ ∃ W', owes (c : Thread nD τ) 0 W')))
  isplitl [Hs Hc Hh Hy HW]
  · unfold bodyAt0
    iapply (bodyRun c (V m c main_v264) (V m c main_arg1) (V m c main_arg3) (V m c main_v265) (V m c main_v87) (V m c main_v175) (V m c main_v263) W)
    isplitr [HW]
    · unfold held
      isplitl [Hs]; · iexact Hs
      isplitl [Hc]; · iexact Hc
      isplitl [Hh]; · iexact Hh
      iexact Hy
    iexact HW
  unfold held
  iintro %r ⟨⟨Hs, Hc, Hh, Hy⟩, ⟨%W', HW'⟩⟩
  isplitr [HW']
  · isplitl [Hs]; · iexact Hs
    isplitl [Hg]; · iexact Hg
    isplitl [Hc]; · iexact Hc
    isplitl [Hh]; · iexact Hh
    iexact Hy
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

/-- The region stages no window. -/
theorem no_windows (Φ : Fin cfg0.W → sProp 𝕄) : bigSep Finset.univ Φ = iprop(emp) := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [no_windows, no_windows, defs₀_row]
  refine triple_restated (sound_body m c t) ?_ ?_ fun _ => ?_
  · rfl
  · iintro ⟨H1, H2, -⟩
    isplitl [H1]; · iexact H1
    iexact H2
  · iintro ⟨H1, H2⟩
    isplitl [H1]; · iexact H1
    isplitl [H2]; · iexact H2
    iempintro

/-! ## The run and the frame -/

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun c w => w.elim0)
    (hin := fun _ => .rfl) (hout := fun _ => .rfl)

/-- The frame: every argument as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frame_of m ρ (dats m) (run_main m ρ)

end Cert.Kernel.Hand

end
-- ==== Proof.IdealParts.lean ====
/-
  The body of the kernel run once, over extended reals: the row blocks of the gate and up codes and the column blocks of
  the down codes are families of transfers, each started by a trip of one loop and awaited by a trip of a later one.
-/
module

public import proofs.«01_k».proof.Proof.Gen.KernelIdeal.Frame
public import proofs.«01_k».proof.Proof.Gen.KernelIdeal.Loops
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

abbrev mX : Memref sig .tc .hbm S128x5120 .bf16 := Memref.whole main_v264
abbrev mG : Memref sig .tc .hbm S4480x2560 .i8 := Memref.whole main_arg1
abbrev mU : Memref sig .tc .hbm S4480x2560 .i8 := Memref.whole main_arg3
abbrev mD : Memref sig .tc .hbm S2240x5120 .i8 := Memref.whole main_v265
abbrev mGs : Memref sig .tc .vmem S160x4480 .i32 := Memref.whole main_v87
abbrev mUs : Memref sig .tc .vmem S160x4480 .i32 := Memref.whole main_v175
abbrev mDs : Memref sig .tc .vmem S140x5120 .i32 := Memref.whole main_v263
abbrev mO : Memref sig .tc .hbm S128x5120 .bf16 := Memref.whole main_v266
abbrev sIo : Memref sig .tc .vmem S128x5120 .bf16 := Memref.whole cc0_scratch0
abbrev sG : Memref sig .tc .vmem S4480x2560 .i8 := Memref.whole cc0_scratch1
abbrev sU : Memref sig .tc .vmem S4480x2560 .i8 := Memref.whole cc0_scratch2
abbrev sD : Memref sig .tc .vmem S2240x5120 .i8 := Memref.whole cc0_scratch3
abbrev sX : Memref sig .tc .vmem S64x2x5120 .bf16 := Memref.whole cc0_scratch4
abbrev sH : Memref sig .tc .vmem S64x2x4480 .bf16 := Memref.whole cc0_scratch5
abbrev sHiLo : Memref sig .tc .vmem S2x160x128 .i32 := Memref.whole cc0_scratch6
abbrev sLoHi : Memref sig .tc .vmem S2x160x128 .i32 := Memref.whole cc0_scratch7

/-- What a buffer holds, on a core. -/
abbrev Cont (c : Dev nD) {sp : Space} {S : Shape} {e : EltTy} (M : Memref sig .tc sp S e) : Type := Buf (Elt F) (M.view.loc (c : Thread nD τ))
/-- A buffer whole. -/
abbrev pt (c : Dev nD) {sp : Space} {S : Shape} {e : EltTy} (M : Memref sig .tc sp S e) (f : Cont (F := F) c M) : sProp 𝕄 :=
  M.view.loc (c : Thread nD τ) ↦{fullShare} f
/-- A buffer's elements under a view of it. -/
abbrev ptV (c : Dev nD) {sp : Space} {S : Shape} {e : EltTy} (M : Memref sig .tc sp S e) (f : Cont (F := F) c M) : sProp 𝕄 :=
  M.view.loc (c : Thread nD τ) ↦[M.view.set]{fullShare} f

/-- Rows of a code array, as the transfers name them. -/
abbrev rowBlk {sp : Space} (M : Memref sig .tc sp S4480x2560 .i8) (o : Fin 2 → ℕ) (h : ∀ a, o a + S128x2560.size a ≤ S4480x2560.size a) :
    Memref sig .tc sp S128x2560 .i8 := M.slice (Rect.unit (s := S4480x2560) o S128x2560.size h) (fun _ => rfl)
/-- Columns of the down codes, as the transfers name them. -/
abbrev colBlk {sp : Space} (M : Memref sig .tc sp S2240x5120 .i8) (o : Fin 2 → ℕ) (h : ∀ a, o a + S2240x256.size a ≤ S2240x5120.size a) :
    Memref sig .tc sp S2240x256 .i8 := M.slice (Rect.unit (s := S2240x5120) o S2240x256.size h) (fun _ => rfl)
/-- The semaphore cells of the two families, as the transfers name them. -/
abbrev rowCell (o : Fin 1 → ℕ) (h : ∀ a, o a + S1.size a ≤ S35.size a) : DmaSem sig :=
  ((cc0_scratch9.slice (Rect.unit (s := S35) o S1.size h)).squeeze S_ squeezes_S1_S_).sem
abbrev colCell (o : Fin 1 → ℕ) (h : ∀ a, o a + S1.size a ≤ S20.size a) : DmaSem sig :=
  ((cc0_scratch10.slice (Rect.unit (s := S20) o S1.size h)).squeeze S_ squeezes_S1_S_).sem

/-! ## One member of the family of row blocks: at rest, in flight, landed -/

section Rows

variable (c : Dev nD) (f1 : Cont (F := F) c mG) (f2 : Cont (F := F) c mU)
variable (p : Fin 1 → ℕ) (hp : ∀ a, p a + S1.size a ≤ S35.size a) (o : Fin 2 → ℕ) (ho : ∀ a, o a + S128x2560.size a ≤ S4480x2560.size a)

/-- What a landed block of gate codes holds, over what was there. -/
abbrev gLand (d : Cont (F := F) c (rowBlk sG o ho)) : Cont (F := F) c (rowBlk sG o ho) :=
  (rowBlk sG o ho).view.writes (Elt F) d [⟨Rect.whole S128x2560, ReadAs.same.apply ((rowBlk mG o ho).view.read (Elt F) f1)⟩]
abbrev uLand (d : Cont (F := F) c (rowBlk sU o ho)) : Cont (F := F) c (rowBlk sU o ho) :=
  (rowBlk sU o ho).view.writes (Elt F) d [⟨Rect.whole S128x2560, ReadAs.same.apply ((rowBlk mU o ho).view.read (Elt F) f2)⟩]

def rowDeliv (d1 : Cont (F := F) c (rowBlk sG o ho)) (d2 : Cont (F := F) c (rowBlk sU o ho)) : Fin 2 → sProp 𝕄
  | 0 => iprop(ptV c (rowBlk sG o ho) (gLand c f1 o ho d1) ∗ ptV c (rowBlk mG o ho) f1)
  | 1 => iprop(ptV c (rowBlk sU o ho) (uLand c f2 o ho d2) ∗ ptV c (rowBlk mU o ho) f2)
instance rowDeliv_storable (d1 : Cont (F := F) c (rowBlk sG o ho)) (d2 : Cont (F := F) c (rowBlk sU o ho)) (t : Fin 2) :
    Storable (upEmb : UEmb _ 𝕄) (rowDeliv c f1 f2 o ho d1 d2 t) := by
  fin_cases t <;> simp only [rowDeliv] <;> infer_instance

def rowIdle : sProp 𝕄 :=
  iprop(semVal ((c : Thread nD τ), SemLoc.dma (rowCell p hp)) 0 ∗ ptV c (rowBlk mG o ho) f1 ∗ ptV c (rowBlk mU o ho) f2
    ∗ (∃ d, ptV c (rowBlk sG o ho) d) ∗ (∃ d, ptV c (rowBlk sU o ho) d))
def rowFly : sProp 𝕄 :=
  iprop(∃ d1 d2, Transfers.Batch (countersEmb (U := Pipeline.UD sig nD τ)) (c : Thread nD τ) (.dma (rowCell p hp)) () 10240
    (rowDeliv c f1 f2 o ho d1 d2) 2 0)
end Rows

theorem inbC35 (b : Fin 35) : ∀ a, (![b.val] : Fin 1 → ℕ) a + S1.size a ≤ S35.size a := by
  have := b.isLt; intro a; fin_cases a; show b.val + 1 ≤ 35; omega
theorem inbR35 (b : Fin 35) : ∀ a, (![128 * b.val, 0] : Fin 2 → ℕ) a + S128x2560.size a ≤ S4480x2560.size a := by
  have := b.isLt; intro a; fin_cases a
  · show 128 * b.val + 128 ≤ 4480; omega
  · show 0 + 2560 ≤ 2560; omega

theorem rowIdle_congr (c : Dev nD) (f1 : Cont (F := F) c mG) (f2 : Cont (F := F) c mU) {p p' : Fin 1 → ℕ} {o o' : Fin 2 → ℕ} (hpp : p = p') (hoo : o = o')
    (hp hp' ho ho') : rowIdle c f1 f2 p hp o ho = rowIdle c f1 f2 p' hp' o' ho' := by subst hpp; subst hoo; rfl
theorem rowFly_congr (c : Dev nD) (f1 : Cont (F := F) c mG) (f2 : Cont (F := F) c mU) {p p' : Fin 1 → ℕ} {o o' : Fin 2 → ℕ} (hpp : p = p') (hoo : o = o')
    (hp hp' ho ho') : rowFly c f1 f2 p hp o ho = rowFly c f1 f2 p' hp' o' ho' := by subst hpp; subst hoo; rfl
abbrev idleR (c : Dev nD) (f1 : Cont (F := F) c mG) (f2 : Cont (F := F) c mU) (b : Fin 35) : sProp 𝕄 := rowIdle c f1 f2 ![b.val] (inbC35 b) ![128 * b.val, 0] (inbR35 b)
abbrev flyR (c : Dev nD) (f1 : Cont (F := F) c mG) (f2 : Cont (F := F) c mU) (b : Fin 35) : sProp 𝕄 := rowFly c f1 f2 ![b.val] (inbC35 b) ![128 * b.val, 0] (inbR35 b)
/-! ## One member of the family of column blocks: at rest, in flight, landed -/

section Cols

variable (c : Dev nD) (f3 : Cont (F := F) c mD)
variable (p : Fin 1 → ℕ) (hp : ∀ a, p a + S1.size a ≤ S20.size a) (o : Fin 2 → ℕ) (ho : ∀ a, o a + S2240x256.size a ≤ S2240x5120.size a)

/-- What a landed block of down codes holds, over what was there. -/
abbrev dLand (d : Cont (F := F) c (colBlk sD o ho)) : Cont (F := F) c (colBlk sD o ho) :=
  (colBlk sD o ho).view.writes (Elt F) d [⟨Rect.whole S2240x256, ReadAs.same.apply ((colBlk mD o ho).view.read (Elt F) f3)⟩]

def colDeliv (d : Cont (F := F) c (colBlk sD o ho)) : Fin 1 → sProp 𝕄
  | 0 => iprop(ptV c (colBlk sD o ho) (dLand c f3 o ho d) ∗ ptV c (colBlk mD o ho) f3)
instance colDeliv_storable (d : Cont (F := F) c (colBlk sD o ho)) (t : Fin 1) : Storable (upEmb : UEmb _ 𝕄) (colDeliv c f3 o ho d t) := by
  fin_cases t; simp only [colDeliv]; infer_instance

def colIdle : sProp 𝕄 :=
  iprop(semVal ((c : Thread nD τ), SemLoc.dma (colCell p hp)) 0 ∗ ptV c (colBlk mD o ho) f3 ∗ (∃ d, ptV c (colBlk sD o ho) d))
def colFly : sProp 𝕄 :=
  iprop(∃ d, Transfers.Batch (countersEmb (U := Pipeline.UD sig nD τ)) (c : Thread nD τ) (.dma (colCell p hp)) () 17920
    (colDeliv c f3 o ho d) 1 0)

end Cols

theorem inbC20 (b : Fin 20) : ∀ a, (![b.val] : Fin 1 → ℕ) a + S1.size a ≤ S20.size a := by
  have := b.isLt; intro a; fin_cases a; show b.val + 1 ≤ 20; omega
theorem inbR20 (b : Fin 20) : ∀ a, (![0, 256 * b.val] : Fin 2 → ℕ) a + S2240x256.size a ≤ S2240x5120.size a := by
  have := b.isLt; intro a; fin_cases a
  · show 0 + 2240 ≤ 2240; omega
  · show 256 * b.val + 256 ≤ 5120; omega

theorem colIdle_congr (c : Dev nD) (f3 : Cont (F := F) c mD) {p p' : Fin 1 → ℕ} {o o' : Fin 2 → ℕ} (hpp : p = p') (hoo : o = o')
    (hp hp' ho ho') : colIdle c f3 p hp o ho = colIdle c f3 p' hp' o' ho' := by subst hpp; subst hoo; rfl
theorem colFly_congr (c : Dev nD) (f3 : Cont (F := F) c mD) {p p' : Fin 1 → ℕ} {o o' : Fin 2 → ℕ} (hpp : p = p') (hoo : o = o')
    (hp hp' ho ho') : colFly c f3 p hp o ho = colFly c f3 p' hp' o' ho' := by subst hpp; subst hoo; rfl

abbrev idleD (c : Dev nD) (f3 : Cont (F := F) c mD) (b : Fin 20) : sProp 𝕄 := colIdle c f3 ![b.val] (inbC20 b) ![0, 256 * b.val] (inbR20 b)
abbrev flyD (c : Dev nD) (f3 : Cont (F := F) c mD) (b : Fin 20) : sProp 𝕄 := colFly c f3 ![b.val] (inbC20 b) ![0, 256 * b.val] (inbR20 b)

theorem trips1 : k0_t1_loop.trips = 35 := by decide
theorem trips2 : k0_t2_loop.trips = 20 := by decide
theorem trips3 : k0_t3_loop.trips = 35 := by decide
theorem trips4 : k0_t4_loop.trips = 20 := by decide

end Cert.KernelIdeal.Hand

end
-- ==== Proof.IdealStep1.lean ====
/-
  One trip of the loop that starts the transfers of the gate and up codes.
-/
module

public import proofs.«01_k».proof.Proof.IdealParts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The loop that starts the row blocks' transfers -/

def inv1 (c : Dev nD) (f1 : Cont (F := F) c mG) (f2 : Cont (F := F) c mU) (k : ℕ) (_ : Unit) : sProp 𝕄 :=
  iprop(bigSep (Ring.rangeSet 35 0 k) (flyR c f1 f2) ∗ bigSep (Ring.rangeSet 35 k 35) (idleR c f1 f2))

abbrev body1 : Fin k0_t1_loop.trips → Unit → Prog (TpuEff nD τ sig (Elt F) Λ₀ .tc) Unit :=
  k0_t1_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step1 (c : Dev nD) (f1 : Cont (F := F) c mG) (f2 : Cont (F := F) c mU) (k : Fin k0_t1_loop.trips) (acc : Unit) :
    inv1 c f1 f2 k acc ⊢ wp frame (wpE (defs₀ (F := F)) Variants.none c none) Set.univ (body1 k acc) (inv1 c f1 f2 (k.val + 1)) := by
  have hk : k.val < 35 := trips1 ▸ k.isLt
  unfold inv1
  have e1 : idleR c f1 f2 ⟨k.val, hk⟩ = rowIdle c f1 f2 (k0_off1 k) (k0_off1_inb k) (k0_off2 k) (k0_off2_inb k) :=
    rowIdle_congr c f1 f2 (k0_off1_eq k).symm (k0_off2_eq k).symm _ _ _ _
  have e2 : bigSep (Ring.rangeSet 35 0 (k.val + 1)) (flyR c f1 f2)
      = iprop(rowFly c f1 f2 (k0_off1 k) (k0_off1_inb k) (k0_off2 k) (k0_off2_inb k) ∗ bigSep (Ring.rangeSet 35 0 k.val) (flyR c f1 f2)) := by
    rw [Ring.bigSep_rangeSet_last (Φ := flyR c f1 f2) (Nat.succ_pos k.val) hk]
    exact congrArg (fun A => iprop(A ∗ bigSep (Ring.rangeSet 35 0 k.val) (flyR c f1 f2)))
      (rowFly_congr c f1 f2 (k0_off1_eq k).symm (k0_off2_eq k).symm _ _ _ _)
  rw [Ring.bigSep_rangeSet_head (Φ := idleR c f1 f2) hk hk, e1, e2]
  unfold rowIdle ptV rowBlk rowCell
  iintro ⟨HF, ⟨Hc, Hg, Hu, ⟨%d1, H1⟩, ⟨%d2, H2⟩⟩, HI⟩
  imod (Transfers.batch_alloc' (Lvl := ℕ) (countersEmb (U := Pipeline.UD sig nD τ)) (c : Thread nD τ) () 10240
    (rowDeliv c f1 f2 (k0_off2 k) (k0_off2_inb k) d1 d2) (sm := .dma (rowCell (k0_off1 k) (k0_off1_inb k))) (E := Set.univ)) $$ Hc with HB
  unfold rowDeliv gLand uLand ptV rowBlk
  unfold body1 k0_t1_body
  sl_exec
  sl_step
  isplitr [HI]
  · isplitl [HB]
    · unfold rowFly; iexists d1, d2; unfold rowDeliv; iexact HB
    · iexact HF
  · iexact HI

end Cert.KernelIdeal.Hand

end
-- ==== Proof.IdealStep2.lean ====
/-
  One trip of the loop that starts the transfers of the down codes.
-/
module

public import proofs.«01_k».proof.Proof.IdealParts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The loop that starts the column blocks' transfers -/

def inv2 (c : Dev nD) (f3 : Cont (F := F) c mD) (k : ℕ) (_ : Unit) : sProp 𝕄 :=
  iprop(bigSep (Ring.rangeSet 20 0 k) (flyD c f3) ∗ bigSep (Ring.rangeSet 20 k 20) (idleD c f3))

abbrev body2 : Fin k0_t2_loop.trips → Unit → Prog (TpuEff nD τ sig (Elt F) Λ₀ .tc) Unit :=
  k0_t2_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step2 (c : Dev nD) (f3 : Cont (F := F) c mD) (k : Fin k0_t2_loop.trips) (acc : Unit) :
    inv2 c f3 k acc ⊢ wp frame (wpE (defs₀ (F := F)) Variants.none c none) Set.univ (body2 k acc) (inv2 c f3 (k.val + 1)) := by
  have hk : k.val < 20 := trips2 ▸ k.isLt
  unfold inv2
  have e1 : idleD c f3 ⟨k.val, hk⟩ = colIdle c f3 (k0_off3 k) (k0_off3_inb k) (k0_off4 k) (k0_off4_inb k) :=
    colIdle_congr c f3 (k0_off3_eq k).symm (k0_off4_eq k).symm _ _ _ _
  have e2 : bigSep (Ring.rangeSet 20 0 (k.val + 1)) (flyD c f3)
      = iprop(colFly c f3 (k0_off3 k) (k0_off3_inb k) (k0_off4 k) (k0_off4_inb k) ∗ bigSep (Ring.rangeSet 20 0 k.val) (flyD c f3)) := by
    rw [Ring.bigSep_rangeSet_last (Φ := flyD c f3) (Nat.succ_pos k.val) hk]
    exact congrArg (fun A => iprop(A ∗ bigSep (Ring.rangeSet 20 0 k.val) (flyD c f3)))
      (colFly_congr c f3 (k0_off3_eq k).symm (k0_off4_eq k).symm _ _ _ _)
  rw [Ring.bigSep_rangeSet_head (Φ := idleD c f3) hk hk, e1, e2]
  unfold colIdle ptV colBlk colCell
  iintro ⟨HF, ⟨Hc, Hg, ⟨%d, H1⟩⟩, HI⟩
  imod (Transfers.batch_alloc' (Lvl := ℕ) (countersEmb (U := Pipeline.UD sig nD τ)) (c : Thread nD τ) () 17920
    (colDeliv c f3 (k0_off4 k) (k0_off4_inb k) d) (sm := .dma (colCell (k0_off3 k) (k0_off3_inb k))) (E := Set.univ)) $$ Hc with HB
  unfold colDeliv dLand ptV colBlk
  unfold body2 k0_t2_body
  sl_exec
  sl_step
  isplitr [HI]
  · isplitl [HB]
    · unfold colFly; iexists d; unfold colDeliv; iexact HB
    · iexact HF
  · iexact HI

end Cert.KernelIdeal.Hand

end
-- ==== Proof.IdealStep3.lean ====
/-
  One trip of the loop over the row blocks.
-/
module

public import proofs.«01_k».proof.Proof.IdealParts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What a trip reads and stores -/

section Reads
variable (c : Dev nD) (f1 : Cont (F := F) c mG) (f2 : Cont (F := F) c mU) (fa : Cont (F := F) c mGs) (fb : Cont (F := F) c mUs) (fx : Cont (F := F) c sX)
  (k : Fin k0_t3_loop.trips)

/-- The gate's codes of the trip, read back from where they landed. -/
def readG : Vec F S128x2560 .i8 :=
  View.readAt (Elt F) sG.view (Rect.unit (s := S4480x2560) (k0_off8 k) S128x2560.size (k0_off8_inb k)).toLoadRect
    (gLand c f1 (k0_off6 k) (k0_off6_inb k) (rowBlk sG (k0_off6 k) (k0_off6_inb k)).view.junk)
/-- The up projection's. -/
def readU : Vec F S128x2560 .i8 :=
  View.readAt (Elt F) sU.view (Rect.unit (s := S4480x2560) (k0_off8 k) S128x2560.size (k0_off8_inb k)).toLoadRect
    (uLand c f2 (k0_off6 k) (k0_off6_inb k) (rowBlk sU (k0_off6 k) (k0_off6_inb k)).view.junk)
/-- The scales' words of the trip. -/
def readGs : Vec F S160x128 .i32 :=
  View.readAt (Elt F) mGs.view (Rect.unit (s := S160x4480) (k0_off7 k) S160x128.size (k0_off7_inb k)).toLoadRect fa
def readUs : Vec F S160x128 .i32 :=
  View.readAt (Elt F) mUs.view (Rect.unit (s := S160x4480) (k0_off7 k) S160x128.size (k0_off7_inb k)).toLoadRect fb

/-- The two slots of words, after the trip's stores. -/
def slotsHi (p : Cont (F := F) c sHiLo) : Cont (F := F) c sHiLo :=
  sHiLo.view.writes (Elt F) p
    [⟨Rect.unit ![1, 0, 0] S1x160x128.size inb_S2x160x128_S1x160x128_1_0_0, k0_pay8 (readUs c fb k)⟩,
      ⟨Rect.unit ![0, 0, 0] S1x160x128.size inb_S2x160x128_S1x160x128_0_0_0, k0_pay5 (readGs c fa k)⟩]
/-- The same with each word's halves swapped. -/
def slotsLo (p : Cont (F := F) c sLoHi) : Cont (F := F) c sLoHi :=
  sLoHi.view.writes (Elt F) p
    [⟨Rect.unit ![1, 0, 0] S1x160x128.size inb_S2x160x128_S1x160x128_1_0_0, k0_pay10 (k0_pay7 (readUs c fb k)) k0_pay9⟩,
      ⟨Rect.unit ![0, 0, 0] S1x160x128.size inb_S2x160x128_S1x160x128_0_0_0, k0_pay6 (readGs c fa k)⟩]
/-- A slot, read. -/
def slot0 {M : Memref sig .tc .vmem S2x160x128 .i32} (q : Cont (F := F) c M) : Vec F S160x128 .i32 :=
  View.readAt (Elt F) ((M.slice (Rect.unit (s := S2x160x128) ![0, 0, 0] S1x160x128.size inb_S2x160x128_S1x160x128_0_0_0) (fun _ => rfl)).squeeze
    S160x128 squeezes_S1x160x128_S160x128).view (Rect.unit (s := S160x128) ![0, 0] S160x128.size inb_S160x128_S160x128_0_0).toLoadRect q
def slot1 {M : Memref sig .tc .vmem S2x160x128 .i32} (q : Cont (F := F) c M) : Vec F S160x128 .i32 :=
  View.readAt (Elt F) ((M.slice (Rect.unit (s := S2x160x128) ![1, 0, 0] S1x160x128.size inb_S2x160x128_S1x160x128_1_0_0) (fun _ => rfl)).squeeze
    S160x128 squeezes_S1x160x128_S160x128).view (Rect.unit (s := S160x128) ![0, 0] S160x128.size inb_S160x128_S160x128_0_0).toLoadRect q
/-- The activations, read. -/
def readX : Vec F S64x2x5120 .bf16 :=
  View.readAt (Elt F) sX.view (Rect.unit (s := S64x2x5120) ![0, 0, 0] S64x2x5120.size inb_S64x2x5120_S64x2x5120_0_0_0).toLoadRect fx

/-- The weights of the trip, gate beside up. -/
def tripW : FVec F S5120x256 .bf16 :=
  k0_pay14 (k0_pay11 (readG c f1 k)) (k0_pay12 (slot0 c (M := sLoHi) (slotsLo c fa fb k sLoHi.view.junk)))
    (k0_pay13 (readG c f1 k) (slot0 c (M := sHiLo) (slotsHi c fa fb k sHiLo.view.junk))) (readU c f2 k)
    (slot1 c (M := sHiLo) (slotsHi c fa fb k sHiLo.view.junk)) (slot1 c (M := sLoHi) (slotsLo c fa fb k sLoHi.view.junk))
/-- What the trip stores. -/
def tripH : Vec F S64x2x128 .bf16 := k0_pay2 (tripW c f1 f2 fa fb k) (readX c fx) (k0_pay15 (readX c fx))
/-- The gated values after the trip. -/
def afterH (h : Cont (F := F) c sH) : Cont (F := F) c sH :=
  sH.view.writes (Elt F) h [⟨Rect.unit (s := S64x2x4480) (k0_off9 k) S64x2x128.size (k0_off9_inb k), tripH c f1 f2 fa fb fx k⟩]
end Reads

/-! ## The loop over the row blocks: the gated values -/

def inv3 (c : Dev nD) (P : ℕ → Cont (F := F) c sH → Prop) (f1 : Cont (F := F) c mG) (f2 : Cont (F := F) c mU) (fa : Cont (F := F) c mGs) (fb : Cont (F := F) c mUs)
    (fx : Cont (F := F) c sX) (k : ℕ) (_ : Unit) : sProp 𝕄 :=
  iprop(bigSep (Ring.rangeSet 35 0 k) (idleR c f1 f2) ∗ bigSep (Ring.rangeSet 35 k 35) (flyR c f1 f2)
    ∗ pt c mGs fa ∗ pt c mUs fb ∗ pt c sX fx ∗ (∃ h, ⌜P k h⌝ ∗ pt c sH h) ∗ (∃ p, pt c sHiLo p) ∗ (∃ q, pt c sLoHi q)
    ∗ ∃ W, owes (c : Thread nD τ) 0 W)

abbrev body3 : Fin k0_t3_loop.trips → Unit → Prog (TpuEff nD τ sig (Elt F) Λ₀ .tc) Unit :=
  k0_t3_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step3 (c : Dev nD) (P : ℕ → Cont (F := F) c sH → Prop) (f1 : Cont (F := F) c mG) (f2 : Cont (F := F) c mU) (fa : Cont (F := F) c mGs) (fb : Cont (F := F) c mUs)
    (fx : Cont (F := F) c sX) (k : Fin k0_t3_loop.trips) (acc : Unit)
    (hP : ∀ h, P k.val h → P (k.val + 1) (afterH c f1 f2 fa fb fx k h)) :
    inv3 c P f1 f2 fa fb fx k acc
      ⊢ wp frame (wpE (defs₀ (F := F)) Variants.none c none) Set.univ (body3 k acc) (inv3 c P f1 f2 fa fb fx (k.val + 1)) := by
  have hk : k.val < 35 := trips3 ▸ k.isLt
  unfold inv3
  have e1 : flyR c f1 f2 ⟨k.val, hk⟩ = rowFly c f1 f2 (k0_off5 k) (k0_off5_inb k) (k0_off6 k) (k0_off6_inb k) :=
    rowFly_congr c f1 f2 (k0_off5_eq k).symm (k0_off6_eq k).symm _ _ _ _
  have e2 : bigSep (Ring.rangeSet 35 0 (k.val + 1)) (idleR c f1 f2)
      = iprop(rowIdle c f1 f2 (k0_off5 k) (k0_off5_inb k) (k0_off6 k) (k0_off6_inb k) ∗ bigSep (Ring.rangeSet 35 0 k.val) (idleR c f1 f2)) := by
    rw [Ring.bigSep_rangeSet_last (Φ := idleR c f1 f2) (Nat.succ_pos k.val) hk]
    exact congrArg (fun A => iprop(A ∗ bigSep (Ring.rangeSet 35 0 k.val) (idleR c f1 f2)))
      (rowIdle_congr c f1 f2 (k0_off5_eq k).symm (k0_off6_eq k).symm _ _ _ _)
  rw [Ring.bigSep_rangeSet_head (Φ := flyR c f1 f2) hk hk, e1, e2]
  unfold rowFly
  iintro ⟨HI, ⟨⟨%d1, %d2, HB⟩, HF⟩, Ha, Hb, Hx, ⟨%h, %hPh, Hh⟩, ⟨%p, Hp⟩, ⟨%q, Hq⟩, ⟨%W, HW⟩⟩
  unfold rowDeliv gLand uLand ptV rowBlk rowCell
  unfold body3 k0_t3_body
  simp only [k0_part1_eq_skeleton, k0_part2_eq_skeleton, k0_part3_eq_skeleton]
  unfold k0_part1_skel k0_part2_skel k0_part3_skel
  sl_exec
  ihave HG := (show _ ⊢ ptV c (rowBlk sG (k0_off6 k) (k0_off6_inb k)) (gLand c f1 (k0_off6 k) (k0_off6_inb k) d1) from .rfl) $$ HB_dst0
  ihave HU := (show _ ⊢ ptV c (rowBlk sU (k0_off6 k) (k0_off6_inb k)) (uLand c f2 (k0_off6 k) (k0_off6_inb k) d2) from .rfl) $$ HB_dst1
  unfold gLand uLand ptV rowBlk
  sl_exec
  sl_step
  isplitl [HI HB HG HB_src0 HU HB_src1]
  · isplitr [HI]
    · unfold rowIdle ptV rowBlk rowCell
      isplitl [HB]; · iexact HB
      isplitl [HB_src0]; · iexact HB_src0
      isplitl [HB_src1]; · iexact HB_src1
      isplitl [HG]; · iexists _; iexact HG
      iexists _; iexact HU
    · iexact HI
  isplitl [HF]; · iexact HF
  isplitl [Ha]; · iexact Ha
  isplitl [Hb]; · iexact Hb
  isplitl [Hx]; · iexact Hx
  isplitl [Hh]
  · iexists _
    isplitr; swap; · iexact Hh
    ipureintro
    exact hP h hPh
  isplitl [Hp]; · iexists _; iexact Hp
  isplitl [Hq]; · iexists _; iexact Hq
  iexists _; iexact HW

end Cert.KernelIdeal.Hand

end
-- ==== Proof.IdealStep4.lean ====
/-
  One trip of the loop over the column blocks.
-/
module

public import proofs.«01_k».proof.Proof.IdealParts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What a trip reads and stores -/

section Reads
variable (c : Dev nD) (f3 : Cont (F := F) c mD) (fd : Cont (F := F) c mDs) (fh : Cont (F := F) c sH) (k : Fin k0_t4_loop.trips)

/-- Half the trip's codes, read back from where they landed. -/
def readD (r : BitVec 32) (hr : ∀ a, k0_off13 k r a + S2240x128.size a ≤ S2240x5120.size a) : Vec F S2240x128 .i8 :=
  View.readAt (Elt F) sD.view (Rect.unit (s := S2240x5120) (k0_off13 k r) S2240x128.size hr).toLoadRect
    (dLand c f3 (k0_off11 k) (k0_off11_inb k) (colBlk sD (k0_off11 k) (k0_off11_inb k)).view.junk)
/-- The scales' words of the same half. -/
def readDs (r : BitVec 32) (hr : ∀ a, k0_off12 k r a + S140x128.size a ≤ S140x5120.size a) : Vec F S140x128 .i32 :=
  View.readAt (Elt F) mDs.view (Rect.unit (s := S140x5120) (k0_off12 k r) S140x128.size hr).toLoadRect fd

/-- The two slots of words, after the trip's stores. -/
def dslotsHi0 (p : Cont (F := F) c sHiLo) : Cont (F := F) c sHiLo :=
  sHiLo.view.writes (Elt F) p
    [⟨Rect.unit ![0, 0, 0] S1x140x128.size inb_S2x160x128_S1x140x128_0_0_0, k0_pay17 (readDs c fd k 0#32 (k0_off12_inb k 0))⟩]
def dslotsHi (p : Cont (F := F) c sHiLo) : Cont (F := F) c sHiLo :=
  sHiLo.view.writes (Elt F) p
    [⟨Rect.unit ![1, 0, 0] S1x140x128.size inb_S2x160x128_S1x140x128_1_0_0, k0_pay22 (readDs c fd k 128#32 (k0_off12_inb k 1))⟩,
      ⟨Rect.unit ![0, 0, 0] S1x140x128.size inb_S2x160x128_S1x140x128_0_0_0, k0_pay17 (readDs c fd k 0#32 (k0_off12_inb k 0))⟩]
/-- The same with each word's halves swapped. -/
def dslotsLo0 (p : Cont (F := F) c sLoHi) : Cont (F := F) c sLoHi :=
  sLoHi.view.writes (Elt F) p
    [⟨Rect.unit ![0, 0, 0] S1x140x128.size inb_S2x160x128_S1x140x128_0_0_0, k0_pay18 (readDs c fd k 0#32 (k0_off12_inb k 0))⟩]
def dslotsLo (p : Cont (F := F) c sLoHi) : Cont (F := F) c sLoHi :=
  sLoHi.view.writes (Elt F) p
    [⟨Rect.unit ![1, 0, 0] S1x140x128.size inb_S2x160x128_S1x140x128_1_0_0, k0_pay23 (readDs c fd k 128#32 (k0_off12_inb k 1))⟩,
      ⟨Rect.unit ![0, 0, 0] S1x140x128.size inb_S2x160x128_S1x140x128_0_0_0, k0_pay18 (readDs c fd k 0#32 (k0_off12_inb k 0))⟩]
/-- A slot's rows, read. -/
def dslot0 {M : Memref sig .tc .vmem S2x160x128 .i32} (q : Cont (F := F) c M) : Vec F S140x128 .i32 :=
  View.readAt (Elt F) ((M.slice (Rect.unit (s := S2x160x128) ![0, 0, 0] S1x160x128.size inb_S2x160x128_S1x160x128_0_0_0) (fun _ => rfl)).squeeze
    S160x128 squeezes_S1x160x128_S160x128).view (Rect.unit (s := S160x128) ![0, 0] S140x128.size inb_S160x128_S140x128_0_0).toLoadRect q
def dslot1 {M : Memref sig .tc .vmem S2x160x128 .i32} (q : Cont (F := F) c M) : Vec F S140x128 .i32 :=
  View.readAt (Elt F) ((M.slice (Rect.unit (s := S2x160x128) ![1, 0, 0] S1x160x128.size inb_S2x160x128_S1x160x128_1_0_0) (fun _ => rfl)).squeeze
    S160x128 squeezes_S1x160x128_S160x128).view (Rect.unit (s := S160x128) ![0, 0] S140x128.size inb_S160x128_S140x128_0_0).toLoadRect q
/-- The gated values, read. -/
def readH : Vec F S64x2x4480 .bf16 :=
  View.readAt (Elt F) sH.view (Rect.unit (s := S64x2x4480) ![0, 0, 0] S64x2x4480.size inb_S64x2x4480_S64x2x4480_0_0_0).toLoadRect fh

/-- The weights of the trip, its two halves beside each other. -/
def tripD (p : Cont (F := F) c sHiLo) (q : Cont (F := F) c sLoHi) : FVec F S4480x256 .bf16 :=
  k0_pay24 (k0_pay20 (F := F) (k0_pay19 (F := F) (readD c f3 k 0#32 (k0_off13_inb k 0))) (dslot0 c (M := sHiLo) (dslotsHi0 c fd k p)) (dslot0 c (M := sLoHi) (dslotsLo0 c fd k q)))
    (readD c f3 k 128#32 (k0_off13_inb k 1)) (dslot1 c (M := sHiLo) (dslotsHi c fd k p)) (dslot1 c (M := sLoHi) (dslotsLo c fd k q))
/-- The result after the trip. -/
def afterY (p : Cont (F := F) c sHiLo) (q : Cont (F := F) c sLoHi) (y : Cont (F := F) c sIo) : Cont (F := F) c sIo :=
  sIo.view.writes (Elt F) y [⟨Rect.unit (s := S128x5120) (k0_off14 k) S128x256.size (k0_off14_inb k), k0_pay3 (tripD c f3 fd k p q) (k0_pay25 (readH c fh))⟩]
end Reads

/-! ## The loop over the column blocks: the result's columns -/

def inv4 (c : Dev nD) (P : ℕ → Cont (F := F) c sIo → Prop) (f3 : Cont (F := F) c mD) (fd : Cont (F := F) c mDs) (fh : Cont (F := F) c sH) (k : ℕ) (_ : Unit) : sProp 𝕄 :=
  iprop(bigSep (Ring.rangeSet 20 0 k) (idleD c f3) ∗ bigSep (Ring.rangeSet 20 k 20) (flyD c f3)
    ∗ pt c mDs fd ∗ pt c sH fh ∗ (∃ y, ⌜P k y⌝ ∗ pt c sIo y) ∗ (∃ p, pt c sHiLo p) ∗ (∃ q, pt c sLoHi q)
    ∗ ∃ W, owes (c : Thread nD τ) 0 W)

abbrev body4 : Fin k0_t4_loop.trips → Unit → Prog (TpuEff nD τ sig (Elt F) Λ₀ .tc) Unit :=
  k0_t4_body mX (Memref.isWhole_whole _) mG (Memref.isWhole_whole _) mU (Memref.isWhole_whole _) mD (Memref.isWhole_whole _)
    mGs (Memref.isWhole_whole _) mUs (Memref.isWhole_whole _) mDs (Memref.isWhole_whole _) mO (Memref.isWhole_whole _)
    sIo (Memref.isWhole_whole _) sG (Memref.isWhole_whole _) sU (Memref.isWhole_whole _) sD (Memref.isWhole_whole _)
    sX (Memref.isWhole_whole _) sH (Memref.isWhole_whole _) sHiLo (Memref.isWhole_whole _) sLoHi (Memref.isWhole_whole _)
    cc0_scratch8 cc0_scratch9 cc0_scratch10 cc0_scratch11

theorem step4 (c : Dev nD) (P : ℕ → Cont (F := F) c sIo → Prop) (f3 : Cont (F := F) c mD) (fd : Cont (F := F) c mDs) (fh : Cont (F := F) c sH) (k : Fin k0_t4_loop.trips) (acc : Unit)
    (hP : ∀ p q y, P k.val y → P (k.val + 1) (afterY c f3 fd fh k p q y)) :
    inv4 c P f3 fd fh k acc
      ⊢ wp frame (wpE (defs₀ (F := F)) Variants.none c none) Set.univ (body4 k acc) (inv4 c P f3 fd fh (k.val + 1)) := by
  have hk : k.val < 20 := trips4 ▸ k.isLt
  unfold inv4
  have e1 : flyD c f3 ⟨k.val, hk⟩ = colFly c f3 (k0_off10 k) (k0_off10_inb k) (k0_off11 k) (k0_off11_inb k) :=
    colFly_congr c f3 (k0_off10_eq k).symm (k0_off11_eq k).symm _ _ _ _
  have e2 : bigSep (Ring.rangeSet 20 0 (k.val + 1)) (idleD c f3)
      = iprop(colIdle c f3 (k0_off10 k) (k0_off10_inb k) (k0_off11 k) (k0_off11_inb k) ∗ bigSep (Ring.rangeSet 20 0 k.val) (idleD c f3)) := by
    rw [Ring.bigSep_rangeSet_last (Φ := idleD c f3) (Nat.succ_pos k.val) hk]
    exact congrArg (fun A => iprop(A ∗ bigSep (Ring.rangeSet 20 0 k.val) (idleD c f3)))
      (colIdle_congr c f3 (k0_off10_eq k).symm (k0_off11_eq k).symm _ _ _ _)
  rw [Ring.bigSep_rangeSet_head (Φ := flyD c f3) hk hk, e1, e2]
  unfold colFly
  iintro ⟨HI, ⟨⟨%d1, HB⟩, HF⟩, Hd, Hh, ⟨%y, %hPy, Hy⟩, ⟨%p, Hp⟩, ⟨%q, Hq⟩, ⟨%W, HW⟩⟩
  unfold colDeliv dLand ptV colBlk colCell
  unfold body4 k0_t4_body
  simp only [k0_part4_eq_skeleton, k0_part5_eq_skeleton, k0_part6_eq_skeleton]
  unfold k0_part4_skel k0_part5_skel k0_part6_skel
  sl_exec
  ihave HG := (show _ ⊢ ptV c (colBlk sD (k0_off11 k) (k0_off11_inb k)) (dLand c f3 (k0_off11 k) (k0_off11_inb k) d1) from .rfl) $$ HB_dst0
  unfold dLand ptV colBlk
  sl_exec
  sl_step
  isplitl [HI HB HG HB_src0]
  · isplitr [HI]
    · unfold colIdle ptV colBlk colCell
      isplitl [HB]; · iexact HB
      isplitl [HB_src0]; · iexact HB_src0
      iexists _; iexact HG
    · iexact HI
  isplitl [HF]; · iexact HF
  isplitl [Hd]; · iexact Hd
  isplitl [Hh]; · iexact Hh
  isplitl [Hy]
  · iexists _
    isplitr; swap; · iexact Hy
    ipureintro
    exact hP _ _ y hPy
  isplitl [Hp]; · iexists _; iexact Hp
  isplitl [Hq]; · iexists _; iexact Hq
  iexists _; iexact HW

end Cert.KernelIdeal.Hand

end
-- ==== Proof.IdealBlocks.lean ====
/-
  The code arrays as their blocks, and the two families of transfers opened and closed.
-/
module

public import proofs.«01_k».proof.Proof.IdealParts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The arrays as their blocks -/

abbrev rset (b : Fin 35) : Finset S4480x2560.Idx := (Rect.unit (s := S4480x2560) ![128 * b.val, 0] S128x2560.size (inbR35 b)).set
theorem mem_rset (b : Fin 35) (y : S4480x2560.Idx) : y ∈ rset b ↔ 128 * b.val ≤ (y 0).val ∧ (y 0).val < 128 * b.val + 128 := by
  rw [Rect.mem_set_unit]
  have h1 : (y 1).val < 2560 := (y 1).isLt
  constructor
  · intro H; exact H 0
  · intro H a; fin_cases a
    · exact H
    · show 0 ≤ (y 1).val ∧ (y 1).val < 0 + 2560; omega
theorem rset_disj : ∀ b b' : Fin 35, b ≠ b' → Disjoint (rset b) (rset b') := fun b b' hne => by
  rw [Finset.disjoint_left]; intro y hy hy'; rw [mem_rset] at hy hy'; exact hne (Fin.ext (by omega))
theorem rset_cover : Finset.univ.biUnion rset = Finset.univ := by
  ext y; simp only [Finset.mem_biUnion, Finset.mem_univ, true_and, iff_true]
  have h : (y 0).val < 4480 := (y 0).isLt
  exact ⟨⟨(y 0).val / 128, by omega⟩, (mem_rset _ _).mpr ⟨by show 128 * ((y 0).val / 128) ≤ _; omega, by show _ < 128 * ((y 0).val / 128) + 128; omega⟩⟩

abbrev cset (b : Fin 20) : Finset S2240x5120.Idx := (Rect.unit (s := S2240x5120) ![0, 256 * b.val] S2240x256.size (inbR20 b)).set
theorem mem_cset (b : Fin 20) (y : S2240x5120.Idx) : y ∈ cset b ↔ 256 * b.val ≤ (y 1).val ∧ (y 1).val < 256 * b.val + 256 := by
  rw [Rect.mem_set_unit]
  have h1 : (y 0).val < 2240 := (y 0).isLt
  constructor
  · intro H; exact H 1
  · intro H a; fin_cases a
    · show 0 ≤ (y 0).val ∧ (y 0).val < 0 + 2240; omega
    · exact H
theorem cset_disj : ∀ b b' : Fin 20, b ≠ b' → Disjoint (cset b) (cset b') := fun b b' hne => by
  rw [Finset.disjoint_left]; intro y hy hy'; rw [mem_cset] at hy hy'; exact hne (Fin.ext (by omega))
theorem cset_cover : Finset.univ.biUnion cset = Finset.univ := by
  ext y; simp only [Finset.mem_biUnion, Finset.mem_univ, true_and, iff_true]
  have h : (y 1).val < 5120 := (y 1).isLt
  exact ⟨⟨(y 1).val / 256, by omega⟩, (mem_cset _ _).mpr ⟨by show 256 * ((y 1).val / 256) ≤ _; omega, by show _ < 256 * ((y 1).val / 256) + 256; omega⟩⟩

theorem mG_split (c : Dev nD) (f : Cont (F := F) c mG) :
    (pt c mG f : sProp 𝕄) = bigSep Finset.univ fun b => ptV c (rowBlk mG ![128 * b.val, 0] (inbR35 b)) f :=
  (Ring.pointsTo_blocks (ℓ := mG.view.loc (c : Thread nD τ)) (q := fullShare) rset rset_disj rset_cover f).trans
    (bigSep_congr fun b _ => congrArg (fun S => (mG.view.loc (c : Thread nD τ) ↦[S]{fullShare} f : sProp 𝕄)) (View.set_slice_whole _ _).symm)
theorem mU_split (c : Dev nD) (f : Cont (F := F) c mU) :
    (pt c mU f : sProp 𝕄) = bigSep Finset.univ fun b => ptV c (rowBlk mU ![128 * b.val, 0] (inbR35 b)) f :=
  (Ring.pointsTo_blocks (ℓ := mU.view.loc (c : Thread nD τ)) (q := fullShare) rset rset_disj rset_cover f).trans
    (bigSep_congr fun b _ => congrArg (fun S => (mU.view.loc (c : Thread nD τ) ↦[S]{fullShare} f : sProp 𝕄)) (View.set_slice_whole _ _).symm)
theorem sG_split (c : Dev nD) (f : Cont (F := F) c sG) :
    (pt c sG f : sProp 𝕄) = bigSep Finset.univ fun b => ptV c (rowBlk sG ![128 * b.val, 0] (inbR35 b)) f :=
  (Ring.pointsTo_blocks (ℓ := sG.view.loc (c : Thread nD τ)) (q := fullShare) rset rset_disj rset_cover f).trans
    (bigSep_congr fun b _ => congrArg (fun S => (sG.view.loc (c : Thread nD τ) ↦[S]{fullShare} f : sProp 𝕄)) (View.set_slice_whole _ _).symm)
theorem sU_split (c : Dev nD) (f : Cont (F := F) c sU) :
    (pt c sU f : sProp 𝕄) = bigSep Finset.univ fun b => ptV c (rowBlk sU ![128 * b.val, 0] (inbR35 b)) f :=
  (Ring.pointsTo_blocks (ℓ := sU.view.loc (c : Thread nD τ)) (q := fullShare) rset rset_disj rset_cover f).trans
    (bigSep_congr fun b _ => congrArg (fun S => (sU.view.loc (c : Thread nD τ) ↦[S]{fullShare} f : sProp 𝕄)) (View.set_slice_whole _ _).symm)
theorem mD_split (c : Dev nD) (f : Cont (F := F) c mD) :
    (pt c mD f : sProp 𝕄) = bigSep Finset.univ fun b => ptV c (colBlk mD ![0, 256 * b.val] (inbR20 b)) f :=
  (Ring.pointsTo_blocks (ℓ := mD.view.loc (c : Thread nD τ)) (q := fullShare) cset cset_disj cset_cover f).trans
    (bigSep_congr fun b _ => congrArg (fun S => (mD.view.loc (c : Thread nD τ) ↦[S]{fullShare} f : sProp 𝕄)) (View.set_slice_whole _ _).symm)
theorem sD_split (c : Dev nD) (f : Cont (F := F) c sD) :
    (pt c sD f : sProp 𝕄) = bigSep Finset.univ fun b => ptV c (colBlk sD ![0, 256 * b.val] (inbR20 b)) f :=
  (Ring.pointsTo_blocks (ℓ := sD.view.loc (c : Thread nD τ)) (q := fullShare) cset cset_disj cset_cover f).trans
    (bigSep_congr fun b _ => congrArg (fun S => (sD.view.loc (c : Thread nD τ) ↦[S]{fullShare} f : sProp 𝕄)) (View.set_slice_whole _ _).symm)
theorem sG_join (c : Dev nD) :
    (bigSep Finset.univ fun b => iprop(∃ d, ptV c (rowBlk sG ![128 * b.val, 0] (inbR35 b)) d) : sProp 𝕄) ⊢ iprop(∃ f : Cont (F := F) c sG, pt c sG f) := by
  refine (Entails.of_eq (bigSep_congr fun b _ => ?_)).trans (Ring.pointsTo_blocks_join_exists (ℓ := sG.view.loc (c : Thread nD τ)) (q := fullShare) rset rset_disj rset_cover sG.view.junk)
  exact congrArg (fun S => (iprop(∃ d, sG.view.loc (c : Thread nD τ) ↦[S]{fullShare} d) : sProp 𝕄)) (View.set_slice_whole _ _)
theorem sU_join (c : Dev nD) :
    (bigSep Finset.univ fun b => iprop(∃ d, ptV c (rowBlk sU ![128 * b.val, 0] (inbR35 b)) d) : sProp 𝕄) ⊢ iprop(∃ f : Cont (F := F) c sU, pt c sU f) := by
  refine (Entails.of_eq (bigSep_congr fun b _ => ?_)).trans (Ring.pointsTo_blocks_join_exists (ℓ := sU.view.loc (c : Thread nD τ)) (q := fullShare) rset rset_disj rset_cover sU.view.junk)
  exact congrArg (fun S => (iprop(∃ d, sU.view.loc (c : Thread nD τ) ↦[S]{fullShare} d) : sProp 𝕄)) (View.set_slice_whole _ _)
theorem sD_join (c : Dev nD) :
    (bigSep Finset.univ fun b => iprop(∃ d, ptV c (colBlk sD ![0, 256 * b.val] (inbR20 b)) d) : sProp 𝕄) ⊢ iprop(∃ f : Cont (F := F) c sD, pt c sD f) := by
  refine (Entails.of_eq (bigSep_congr fun b _ => ?_)).trans (Ring.pointsTo_blocks_join_exists (ℓ := sD.view.loc (c : Thread nD τ)) (q := fullShare) cset cset_disj cset_cover sD.view.junk)
  exact congrArg (fun S => (iprop(∃ d, sD.view.loc (c : Thread nD τ) ↦[S]{fullShare} d) : sProp 𝕄)) (View.set_slice_whole _ _)

/-! ## The families opened and closed -/

abbrev cellsR (c : Dev nD) : sProp 𝕄 := bigSep Finset.univ fun b : Fin 35 => semVal ((c : Thread nD τ), SemLoc.dma (rowCell ![b.val] (inbC35 b))) 0
abbrev cellsD (c : Dev nD) : sProp 𝕄 := bigSep Finset.univ fun b : Fin 20 => semVal ((c : Thread nD τ), SemLoc.dma (colCell ![b.val] (inbC20 b))) 0

theorem sep35 (A B : Fin 35 → sProp 𝕄) : (bigSep Finset.univ fun b => iprop(A b ∗ B b)) = iprop(bigSep Finset.univ A ∗ bigSep Finset.univ B) := BI.bigSep_sep _ _ _
theorem sep20 (A B : Fin 20 → sProp 𝕄) : (bigSep Finset.univ fun b => iprop(A b ∗ B b)) = iprop(bigSep Finset.univ A ∗ bigSep Finset.univ B) := BI.bigSep_sep _ _ _
theorem idleR_eq (c : Dev nD) (f1 : Cont (F := F) c mG) (f2 : Cont (F := F) c mU) :
    (bigSep Finset.univ (idleR c f1 f2) : sProp 𝕄) = iprop(cellsR c ∗ pt c mG f1 ∗ pt c mU f2
      ∗ (bigSep Finset.univ fun b : Fin 35 => iprop(∃ d, ptV c (rowBlk sG ![128 * b.val, 0] (inbR35 b)) d))
      ∗ (bigSep Finset.univ fun b : Fin 35 => iprop(∃ d, ptV c (rowBlk sU ![128 * b.val, 0] (inbR35 b)) d))) := by
  rw [mG_split, mU_split]
  unfold idleR rowIdle
  rw [sep35, sep35, sep35, sep35]
theorem idleD_eq (c : Dev nD) (f3 : Cont (F := F) c mD) :
    (bigSep Finset.univ (idleD c f3) : sProp 𝕄) = iprop(cellsD c ∗ pt c mD f3
      ∗ (bigSep Finset.univ fun b : Fin 20 => iprop(∃ d, ptV c (colBlk sD ![0, 256 * b.val] (inbR20 b)) d))) := by
  rw [mD_split]
  unfold idleD colIdle
  rw [sep20, sep20]

theorem rows_open (c : Dev nD) (f1 : Cont (F := F) c mG) (f2 : Cont (F := F) c mU) (d1 : Cont (F := F) c sG) (d2 : Cont (F := F) c sU) :
    iprop(cellsR c ∗ pt c mG f1 ∗ pt c mU f2 ∗ pt c sG d1 ∗ pt c sU d2) ⊢ (bigSep Finset.univ (idleR c f1 f2) : sProp 𝕄) := by
  rw [idleR_eq]
  iintro ⟨Hc, H1, H2, H3, H4⟩
  isplitl [Hc]; · iexact Hc
  isplitl [H1]; · iexact H1
  isplitl [H2]; · iexact H2
  isplitl [H3]
  · iapply ((Entails.of_eq (sG_split c d1)).trans (bigSep_mono fun b _ => by
      show (ptV c (rowBlk sG ![128 * b.val, 0] (inbR35 b)) d1 : sProp 𝕄) ⊢ iprop(∃ d, ptV c (rowBlk sG ![128 * b.val, 0] (inbR35 b)) d)
      iintro H; iexists d1; iexact H)); iexact H3
  · iapply ((Entails.of_eq (sU_split c d2)).trans (bigSep_mono fun b _ => by
      show (ptV c (rowBlk sU ![128 * b.val, 0] (inbR35 b)) d2 : sProp 𝕄) ⊢ iprop(∃ d, ptV c (rowBlk sU ![128 * b.val, 0] (inbR35 b)) d)
      iintro H; iexists d2; iexact H)); iexact H4
theorem rows_close (c : Dev nD) (f1 : Cont (F := F) c mG) (f2 : Cont (F := F) c mU) :
    (bigSep Finset.univ (idleR c f1 f2) : sProp 𝕄) ⊢ iprop(cellsR c ∗ pt c mG f1 ∗ pt c mU f2 ∗ (∃ d, pt c sG d) ∗ (∃ d, pt c sU d)) := by
  rw [idleR_eq]
  iintro ⟨Hc, H1, H2, H3, H4⟩
  isplitl [Hc]; · iexact Hc
  isplitl [H1]; · iexact H1
  isplitl [H2]; · iexact H2
  isplitl [H3]
  · iapply (sG_join c); iexact H3
  · iapply (sU_join c); iexact H4
theorem cols_open (c : Dev nD) (f3 : Cont (F := F) c mD) (d : Cont (F := F) c sD) :
    iprop(cellsD c ∗ pt c mD f3 ∗ pt c sD d) ⊢ (bigSep Finset.univ (idleD c f3) : sProp 𝕄) := by
  rw [idleD_eq]
  iintro ⟨Hc, H1, H3⟩
  isplitl [Hc]; · iexact Hc
  isplitl [H1]; · iexact H1
  iapply ((Entails.of_eq (sD_split c d)).trans (bigSep_mono fun b _ => by
      show (ptV c (colBlk sD ![0, 256 * b.val] (inbR20 b)) d : sProp 𝕄) ⊢ iprop(∃ d, ptV c (colBlk sD ![0, 256 * b.val] (inbR20 b)) d)
      iintro H; iexists d; iexact H)); iexact H3
theorem cols_close (c : Dev nD) (f3 : Cont (F := F) c mD) :
    (bigSep Finset.univ (idleD c f3) : sProp 𝕄) ⊢ iprop(cellsD c ∗ pt c mD f3 ∗ (∃ d, pt c sD d)) := by
  rw [idleD_eq]
  iintro ⟨Hc, H1, H3⟩
  isplitl [Hc]; · iexact Hc
  isplitl [H1]; · iexact H1
  iapply (sD_join c); iexact H3

end Cert.KernelIdeal.Hand

end
-- ==== Proof.IdealRun.lean ====
/-
  The kernel's body run once over its operands.
-/
module

public import proofs.«01_k».proof.Proof.IdealStep1
public import proofs.«01_k».proof.Proof.IdealStep2
public import proofs.«01_k».proof.Proof.IdealStep3
public import proofs.«01_k».proof.Proof.IdealStep4
public import proofs.«01_k».proof.Proof.IdealBlocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body, once -/

abbrev cellIn (c : Dev nD) : sProp 𝕄 := semVal ((c : Thread nD τ), SemLoc.dma cc0_scratch8.sem) 0
abbrev cellOut (c : Dev nD) : sProp 𝕄 := semVal ((c : Thread nD τ), SemLoc.dma cc0_scratch11.sem) 0

/-- What the body takes and gives back: its operands at what they hold, the result, the scratch buffers and the semaphores. -/
def held (c : Dev nD) (f0 : Cont (F := F) c mX) (f1 : Cont (F := F) c mG) (f2 : Cont (F := F) c mU) (f3 : Cont (F := F) c mD)
    (fa : Cont (F := F) c mGs) (fb : Cont (F := F) c mUs) (fd : Cont (F := F) c mDs) (PO : Cont (F := F) c mO → Prop) : sProp 𝕄 :=
  iprop(iprop((∃ f : Cont (F := F) c sIo, pt c sIo f) ∗ (∃ f : Cont (F := F) c sG, pt c sG f) ∗ (∃ f : Cont (F := F) c sU, pt c sU f) ∗ (∃ f : Cont (F := F) c sD, pt c sD f)
      ∗ (∃ f : Cont (F := F) c sX, pt c sX f) ∗ (∃ f : Cont (F := F) c sH, pt c sH f) ∗ (∃ f : Cont (F := F) c sHiLo, pt c sHiLo f) ∗ (∃ f : Cont (F := F) c sLoHi, pt c sLoHi f))
    ∗ iprop(cellIn c ∗ cellsR c ∗ cellsD c ∗ cellOut c)
    ∗ iprop(pt c mX f0 ∗ pt c mG f1 ∗ pt c mU f2 ∗ pt c mD f3 ∗ pt c mGs fa ∗ pt c mUs fb ∗ pt c mDs fd)
    ∗ (∃ y : Cont (F := F) c mO, ⌜PO y⌝ ∗ pt c mO y))

/-- The activations after the first transfer and the store that pairs their rows. -/
def pairX (c : Dev nD) (f0 : Cont (F := F) c mX) (g0 : Cont (F := F) c sIo) : Cont (F := F) c sX :=
  sX.view.writes (Elt F) sX.view.junk
    [⟨Rect.unit (s := S64x2x5120) ![0, 0, 0] S64x2x5120.size inb_S64x2x5120_S64x2x5120_0_0_0,
      k0_pay1 (View.readAt (Elt F) sIo.view (Rect.unit (s := S128x5120) ![0, 0] S128x5120.size inb_S128x5120_S128x5120_0_0).toLoadRect
        (View.write (Elt F) sIo.view g0 (ReadAs.same.apply (View.read (Elt F) mX.view f0)) Finset.univ))⟩]

/-- What the last transfer leaves in the result. -/
def outO (c : Dev nD) (y : Cont (F := F) c sIo) (g : Cont (F := F) c mO) : Cont (F := F) c mO :=
  View.write (Elt F) mO.view g (ReadAs.same.apply (View.read (Elt F) sIo.view y)) Finset.univ

theorem some_x (c : Dev nD) (PX : Cont (F := F) c sX → Prop) (f : Cont (F := F) c sX) (h : PX f) :
    (pt c sX f : sProp 𝕄) ⊢ iprop(∃ x : Cont (F := F) c sX, ⌜PX x⌝ ∗ pt c sX x) := by
  iintro H; iexists f
  isplitr; · ipureintro; exact h
  iexact H
/-- The loops' last states. -/
theorem inv1_end (c : Dev nD) (f1 : Cont (F := F) c mG) (f2 : Cont (F := F) c mU) (acc : Unit) :
    inv1 c f1 f2 (Scf.trips k0_t1_loop.lb k0_t1_loop.ub k0_t1_loop.st) acc ⊢ (bigSep Finset.univ (flyR c f1 f2) : sProp 𝕄) := by
  rw [show Scf.trips k0_t1_loop.lb k0_t1_loop.ub k0_t1_loop.st = 35 from trips1]
  unfold inv1; rw [Ring.rangeSet_univ]
  iintro ⟨H, -⟩; iexact H
theorem inv2_end (c : Dev nD) (f3 : Cont (F := F) c mD) (acc : Unit) :
    inv2 c f3 (Scf.trips k0_t2_loop.lb k0_t2_loop.ub k0_t2_loop.st) acc ⊢ (bigSep Finset.univ (flyD c f3) : sProp 𝕄) := by
  rw [show Scf.trips k0_t2_loop.lb k0_t2_loop.ub k0_t2_loop.st = 20 from trips2]
  unfold inv2; rw [Ring.rangeSet_univ]
  iintro ⟨H, -⟩; iexact H
theorem inv3_end (c : Dev nD) (P : ℕ → Cont (F := F) c sH → Prop) (f1 : Cont (F := F) c mG) (f2 : Cont (F := F) c mU) (fa : Cont (F := F) c mGs) (fb : Cont (F := F) c mUs)
    (fx : Cont (F := F) c sX) (acc : Unit) :
    inv3 c P f1 f2 fa fb fx (Scf.trips k0_t3_loop.lb k0_t3_loop.ub k0_t3_loop.st) acc
      ⊢ (iprop(bigSep Finset.univ (idleR c f1 f2) ∗ pt c mGs fa ∗ pt c mUs fb ∗ pt c sX fx ∗ (∃ h, ⌜P 35 h⌝ ∗ pt c sH h) ∗ (∃ p, pt c sHiLo p)
          ∗ (∃ q, pt c sLoHi q) ∗ ∃ W, owes (c : Thread nD τ) 0 W) : sProp 𝕄) := by
  rw [show Scf.trips k0_t3_loop.lb k0_t3_loop.ub k0_t3_loop.st = 35 from trips3]
  unfold inv3; rw [Ring.rangeSet_univ]
  iintro ⟨H, -, Hr⟩
  isplitl [H]; · iexact H
  iexact Hr
theorem inv4_end (c : Dev nD) (P : ℕ → Cont (F := F) c sIo → Prop) (f3 : Cont (F := F) c mD) (fd : Cont (F := F) c mDs) (fh : Cont (F := F) c sH) (acc : Unit) :
    inv4 c P f3 fd fh (Scf.trips k0_t4_loop.lb k0_t4_loop.ub k0_t4_loop.st) acc
      ⊢ (iprop(bigSep Finset.univ (idleD c f3) ∗ pt c mDs fd ∗ pt c sH fh ∗ (∃ y, ⌜P 20 y⌝ ∗ pt c sIo y) ∗ (∃ p, pt c sHiLo p)
          ∗ (∃ q, pt c sLoHi q) ∗ ∃ W, owes (c : Thread nD τ) 0 W) : sProp 𝕄) := by
  rw [show Scf.trips k0_t4_loop.lb k0_t4_loop.ub k0_t4_loop.st = 20 from trips4]
  unfold inv4; rw [Ring.rangeSet_univ]
  iintro ⟨H, -, Hr⟩
  isplitl [H]; · iexact H
  iexact Hr

theorem bodyRun (c : Dev nD) (f0 : Cont (F := F) c mX) (f1 : Cont (F := F) c mG) (f2 : Cont (F := F) c mU) (f3 : Cont (F := F) c mD)
    (fa : Cont (F := F) c mGs) (fb : Cont (F := F) c mUs) (fd : Cont (F := F) c mDs) (W : Waits sig Unit)
    (PX : Cont (F := F) c sX → Prop) (P3 : ℕ → Cont (F := F) c sH → Prop) (P4 : ℕ → Cont (F := F) c sIo → Prop) (PO : Cont (F := F) c mO → Prop)
    (hX : ∀ g, PX (pairX c f0 g)) (h30 : ∀ h, P3 0 h)
    (h3 : ∀ x, PX x → ∀ (k : Fin k0_t3_loop.trips) (h : Cont (F := F) c sH), P3 k.val h → P3 (k.val + 1) (afterH c f1 f2 fa fb x k h))
    (h40 : ∀ y, P4 0 y)
    (h4 : ∀ h, P3 35 h → ∀ (k : Fin k0_t4_loop.trips) p q (y : Cont (F := F) c sIo), P4 k.val y → P4 (k.val + 1) (afterY c f3 fd h k p q y))
    (hO : ∀ y g, P4 20 y → PO (outO c y g)) :
    iprop(held c f0 f1 f2 f3 fa fb fd (fun _ => True) ∗ owes (c : Thread nD τ) 0 W)
      ⊢ wp frame (wpE (defs₀ (F := F)) Variants.none c none) Set.univ
          (cc0_swiglu_mlp mX (Memref.isWhole_whole _) mG (Memref.isWhole_whole _) mU (Memref.isWhole_whole _) mD (Memref.isWhole_whole _)
            mGs (Memref.isWhole_whole _) mUs (Memref.isWhole_whole _) mDs (Memref.isWhole_whole _) mO (Memref.isWhole_whole _)
            sIo (Memref.isWhole_whole _) sG (Memref.isWhole_whole _) sU (Memref.isWhole_whole _) sD (Memref.isWhole_whole _)
            sX (Memref.isWhole_whole _) sH (Memref.isWhole_whole _) sHiLo (Memref.isWhole_whole _) sLoHi (Memref.isWhole_whole _)
            cc0_scratch8 cc0_scratch9 cc0_scratch10 cc0_scratch11)
          fun _ => iprop(held c f0 f1 f2 f3 fa fb fd PO ∗ ∃ W', owes (c : Thread nD τ) 0 W') := by
  unfold held
  simp only [cc0_swiglu_mlp_eq_skeleton]
  unfold cc0_swiglu_mlp_skel
  iintro ⟨⟨⟨⟨%g0, Hio⟩, ⟨%g1, Hsg⟩, ⟨%g2, Hsu⟩, ⟨%g3, Hsd⟩, ⟨%g4, Hsx⟩, ⟨%g5, Hsh⟩, ⟨%g6, Hp⟩, ⟨%g7, Hq⟩⟩, ⟨Hi, HcR, HcD, Ho⟩,
    ⟨H0, H1, H2, H3, Ha, Hb, Hd⟩, ⟨%y, -, Hy⟩⟩, HW⟩
  ihave HR := (rows_open c f1 f2 g1 g2) $$ [HcR H1 H2 Hsg Hsu]
  · isplitl [HcR]; · iexact HcR
    isplitl [H1]; · iexact H1
    isplitl [H2]; · iexact H2
    isplitl [Hsg]; · iexact Hsg
    iexact Hsu
  ihave HD := (cols_open c f3 g3) $$ [HcD H3 Hsd]
  · isplitl [HcD]; · iexact HcD
    isplitl [H3]; · iexact H3
    iexact Hsd
  sl_exec
  sl_for (inv1 c f1 f2) $$ [HR]
  case region => intro k acc; exact step1 c f1 f2 k acc
  · unfold inv1
    rw [Ring.bigSep_rangeSet_empty (Φ := flyR c f1 f2) (le_refl 0), Ring.rangeSet_univ]
    isplitr; · iempintro
    iexact HR
  iintro %acc1 HR
  sl_exec
  sl_for (inv2 c f3) $$ [HD]
  case region => intro k acc; exact step2 c f3 k acc
  · unfold inv2
    rw [Ring.bigSep_rangeSet_empty (Φ := flyD c f3) (le_refl 0), Ring.rangeSet_univ]
    isplitr; · iempintro
    iexact HD
  iintro %acc2 HD
  sl_exec
  ihave Hsx := (some_x c PX _ (by exact hX g0)) $$ Hsx
  icases Hsx with ⟨%x, %hx, Hsx⟩
  ihave HR := (inv1_end c f1 f2 acc1) $$ HR
  ihave HD := (inv2_end c f3 acc2) $$ HD
  sl_for (inv3 c P3 f1 f2 fa fb x) $$ [HR Ha Hb Hsx Hsh Hp Hq HW]
  case region => intro k acc; exact step3 c P3 f1 f2 fa fb x k acc (h3 x hx k)
  · unfold inv3
    rw [Ring.bigSep_rangeSet_empty (Φ := idleR c f1 f2) (le_refl 0), Ring.rangeSet_univ]
    isplitr; · iempintro
    isplitl [HR]; · iexact HR
    isplitl [Ha]; · iexact Ha
    isplitl [Hb]; · iexact Hb
    isplitl [Hsx]; · iexact Hsx
    isplitl [Hsh]
    · iexists _
      isplitr; swap; · iexact Hsh
      ipureintro; exact h30 _
    isplitl [Hp]; · iexists _; iexact Hp
    isplitl [Hq]; · iexists _; iexact Hq
    iexists _; iexact HW
  iintro %acc3 HR
  ihave HR := (inv3_end c P3 f1 f2 fa fb x acc3) $$ HR
  icases HR with ⟨HR, Ha, Hb, Hsx, ⟨%h, %hh, Hsh⟩, ⟨%p, Hp⟩, ⟨%q, Hq⟩, ⟨%W3, HW⟩⟩
  sl_for (inv4 c P4 f3 fd h) $$ [HD Hd Hsh Hio Hp Hq HW]
  case region => intro k acc; exact step4 c P4 f3 fd h k acc (h4 h hh k)
  · unfold inv4
    rw [Ring.bigSep_rangeSet_empty (Φ := idleD c f3) (le_refl 0), Ring.rangeSet_univ]
    isplitr; · iempintro
    isplitl [HD]; · iexact HD
    isplitl [Hd]; · iexact Hd
    isplitl [Hsh]; · iexact Hsh
    isplitl [Hio]
    · iexists _
      isplitr; swap; · iexact Hio
      ipureintro; exact h40 _
    isplitl [Hp]; · iexists _; iexact Hp
    isplitl [Hq]; · iexists _; iexact Hq
    iexists _; iexact HW
  iintro %acc4 HD
  ihave HD := (inv4_end c P4 f3 fd h acc4) $$ HD
  icases HD with ⟨HD, Hd, Hsh, ⟨%g0', %hy, Hio⟩, ⟨%p', Hp⟩, ⟨%q', Hq⟩, ⟨%W4, HW⟩⟩
  sl_exec
  sl_step
  ihave HR := (rows_close c f1 f2) $$ HR
  icases HR with ⟨HcR, H1, H2, Hsg, Hsu⟩
  ihave HD := (cols_close c f3) $$ HD
  icases HD with ⟨HcD, H3, Hsd⟩
  isplitr [HW]
  · isplitl [Hio Hsg Hsu Hsd Hsx Hsh Hp Hq]
    · isplitl [Hio]; · iexists _; iexact Hio
      isplitl [Hsg]; · iexact Hsg
      isplitl [Hsu]; · iexact Hsu
      isplitl [Hsd]; · iexact Hsd
      isplitl [Hsx]; · iexists _; iexact Hsx
      isplitl [Hsh]; · iexists _; iexact Hsh
      isplitl [Hp]; · iexists _; iexact Hp
      iexists _; iexact Hq
    isplitl [Hi HcR HcD Ho]
    · isplitl [Hi]; · iexact Hi
      isplitl [HcR]; · iexact HcR
      isplitl [HcD]; · iexact HcD
      iexact Ho
    isplitr [Hy]
    · isplitl [H0]; · iexact H0
      isplitl [H1]; · iexact H1
      isplitl [H2]; · iexact H2
      isplitl [H3]; · iexact H3
      isplitl [Ha]; · iexact Ha
      isplitl [Hb]; · iexact Hb
      iexact Hd
    iexists _
    isplitr; swap; · iexact Hy
    ipureintro; exact hO _ _ hy
  iexists _; iexact HW

end Cert.KernelIdeal.Hand

end
-- ==== Proof.IdealFrame.lean ====
/-
  The kernel's program run from a launch: its arguments and semaphores are left as they were.
-/
module

public import proofs.«01_k».proof.Proof.IdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

set_option maxHeartbeats 800000 in
/-- The host operations, then the region, at the algebra with the transfers' counters. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh⟩) main_chain

/-- What the body's transfers and loads read, and what they write. -/
def H0 : Finset (Ref sig .tc) := {main_v264, main_arg1, main_arg3, main_v265, main_v87, main_v175, main_v263}
def R0 : Finset (Ref sig .tc) := {main_v266}

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePostR cfgs dats 0 R0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩) h

/-! ## The body's own semaphores: the one for the rows of `x`, the two families, the one for the result -/

abbrev osem0 : (Unit ⊕ (Fin 35 ⊕ (Fin 20 ⊕ Unit))) → SemLoc sig
  | .inl _ => .dma cc0_scratch8.sem
  | .inr (.inl b) => .dma (rowCell ![b.val] (inbC35 b))
  | .inr (.inr (.inl b)) => .dma (colCell ![b.val] (inbC20 b))
  | .inr (.inr (.inr _)) => .dma cc0_scratch11.sem

theorem ownSemFacts0 : Pipeline.OwnSemFacts cfg0.spec osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(cellIn c ∗ cellsR c ∗ cellsD c ∗ cellOut c) := by
  unfold Pipeline.ownSems0
  rw [BI.bigSep_univ_sum, BI.bigSep_univ_sum, BI.bigSep_univ_sum, BI.bigSep_univ_of_subsingleton (), BI.bigSep_univ_of_subsingleton ()]
  rfl

theorem H0_sub : H0 ⊆ Pipeline.restRefs sig cfg0.spec := by decide
theorem R0_sub : R0 ⊆ Pipeline.restRefs sig cfg0.spec \ H0 := by decide
theorem hbmPts0_eq (c : Dev nD) :
    (bigSep H0 (fun b => ((c : Thread nD τ).loc b) ↦{fullShare} V m c b) : sProp 𝕄)
      = iprop(pt c mX (V m c main_v264) ∗ pt c mG (V m c main_arg1) ∗ pt c mU (V m c main_arg3) ∗ pt c mD (V m c main_v265)
          ∗ pt c mGs (V m c main_v87) ∗ pt c mUs (V m c main_v175) ∗ pt c mDs (V m c main_v263)) := by
  rw [BI.bigSep_eq_bigSepL_of_eq [main_v264, main_arg1, main_arg3, main_v265, main_v87, main_v175, main_v263] (by decide) (by decide)]; rfl
theorem ownedPts0_eq (c : Dev nD) :
    (Pipeline.owned R0 c : sProp 𝕄) = iprop(∃ y : Cont (F := F) c mO, pt c mO y) := by
  unfold Pipeline.owned; rw [BI.bigSep_eq_bigSepL_of_eq [main_v266] (by decide) (by decide)]; rfl

theorem PhiDR0_eq (c : Dev nD) :
    (Pipeline.ΦDR osem0 cfg0.spec H0 R0 (V m) c : sProp 𝕄)
      = iprop(iprop((∃ f : Cont (F := F) c sIo, pt c sIo f) ∗ (∃ f : Cont (F := F) c sG, pt c sG f) ∗ (∃ f : Cont (F := F) c sU, pt c sU f) ∗ (∃ f : Cont (F := F) c sD, pt c sD f)
            ∗ (∃ f : Cont (F := F) c sX, pt c sX f) ∗ (∃ f : Cont (F := F) c sH, pt c sH f) ∗ (∃ f : Cont (F := F) c sHiLo, pt c sHiLo f) ∗ (∃ f : Cont (F := F) c sLoHi, pt c sLoHi f))
          ∗ (∃ r, prngReg c r)
          ∗ iprop(cellIn c ∗ cellsR c ∗ cellsD c ∗ cellOut c)
          ∗ iprop(pt c mX (V m c main_v264) ∗ pt c mG (V m c main_arg1) ∗ pt c mU (V m c main_arg3) ∗ pt c mD (V m c main_v265)
              ∗ pt c mGs (V m c main_v87) ∗ pt c mUs (V m c main_v175) ∗ pt c mDs (V m c main_v263))
          ∗ (∃ y : Cont (F := F) c mO, pt c mO y)) := by
  rw [Pipeline.ΦDR_eq, scopedRest0_eq, ownSems00_eq, hbmPts0_eq, ownedPts0_eq]

/-! ## The proof data and the body's obligation -/

def dats (_ : Fin 1) (c : Dev nD) : Dat τ (Elt F) Unit ℕ (Pipeline.UD sig nD τ) ℕ cfg0 c where
  A w := w.elim0
  after w _ := w.elim0
  Φ _ := Pipeline.ΦDR osem0 cfg0.spec H0 R0 (V m) c
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨Hs, Hg, Hc, Hh, Hy⟩, ⟨%W, -, HW⟩⟩
  iapply (wp_wand_r Idealize.ShloMosaic.frame (wpE (defs₀ (F := F)) Variants.none c none) (Q := fun _ => iprop(held c (V m c main_v264) (V m c main_arg1) (V m c main_arg3) (V m c main_v265) (V m c main_v87) (V m c main_v175) (V m c main_v263) (fun _ => True)
    ∗ ∃ W', owes (c : Thread nD τ) 0 W')))
  isplitl [Hs Hc Hh Hy HW]
  · unfold bodyAt0
    iapply (bodyRun c (V m c main_v264) (V m c main_arg1) (V m c main_arg3) (V m c main_v265) (V m c main_v87) (V m c main_v175) (V m c main_v263) W
      (fun _ => True) (fun _ _ => True) (fun _ _ => True) (fun _ => True) (fun _ => trivial) (fun _ => trivial) (fun _ _ _ _ _ => trivial)
      (fun _ => trivial) (fun _ _ _ _ _ _ _ => trivial) (fun _ _ _ => trivial))
    isplitr [HW]
    · unfold held
      isplitl [Hs]; · iexact Hs
      isplitl [Hc]; · iexact Hc
      isplitl [Hh]; · iexact Hh
      icases Hy with ⟨%y, Hy⟩
      iexists y
      isplitr; · ipureintro; trivial
      iexact Hy
    iexact HW
  unfold held
  iintro %r ⟨⟨Hs, Hc, Hh, ⟨%y, -, Hy⟩⟩, ⟨%W', HW'⟩⟩
  isplitr [HW']
  · isplitl [Hs]; · iexact Hs
    isplitl [Hg]; · iexact Hg
    isplitl [Hc]; · iexact Hc
    isplitl [Hh]; · iexact Hh
    iexists y; iexact Hy
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

/-- The region stages no window. -/
theorem no_windows (Φ : Fin cfg0.W → sProp 𝕄) : bigSep Finset.univ Φ = iprop(emp) := by
  rw [show (Finset.univ : Finset (Fin cfg0.W)) = ∅ from rfl]; exact BI.bigSep_empty

theorem body_obligation (c : Dev nD) : BodyObligation (dats (F := F) m 0 c) (defs₀ (F := F)) Variants.none () Set.univ := fun t => by
  rw [no_windows, no_windows, defs₀_row]
  refine triple_restated (sound_body m c t) ?_ ?_ fun _ => ?_
  · rfl
  · iintro ⟨H1, H2, -⟩
    isplitl [H1]; · iexact H1
    iexact H2
  · iintro ⟨H1, H2⟩
    isplitl [H1]; · iexact H1
    isplitl [H2]; · iexact H2
    iempintro

/-! ## The run and the frame -/

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun c w => w.elim0)
    (hin := fun _ => .rfl) (hout := fun _ => .rfl)

/-- The frame: every argument as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frame_of m ρ (dats m) (run_main m ρ)

end Cert.KernelIdeal.Hand

end
-- ==== Proof.Words.lean ====
/-
  One scale as the kernel holds it: a 16-bit float's pattern becomes a word whose halves are two bf16 patterns, and
  for every pattern the two numbers add up to the scale.
-/
module

public import Idealize.ShloMosaic.PureOps.Ideal

@[expose] public section

noncomputable section

namespace Cert.Scale

open Idealize.ShloMosaic

/-- The exponent field of a 16-bit float's pattern, and the whole number its fraction stands for. -/
def expOf (c : BitVec 16) : BitVec 32 := IntOp.andi (IntOp.shrsi .host (c.setWidth 32) 10#32) 31#32
def numOf (c : BitVec 16) : BitVec 32 :=
  Scalar.select (IntOp.cmpi .eq (expOf c) 0#32) (IntOp.andi (c.setWidth 32) 1023#32)
    (IntOp.ori (IntOp.andi (c.setWidth 32) 1023#32) 1024#32)

/-- The float32 pattern of `n · 2^k` for a whole number `n` below `2^24`. -/
def floatBits (n k : BitVec 32) : BitVec 32 :=
  Scalar.select (IntOp.cmpi .eq n 0#32) 0#32
    (IntOp.ori (IntOp.shli .host (IntOp.addi (IntOp.addi k (IntOp.subi 31#32 (IntOp.ctlz n))) 127#32) 23#32)
      (IntOp.andi (IntOp.shli .host n (IntOp.subi 23#32 (IntOp.subi 31#32 (IntOp.ctlz n)))) 8388607#32))

/-- The sign bit in place, the power of two, and what the rounding to five bits leaves. -/
def signOf (c : BitVec 16) : BitVec 32 := IntOp.shli .host (IntOp.shrsi .host (c.setWidth 32) 15#32) 31#32
def powOf (c : BitVec 16) : BitVec 32 := IntOp.subi (IntOp.maxsi (expOf c) 1#32) 25#32
def dropOf (n : BitVec 32) : BitVec 32 := IntOp.maxsi (IntOp.subi 27#32 (IntOp.ctlz n)) 0#32
def restOf (n : BitVec 32) : BitVec 32 :=
  IntOp.subi n (IntOp.shli .host (IntOp.shrsi .host (IntOp.addi n (IntOp.shrsi .host (IntOp.shli .host 1#32 (dropOf n)) 1#32)) (dropOf n)) (dropOf n))

/-- The word of a scale: the high half a bf16 pattern of the rounded scale, the low half of the rest. -/
def hiWord (c : BitVec 16) : BitVec 32 :=
  IntOp.andi (IntOp.addi (IntOp.ori (signOf c) (floatBits (numOf c) (powOf c))) 262144#32) 4294443008#32
def loWord (c : BitVec 16) : BitVec 32 :=
  Scalar.select (IntOp.cmpi .eq (restOf (numOf c)) 0#32) 0#32
    (IntOp.ori (IntOp.xori (signOf c) (Scalar.select (IntOp.cmpi .slt (restOf (numOf c)) 0#32) 2147483648#32 0#32))
      (floatBits (IntOp.absi (restOf (numOf c))) (powOf c)))
def word (c : BitVec 16) : BitVec 32 := IntOp.ori (hiWord c) (IntOp.shrui .host (loWord c) 16#32)

/-! ## The numbers in whole units of `2^(-31)` -/

/-- A bf16 pattern in units of `2^(-31)`, where it is a whole number of them. -/
def unitsOf (b : BitVec 16) : ℤ :=
  (if b.toNat / 32768 = 1 then -1 else 1) * ((if b.toNat / 128 % 256 = 0 then 0 else 128) + b.toNat % 128 : ℕ)
    * 2 ^ (b.toNat / 128 % 256 - 103)

def whole (b : BitVec 16) : Bool :=
  (b.toNat / 128 % 256 ≠ 255) && ((b.toNat / 128 % 256 ≥ 103) || (b.toNat % 32768 = 0))

/-- A scale's pattern in the same units. -/
def unitsOfScale (c : BitVec 16) : ℤ :=
  (if c.toNat / 32768 = 1 then -1 else 1) * ((if c.toNat / 1024 % 32 = 0 then 0 else 1024) + c.toNat % 1024 : ℕ)
    * 2 ^ (max (c.toNat / 1024 % 32) 1 + 6)

/-- The same pattern as the reference reads it: the whole number, the power of two's float32 pattern, the sign. -/
def refNum (c : BitVec 16) : BitVec 32 :=
  Scalar.select (IntOp.cmpi .eq (expOf c) 0#32) (IntOp.andi (c.setWidth 32) 1023#32)
    (IntOp.addi (IntOp.andi (c.setWidth 32) 1023#32) 1024#32)
def refPow (c : BitVec 16) : BitVec 32 :=
  IntOp.shli .host (IntOp.addi (IntOp.maxsi (expOf c) 1#32) 102#32) 23#32
def refSign (c : BitVec 16) : BitVec 1 := IntOp.cmpi .eq (IntOp.shrsi .host (c.setWidth 32) 15#32) 1#32

/-- What is checked of one pattern. -/
def agrees (n : ℕ) : Bool :=
  let c := BitVec.ofNat 16 n
  let lo := (word c).extractLsb' 0 16
  let hi := (word c).extractLsb' 16 16
  whole lo && whole hi && (unitsOf lo + unitsOf hi = unitsOfScale c)
    && ((refNum c).toNat = (if c.toNat / 1024 % 32 = 0 then 0 else 1024) + c.toNat % 1024)
    && ((refPow c).toNat = (max (c.toNat / 1024 % 32) 1 + 102) * 8388608)
    && ((refSign c = 1#1 : Bool) = (c.toNat / 32768 = 1 : Bool))

/-! ## The same check, each intermediate word computed once -/

/-- `f` at a word, the word's number computed first. -/
def once (x : BitVec 32) (f : BitVec 32 → Bool) : Bool :=
  Nat.rec (f (BitVec.ofNat 32 0)) (fun m _ => f (BitVec.ofNat 32 (Nat.succ m))) x.toNat

theorem once_eq (x : BitVec 32) (f : BitVec 32 → Bool) : once x f = f x := by
  have h : ∀ n : ℕ, (Nat.rec (f (BitVec.ofNat 32 0)) (fun m _ => f (BitVec.ofNat 32 (Nat.succ m))) n : Bool)
      = f (BitVec.ofNat 32 n) := by
    intro n; cases n <;> rfl
  unfold once
  rw [h, BitVec.ofNat_toNat, BitVec.setWidth_eq]

def onceNat (x : ℕ) (f : ℕ → Bool) : Bool := Nat.rec (f 0) (fun m _ => f (Nat.succ m)) x

theorem onceNat_eq (x : ℕ) (f : ℕ → Bool) : onceNat x f = f x := by
  cases x <;> rfl

/-- The pieces of `floatBits`, `dropOf` and `restOf`, with what they share given. -/
def floatBitsAt (n k z : BitVec 32) : BitVec 32 :=
  Scalar.select (IntOp.cmpi .eq n 0#32) 0#32
    (IntOp.ori (IntOp.shli .host (IntOp.addi (IntOp.addi k (IntOp.subi 31#32 z)) 127#32) 23#32)
      (IntOp.andi (IntOp.shli .host n (IntOp.subi 23#32 (IntOp.subi 31#32 z))) 8388607#32))
def dropAt (z : BitVec 32) : BitVec 32 := IntOp.maxsi (IntOp.subi 27#32 z) 0#32
def restAt (n d : BitVec 32) : BitVec 32 :=
  IntOp.subi n (IntOp.shli .host (IntOp.shrsi .host (IntOp.addi n (IntOp.shrsi .host (IntOp.shli .host 1#32 d) 1#32)) d) d)
def hiAt (s b : BitVec 32) : BitVec 32 :=
  IntOp.andi (IntOp.addi (IntOp.ori s b) 262144#32) 4294443008#32
def loAt (s r b : BitVec 32) : BitVec 32 :=
  Scalar.select (IntOp.cmpi .eq r 0#32) 0#32
    (IntOp.ori (IntOp.xori s (Scalar.select (IntOp.cmpi .slt r 0#32) 2147483648#32 0#32)) b)

/-- The size of a pattern's number, without its sign. -/
def sizeOf16 (b : ℕ) : ℕ :=
  Nat.mul (Nat.add (cond (Nat.beq (Nat.mod (Nat.div b 128) 256) 0) 0 128) (Nat.mod b 128))
    (Nat.pow 2 (Nat.sub (Nat.mod (Nat.div b 128) 256) 103))
def sizeOfScale (c : ℕ) : ℕ :=
  Nat.mul (Nat.add (cond (Nat.beq (Nat.mod (Nat.div c 1024) 32) 0) 0 1024) (Nat.mod c 1024))
    (Nat.pow 2 (Nat.add (cond (Nat.beq (Nat.mod (Nat.div c 1024) 32) 0) 1 (Nat.mod (Nat.div c 1024) 32)) 6))
def wholeNat (b : ℕ) : Bool :=
  and (not (Nat.beq (Nat.mod (Nat.div b 128) 256) 255))
    (or (Nat.ble 103 (Nat.mod (Nat.div b 128) 256)) (Nat.beq (Nat.mod b 32768) 0))

def sumsTo (lo hi c : ℕ) : Bool :=
  and (wholeNat lo) (and (wholeNat hi) (and (Nat.beq (Nat.div hi 32768) (Nat.div c 32768))
    (cond (Nat.beq (Nat.div lo 32768) (Nat.div c 32768))
      (Nat.beq (Nat.add (sizeOf16 lo) (sizeOf16 hi)) (sizeOfScale c))
      (Nat.beq (sizeOf16 hi) (Nat.add (sizeOfScale c) (sizeOf16 lo))))))

def reads (c n p : ℕ) (s : Bool) : Bool :=
  and (Nat.beq n (Nat.add (cond (Nat.beq (Nat.mod (Nat.div c 1024) 32) 0) 0 1024) (Nat.mod c 1024)))
    (and (Nat.beq p (Nat.mul (Nat.add (cond (Nat.beq (Nat.mod (Nat.div c 1024) 32) 0) 1 (Nat.mod (Nat.div c 1024) 32)) 102) 8388608))
      (Bool.rec (not (Nat.beq (Nat.div c 32768) 1)) (Nat.beq (Nat.div c 32768) 1) s))

def quick (n : ℕ) : Bool :=
  once (numOf (BitVec.ofNat 16 n)) fun m => once (powOf (BitVec.ofNat 16 n)) fun k => once (signOf (BitVec.ofNat 16 n)) fun s =>
  once (IntOp.ctlz m) fun z => once (dropAt z) fun d => once (restAt m d) fun r => once (IntOp.absi r) fun a =>
  once (floatBitsAt m k z) fun x => once (floatBitsAt a k (IntOp.ctlz a)) fun y =>
  once (IntOp.ori (hiAt s x) (IntOp.shrui .host (loAt s r y) 16#32)) fun w =>
  and (sumsTo (Nat.mod w.toNat 65536) (Nat.div w.toNat 65536) n)
    (reads n (refNum (BitVec.ofNat 16 n)).toNat (refPow (BitVec.ofNat 16 n)).toNat (refSign (BitVec.ofNat 16 n) == 1#1))

theorem unitsOf_size (b : BitVec 16) :
    unitsOf b = (if b.toNat / 32768 = 1 then -1 else 1) * (sizeOf16 b.toNat : ℤ) := by
  unfold unitsOf
  rw [mul_assoc]
  refine congrArg _ ?_
  have : sizeOf16 b.toNat = ((if b.toNat / 128 % 256 = 0 then 0 else 128) + b.toNat % 128) * 2 ^ (b.toNat / 128 % 256 - 103) := by
    show ((cond (Nat.beq (b.toNat / 128 % 256) 0) 0 128) + b.toNat % 128) * 2 ^ (b.toNat / 128 % 256 - 103) = _
    by_cases h : b.toNat / 128 % 256 = 0
    · simp [h]
    · have : Nat.beq (b.toNat / 128 % 256) 0 = false := by
        rw [Bool.eq_false_iff]; exact fun k => h (Nat.eq_of_beq_eq_true k)
      rw [this, if_neg h]; rfl
  rw [this]; push_cast; rfl

theorem unitsOfScale_size (c : BitVec 16) :
    unitsOfScale c = (if c.toNat / 32768 = 1 then -1 else 1) * (sizeOfScale c.toNat : ℤ) := by
  unfold unitsOfScale
  rw [mul_assoc]
  refine congrArg _ ?_
  have : sizeOfScale c.toNat = ((if c.toNat / 1024 % 32 = 0 then 0 else 1024) + c.toNat % 1024) * 2 ^ (max (c.toNat / 1024 % 32) 1 + 6) := by
    show ((cond (Nat.beq (c.toNat / 1024 % 32) 0) 0 1024) + c.toNat % 1024) * 2 ^ (cond (Nat.beq (c.toNat / 1024 % 32) 0) 1 (c.toNat / 1024 % 32) + 6) = _
    by_cases h : c.toNat / 1024 % 32 = 0
    · simp [h]
    · have : Nat.beq (c.toNat / 1024 % 32) 0 = false := by
        rw [Bool.eq_false_iff]; exact fun k => h (Nat.eq_of_beq_eq_true k)
      rw [this, if_neg h, max_eq_left (by omega)]; rfl
  rw [this]; push_cast; rfl

theorem beq_iff (a b : ℕ) : Nat.beq a b = true ↔ a = b := ⟨Nat.eq_of_beq_eq_true, fun h => h ▸ Nat.beq_refl a⟩

theorem wholeNat_eq (b : BitVec 16) (h : wholeNat b.toNat = true) : whole b = true := by
  have h' : (not (Nat.beq (b.toNat / 128 % 256) 255) && (Nat.ble 103 (b.toNat / 128 % 256) || Nat.beq (b.toNat % 32768) 0)) = true := h
  unfold whole
  simp only [Bool.and_eq_true, Bool.or_eq_true, Bool.not_eq_true', decide_eq_true_iff, ne_eq, beq_iff, Nat.ble_eq] at h' ⊢
  refine ⟨fun k => ?_, h'.2⟩
  rw [(beq_iff _ _).mpr k] at h'
  exact absurd h'.1 (by decide)

theorem sumsTo_eq (lo hi c : BitVec 16) (h : sumsTo lo.toNat hi.toNat c.toNat = true) :
    whole lo = true ∧ whole hi = true ∧ unitsOf lo + unitsOf hi = unitsOfScale c := by
  have h' : (wholeNat lo.toNat && (wholeNat hi.toNat && (Nat.beq (hi.toNat / 32768) (c.toNat / 32768) &&
    (cond (Nat.beq (lo.toNat / 32768) (c.toNat / 32768))
      (Nat.beq (sizeOf16 lo.toNat + sizeOf16 hi.toNat) (sizeOfScale c.toNat))
      (Nat.beq (sizeOf16 hi.toNat) (sizeOfScale c.toNat + sizeOf16 lo.toNat)))))) = true := h
  simp only [Bool.and_eq_true] at h'
  obtain ⟨h1, h2, h3, h4⟩ := h'
  refine ⟨wholeNat_eq _ h1, wholeNat_eq _ h2, ?_⟩
  rw [unitsOf_size, unitsOf_size, unitsOfScale_size, (beq_iff _ _).mp h3]
  have hl := lo.isLt
  have hc := c.isLt
  generalize sizeOf16 lo.toNat = a at *
  generalize sizeOf16 hi.toNat = b at *
  generalize sizeOfScale c.toNat = d at *
  by_cases hs : lo.toNat / 32768 = c.toNat / 32768
  · rw [(beq_iff _ _).mpr hs] at h4
    have : a + b = d := (beq_iff _ _).mp h4
    rw [hs, ← this]; push_cast; ring
  · rw [Bool.eq_false_iff.mpr (fun k => hs ((beq_iff _ _).mp k))] at h4
    have : b = d + a := (beq_iff _ _).mp h4
    rw [this]
    by_cases h0 : c.toNat / 32768 = 1
    · rw [if_pos h0, if_neg (by omega)]; push_cast; ring
    · rw [if_neg h0, if_pos (by omega)]; push_cast; ring

theorem reads_eq (c n p : ℕ) (s : Bool) (h : reads c n p s = true) :
    n = (if c / 1024 % 32 = 0 then 0 else 1024) + c % 1024 ∧ p = (max (c / 1024 % 32) 1 + 102) * 8388608
      ∧ (s = true ↔ c / 32768 = 1) := by
  have h' : (Nat.beq n (cond (Nat.beq (c / 1024 % 32) 0) 0 1024 + c % 1024) &&
      (Nat.beq p ((cond (Nat.beq (c / 1024 % 32) 0) 1 (c / 1024 % 32) + 102) * 8388608) &&
        (Bool.rec (not (Nat.beq (c / 32768) 1)) (Nat.beq (c / 32768) 1) s))) = true := h
  simp only [Bool.and_eq_true, beq_iff] at h'
  obtain ⟨h1, h2, h3⟩ := h'
  have hs : s = true ↔ c / 32768 = 1 := by
    cases s
    · refine ⟨fun k => absurd k (by decide), fun k => ?_⟩
      have h3' : (not (Nat.beq (c / 32768) 1)) = true := h3
      rw [(beq_iff _ _).mpr k] at h3'
      exact absurd h3' (by decide)
    · exact ⟨fun _ => (beq_iff _ _).mp h3, fun _ => rfl⟩
  refine ⟨?_, ?_, hs⟩
  · rw [h1]
    by_cases h : c / 1024 % 32 = 0
    · simp [h]
    · rw [Bool.eq_false_iff.mpr (fun k => h ((beq_iff _ _).mp k)), if_neg h]; rfl
  · rw [h2]
    by_cases h : c / 1024 % 32 = 0
    · simp [h]
    · rw [Bool.eq_false_iff.mpr (fun k => h ((beq_iff _ _).mp k)), max_eq_left (by omega)]; rfl

theorem agrees_of_quick (n : ℕ) (hn : n < 65536) (h : quick n = true) : agrees n = true := by
  unfold quick at h
  simp only [once_eq] at h
  have hw : (IntOp.ori (hiAt (signOf (BitVec.ofNat 16 n)) (floatBitsAt (numOf (BitVec.ofNat 16 n)) (powOf (BitVec.ofNat 16 n)) (IntOp.ctlz (numOf (BitVec.ofNat 16 n)))))
      (IntOp.shrui .host (loAt (signOf (BitVec.ofNat 16 n)) (restAt (numOf (BitVec.ofNat 16 n)) (dropAt (IntOp.ctlz (numOf (BitVec.ofNat 16 n)))))
        (floatBitsAt (IntOp.absi (restAt (numOf (BitVec.ofNat 16 n)) (dropAt (IntOp.ctlz (numOf (BitVec.ofNat 16 n)))))) (powOf (BitVec.ofNat 16 n))
          (IntOp.ctlz (IntOp.absi (restAt (numOf (BitVec.ofNat 16 n)) (dropAt (IntOp.ctlz (numOf (BitVec.ofNat 16 n))))))))) 16#32))
      = word (BitVec.ofNat 16 n) := rfl
  rw [hw] at h
  have hc : (BitVec.ofNat 16 n).toNat = n := by rw [BitVec.toNat_ofNat]; exact Nat.mod_eq_of_lt hn
  rw [Bool.and_eq_true] at h
  obtain ⟨h1, h2⟩ := h
  generalize hcc : BitVec.ofNat 16 n = c at *
  have hlt := (word c).isLt
  have e1 : ((word c).extractLsb' 0 16).toNat = (word c).toNat % 65536 := by
    rw [BitVec.extractLsb'_toNat, Nat.shiftRight_eq_div_pow]; norm_num
  have e2 : ((word c).extractLsb' 16 16).toNat = (word c).toNat / 65536 := by
    rw [BitVec.extractLsb'_toNat, Nat.shiftRight_eq_div_pow]; norm_num; omega
  have s := sumsTo_eq ((word c).extractLsb' 0 16) ((word c).extractLsb' 16 16) c (by rw [e1, e2, hc]; exact h1)
  have r := reads_eq _ _ _ _ h2
  obtain ⟨s1, s2, s3⟩ := s
  obtain ⟨r1, r2, r3⟩ := r
  unfold agrees
  simp only [hcc, Bool.and_eq_true, decide_eq_true_iff, decide_eq_decide]
  rw [hc]
  refine ⟨⟨⟨⟨⟨s1, s2⟩, s3⟩, r1⟩, r2⟩, ?_⟩
  rw [beq_iff_eq] at r3
  exact r3

/-- Every pattern, by computation, in eight ranges. -/
theorem quick_1 : (List.range 8192).all (fun n => quick (n + 0)) = true := by decide +kernel
theorem quick_2 : (List.range 8192).all (fun n => quick (n + 8192)) = true := by decide +kernel
theorem quick_3 : (List.range 8192).all (fun n => quick (n + 16384)) = true := by decide +kernel
theorem quick_4 : (List.range 8192).all (fun n => quick (n + 24576)) = true := by decide +kernel
theorem quick_5 : (List.range 8192).all (fun n => quick (n + 32768)) = true := by decide +kernel
theorem quick_6 : (List.range 8192).all (fun n => quick (n + 40960)) = true := by decide +kernel
theorem quick_7 : (List.range 8192).all (fun n => quick (n + 49152)) = true := by decide +kernel
theorem quick_8 : (List.range 8192).all (fun n => quick (n + 57344)) = true := by decide +kernel

theorem agrees_all (c : BitVec 16) : agrees c.toNat = true := by
  have hc := c.isLt
  refine agrees_of_quick _ hc ?_
  have key : ∀ a b : ℕ, (List.range b).all (fun n => quick (n + a)) = true → a ≤ c.toNat → c.toNat < a + b → quick c.toNat = true := by
    intro a b hall h1 h2
    have := List.all_eq_true.mp hall (c.toNat - a) (List.mem_range.mpr (by omega))
    simpa [Nat.sub_add_cancel h1] using this
  by_cases h1 : c.toNat < 8192
  · exact key _ _ quick_1 (by omega) (by omega)
  by_cases h2 : c.toNat < 16384
  · exact key _ _ quick_2 (by omega) (by omega)
  by_cases h3 : c.toNat < 24576
  · exact key _ _ quick_3 (by omega) (by omega)
  by_cases h4 : c.toNat < 32768
  · exact key _ _ quick_4 (by omega) (by omega)
  by_cases h5 : c.toNat < 40960
  · exact key _ _ quick_5 (by omega) (by omega)
  by_cases h6 : c.toNat < 49152
  · exact key _ _ quick_6 (by omega) (by omega)
  by_cases h7 : c.toNat < 57344
  · exact key _ _ quick_7 (by omega) (by omega)
  · exact key _ _ quick_8 (by omega) (by omega)

/-! ## The numbers themselves -/

/-- The real number of a scale's pattern. -/
def sval (c : BitVec 16) : ℝ := (unitsOfScale c : ℝ) * (2 : ℝ) ^ (-31 : ℤ)

theorem ofBits_whole (b : BitVec 16) (h : whole b = true) :
    Ideal.ofBits .bf16 b = (((unitsOf b : ℝ) * (2 : ℝ) ^ (-31 : ℤ) : ℝ) : EReal) := by
  have hb := b.isLt
  have e1 : (b.extractLsb' 15 1 == 1#1) = decide (b.toNat / 32768 = 1) := by
    rw [Bool.eq_iff_iff, beq_iff_eq, decide_eq_true_iff, ← BitVec.toNat_inj, BitVec.extractLsb'_toNat, Nat.shiftRight_eq_div_pow]
    norm_num
    omega
  have e2 : (b.extractLsb' 7 8).toNat = b.toNat / 128 % 256 := by
    rw [BitVec.extractLsb'_toNat, Nat.shiftRight_eq_div_pow]
  have e3 : (b.extractLsb' 0 7).toNat = b.toNat % 128 := by
    rw [BitVec.extractLsb'_toNat, Nat.shiftRight_eq_div_pow]; norm_num
  simp only [whole, Bool.and_eq_true, Bool.or_eq_true, decide_eq_true_iff, ne_eq] at h
  obtain ⟨h1, h2⟩ := h
  show Ideal.ieee 8 7 b = _
  unfold Ideal.ieee
  simp only [show 8 + 7 = 15 from rfl, e1, e2, e3]
  rw [if_neg (by norm_num; exact h1)]
  unfold unitsOf
  by_cases h0 : b.toNat / 128 % 256 = 0
  · rw [if_pos h0]
    have hf : b.toNat % 128 = 0 := by omega
    congr 1
    simp [h0, hf]
  · rw [if_neg h0]
    have hex : 103 ≤ b.toNat / 128 % 256 := by omega
    obtain ⟨x, hx⟩ := Nat.exists_eq_add_of_le hex
    congr 1
    rw [hx]
    have hx0 : (103 + x = 0) = False := by simp
    simp only [hx0, if_false, Nat.add_sub_cancel_left, decide_eq_true_eq]
    have : (2 : ℝ) ^ (((103 + x : ℕ) : ℤ) - (2 ^ (8 - 1) - 1) - (7 : ℕ)) = 2 ^ x * (2 : ℝ) ^ (-31 : ℤ) := by
      rw [← zpow_natCast, ← zpow_add₀ (by norm_num)]; congr 1; norm_num; ring
    rw [this]
    generalize b.toNat % 128 = f
    split <;> push_cast <;> ring

theorem ofBits_pow (w : BitVec 32) (x : ℕ) (hx : 0 < x ∧ x < 255) (h : w.toNat = x * 8388608) :
    Ideal.ofBits .f32 w = (((2 : ℝ) ^ ((x : ℤ) - 127) : ℝ) : EReal) := by
  have e1 : (w.extractLsb' 31 1 == 1#1) = false := by
    rw [Bool.eq_false_iff, ne_eq, beq_iff_eq, ← BitVec.toNat_inj, BitVec.extractLsb'_toNat, Nat.shiftRight_eq_div_pow, h]
    norm_num
    omega
  have e2 : (w.extractLsb' 23 8).toNat = x := by
    rw [BitVec.extractLsb'_toNat, Nat.shiftRight_eq_div_pow, h]; norm_num; omega
  have e3 : (w.extractLsb' 0 23).toNat = 0 := by
    rw [BitVec.extractLsb'_toNat, Nat.shiftRight_eq_div_pow, h]; norm_num
  show Ideal.ieee 8 23 w = _
  unfold Ideal.ieee
  simp only [show 8 + 23 = 31 from rfl, e1, e2, e3]
  rw [if_neg (by norm_num; omega), if_neg (by omega)]
  congr 1
  have : (2 : ℝ) ^ ((x : ℤ) - (2 ^ (8 - 1) - 1) - (23 : ℕ)) * 2 ^ 23 = (2 : ℝ) ^ ((x : ℤ) - 127) := by
    rw [← zpow_natCast, ← zpow_add₀ (by norm_num)]; congr 1; norm_num
  rw [← this]
  push_cast
  simp
  ring

/-- The reference's scale at one pattern. -/
def refScale (c : BitVec 16) : EReal :=
  Scalar.select (refSign c) (-((((refNum c).toInt : ℝ) : EReal) * Ideal.ofBits .f32 (refPow c)))
    ((((refNum c).toInt : ℝ) : EReal) * Ideal.ofBits .f32 (refPow c))

/-- The kernel's two halves add up to the scale … -/
theorem halves_eq (c : BitVec 16) :
    ∃ x y : ℝ, Ideal.ofBits .bf16 ((word c).extractLsb' 0 16) = (x : EReal)
      ∧ Ideal.ofBits .bf16 ((word c).extractLsb' 16 16) = (y : EReal) ∧ x + y = sval c := by
  have ha := agrees_all c
  simp only [agrees, BitVec.ofNat_toNat, BitVec.setWidth_eq, Bool.and_eq_true, decide_eq_true_iff] at ha
  obtain ⟨⟨⟨⟨⟨h1, h2⟩, h3⟩, -⟩, -⟩, -⟩ := ha
  refine ⟨_, _, ofBits_whole _ h1, ofBits_whole _ h2, ?_⟩
  unfold sval
  rw [← h3]; push_cast; ring

/-- … and the reference's is the scale. -/
theorem refScale_eq (c : BitVec 16) : refScale c = ((sval c : ℝ) : EReal) := by
  have ha := agrees_all c
  simp only [agrees, BitVec.ofNat_toNat, BitVec.setWidth_eq, Bool.and_eq_true, decide_eq_true_iff, decide_eq_decide] at ha
  obtain ⟨⟨⟨-, h4⟩, h5⟩, h6⟩ := ha
  have hc := c.isLt
  have hx : max (c.toNat / 1024 % 32) 1 + 102 < 255 := by omega
  have hn : (refNum c).toInt = ((refNum c).toNat : ℤ) := by
    rw [BitVec.toInt_eq_toNat_cond, if_pos]; rw [h4]; split <;> omega
  unfold refScale sval unitsOfScale
  have hp := ofBits_pow (refPow c) _ ⟨by omega, hx⟩ h5
  generalize refPow c = w at hp
  rw [hn, h4]
  generalize refSign c = g at h6
  rw [hp]
  generalize max (c.toNat / 1024 % 32) 1 = x
  generalize (if c.toNat / 1024 % 32 = 0 then 0 else 1024) + c.toNat % 1024 = f
  have e : (2 : ℝ) ^ (((x + 102 : ℕ) : ℤ) - 127) = 2 ^ (x + 6) * (2 : ℝ) ^ (-31 : ℤ) := by
    rw [← zpow_natCast, ← zpow_add₀ two_ne_zero]
    exact congrArg _ (by push_cast; ring)
  rw [e]
  unfold Scalar.select
  by_cases hs : c.toNat / 32768 = 1
  · rw [if_pos (show g = 1 from h6.mpr hs), if_pos hs, ← EReal.coe_mul, ← EReal.coe_neg]
    exact congrArg _ (by push_cast; ring)
  · rw [if_neg (show ¬ g = 1 from fun k => hs (h6.mp k)), if_neg hs, ← EReal.coe_mul]
    exact congrArg _ (by push_cast; ring)

end Cert.Scale
-- ==== Proof.Weights.lean ====
/-
  A weight as the kernel builds it from a byte of codes and a word of scale: code minus eight, times the scale.
-/
module

public import proofs.«01_k».proof.Proof.Words
public import Idealize.ShloMosaic.Lib.ValueIdx
public import Idealize.ShloMosaic.Lib.BitcastFour
public import Idealize.ShloMosaic.Lib.BitcastPair
public import Idealize.ShloMosaic.Lib.Pipeline.Value
public import Idealize.ShloMosaic.Lib.Pointwise.ElementwiseCore

@[expose] public section

noncomputable section

namespace Cert.Scale

open Idealize.ShloMosaic Idealize.ShloMosaic.ValueIdx

/-- One of a byte's two codes: the low one at an even place, the high one at an odd place. -/
def nib (b : BitVec 8) (p : ℕ) : ℤ := if p = 0 then ((b.toNat % 16 : ℕ) : ℤ) else ((b.toNat / 16 : ℕ) : ℤ)

theorem nib_toInt : ∀ (b : BitVec 8) (p : Fin 2), (b.extractLsb' (4 * p.val) 4 ^^^ 8#4).toInt = nib b p.val - 8 := by
  decide

/-- A code shifted to the top of its word and back, its top bit flipped: the code minus eight. -/
theorem nibble_word (w : BitVec 32) (b : BitVec 8) (k : ℕ) (hk : k < 8)
    (hw : ∀ j < 8, w.getLsbD (8 * (k / 2) + j) = b.getLsbD j) :
    (IntOp.shrsi .vector (IntOp.shli .vector (IntOp.xori w 2290649224#32)
      (IntOp.subi 28#32 (IntOp.muli 4#32 (BitVec.ofNat 32 k)))) 28#32).toInt = nib b (k % 2) - 8 := by
  refine Eq.trans (congrArg BitVec.toInt ?_) ((BitVec.toInt_signExtend_of_le (x := b.extractLsb' (4 * (k % 2)) 4 ^^^ 8#4) (v := 32) (by decide)).trans
    (nib_toInt b ⟨k % 2, Nat.mod_lt _ (by decide)⟩))
  have hs : (IntOp.subi 28#32 (IntOp.muli 4#32 (BitVec.ofNat 32 k))).toNat = 28 - 4 * k := by
    interval_cases k <;> decide
  have hc : ∀ i < 4, (2290649224#32).getLsbD (4 * k + i) = (8#4).getLsbD i := by
    interval_cases k <;> decide
  have hx : ∀ i < 4, (IntOp.xori w 2290649224#32).getLsbD (4 * k + i) = (b.extractLsb' (4 * (k % 2)) 4 ^^^ 8#4).getLsbD i := by
    intro i hi
    unfold IntOp.xori
    rw [BitVec.getLsbD_xor, BitVec.getLsbD_xor, hc i hi, BitVec.getLsbD_extractLsb']
    have := hw (4 * (k % 2) + i) (by omega)
    rw [show 8 * (k / 2) + (4 * (k % 2) + i) = 4 * k + i by omega] at this
    rw [this]; simp [hi]
  generalize IntOp.xori w 2290649224#32 = x at hx
  generalize b.extractLsb' (4 * (k % 2)) 4 ^^^ 8#4 = y at hx
  unfold IntOp.shrsi IntOp.shli
  rw [if_pos (by decide), if_pos (by rw [hs]; omega)]
  apply BitVec.eq_of_getLsbD_eq
  intro i hi
  have hm : y.msb = y.getLsbD 3 := by rw [BitVec.msb_eq_getLsbD_last]
  rw [BitVec.sshiftRight', BitVec.getLsbD_sshiftRight, BitVec.getLsbD_signExtend, BitVec.msb_eq_getLsbD_last, BitVec.shiftLeft_eq',
    BitVec.getLsbD_shiftLeft, BitVec.getLsbD_shiftLeft, hs, hm, show (28#32).toNat = 28 from rfl]
  by_cases h4 : i < 4
  · have := hx i h4
    rw [show 28 + i - (28 - 4 * k) = 4 * k + i by omega, this]
    simp [hi, h4, show 28 + i < 32 by omega, show ¬ 28 + i < 28 - 4 * k by omega]
  · have := hx 3 (by decide)
    rw [show 32 - 1 - (28 - 4 * k) = 4 * k + 3 by omega, this]
    simp [hi, h4, show ¬ 28 + i < 32 by omega, show ¬ 31 < 28 - 4 * k by omega]

/-- A word's halves exchanged. -/
def swap (w : BitVec 32) : BitVec 32 := w.setWidth 16 ++ (IntOp.shrsi .vector w 16#32).setWidth 16

theorem swap_half (w : BitVec 32) (p : ℕ) (hp : p < 2) : (swap w).extractLsb' (16 * p) 16 = w.extractLsb' (16 * (1 - p)) 16 := by
  unfold swap IntOp.shrsi
  rw [if_pos (by decide)]
  apply BitVec.eq_of_getLsbD_eq
  intro i hi
  rw [BitVec.getLsbD_extractLsb', BitVec.getLsbD_extractLsb', BitVec.getLsbD_append, BitVec.getLsbD_setWidth, BitVec.getLsbD_setWidth,
    BitVec.sshiftRight', BitVec.getLsbD_sshiftRight, show (16#32).toNat = 16 from rfl]
  interval_cases p
  · simp [hi, show ¬ 32 ≤ i by omega, show 16 + i < 32 by omega]
  · simp [hi]

/-- A code times each of its scale's halves, added up. -/
theorem weight_eq (q : ℤ) (c : BitVec 16) (p : ℕ) (hp : p < 2) :
    (((q : ℝ) : EReal) * Ideal.ofBits .bf16 ((word c).extractLsb' (16 * p) 16)
      + ((q : ℝ) : EReal) * Ideal.ofBits .bf16 ((swap (word c)).extractLsb' (16 * p) 16) : EReal) = (((q : ℝ) * sval c : ℝ) : EReal) := by
  rw [swap_half _ p hp]
  obtain ⟨x, y, hx, hy, hxy⟩ := halves_eq c
  interval_cases p
  · simp only [Nat.mul_zero, Nat.sub_zero, Nat.mul_one]
    rw [hx, hy, ← EReal.coe_mul, ← EReal.coe_mul, ← EReal.coe_add, ← hxy]
    exact congrArg _ (by ring)
  · simp only [Nat.mul_zero, Nat.sub_self, Nat.mul_one]
    rw [hx, hy, ← EReal.coe_mul, ← EReal.coe_mul, ← EReal.coe_add, ← hxy]
    exact congrArg _ (by ring)

/-- The codes of `W` words a lane, each word eight rows. -/
theorem codes_at {W B R : ℕ} (hR : R = 8 * W) (hB : R = 2 * B) (x : (⟨2, ![B, 128]⟩ : Shape).Idx → BitVec 8)
    (hb : (⟨2, ![B, 128]⟩ : Shape).Bitcasts 8 ⟨2, ![W, 128]⟩ 32)
    (h1 : (⟨2, ![W, 128]⟩ : Shape).ShapeCasts ⟨3, ![W, 1, 128]⟩) (h2 : (⟨3, ![W, 1, 128]⟩ : Shape).ShapeCasts ⟨3, ![W, 1, 128]⟩)
    (h3 : (⟨3, ![W, 1, 128]⟩ : Shape).Broadcasts ⟨3, ![W, 8, 128]⟩) (h4 : (⟨3, ![W, 8, 128]⟩ : Shape).Iotas .tc 32 [1])
    (h5 : (⟨3, ![W, 8, 128]⟩ : Shape).ShapeCasts ⟨2, ![R, 128]⟩) (r : Fin R) (l : Fin 128) :
    (shapeCast ⟨2, ![R, 128]⟩ (shrsi (shli (broadcastTo ⟨3, ![W, 8, 128]⟩ (shapeCast ⟨3, ![W, 1, 128]⟩ (shapeCast ⟨3, ![W, 1, 128]⟩
      (xori (bitcast ⟨2, ![W, 128]⟩ 32 x hb) (broadcast ⟨2, ![W, 128]⟩ 2290649224#32)) h1) h2) h3)
      (subi (broadcast ⟨3, ![W, 8, 128]⟩ 28#32) (muli (broadcast ⟨3, ![W, 8, 128]⟩ 4#32) (iota .tc ⟨3, ![W, 8, 128]⟩ 32 [1] h4))))
      (broadcast ⟨3, ![W, 8, 128]⟩ 28#32)) h5 (ix2 r l)).toInt
      = nib (x (ix2 ⟨r.val / 2, by omega⟩ l)) (r.val % 2) - 8 := by
  have hr := r.isLt
  rw [shapeCast_apply _ h5 (ix2 r l) (ix3 ⟨r.val / 8, by omega⟩ ⟨r.val % 8, by omega⟩ l) (by
    rw [Shape.rowMajor_val_three, Shape.rowMajor_val_two]
    show (r.val / 8 * 8 + r.val % 8) * 128 + l.val = r.val * 128 + l.val
    omega)]
  show (IntOp.shrsi .vector (IntOp.shli .vector (broadcastTo _ _ h3 _) (IntOp.subi 28#32 (IntOp.muli 4#32 (iota .tc _ 32 [1] h4 _)))) 28#32).toInt = _
  rw [broadcastTo_apply _ h3 _ (ix3 ⟨r.val / 8, by omega⟩ 0 l) (by
    intro a
    match a with
    | ⟨0, _⟩ => show r.val / 8 = if W = 1 then 0 else r.val / 8; split <;> omega
    | ⟨1, _⟩ => rfl
    | ⟨2, _⟩ => rfl)]
  rw [shapeCast_self, shapeCast_apply _ h1 _ (ix2 ⟨r.val / 8, by omega⟩ l) (by
    rw [Shape.rowMajor_val_three, Shape.rowMajor_val_two]
    show r.val / 8 * 128 + l.val = (r.val / 8 * 1 + 0) * 128 + l.val
    omega), iota_single_apply]
  show (IntOp.shrsi .vector (IntOp.shli .vector (IntOp.xori (bitcast _ 32 x hb _) 2290649224#32) (IntOp.subi 28#32 (IntOp.muli 4#32 (BitVec.ofNat 32 (r.val % 8))))) 28#32).toInt = _
  have e := nibble_word (bitcast ⟨2, ![W, 128]⟩ 32 x hb (ix2 ⟨r.val / 8, by omega⟩ l)) (x (ix2 ⟨r.val / 2, by omega⟩ l)) (r.val % 8) (by omega) (by
    intro j hj
    rw [bitcast_8_32_getLsbD_ix2 x hb _ l (8 * (r.val % 8 / 2) + j) (by omega) ⟨r.val / 2, by omega⟩ (by
      show r.val / 2 = 4 * (r.val / 8) + _; omega)]
    congr 1; omega)
  rw [e, show r.val % 8 % 2 = r.val % 2 by omega]

/-- The halves of a word a group, each word sixteen pairs of rows. -/
theorem halves_at {G H R : ℕ} (hH : H = 16 * G) (hR : R = 2 * H) (v : (⟨2, ![G, 128]⟩ : Shape).Idx → BitVec 32)
    (h1 : (⟨2, ![G, 128]⟩ : Shape).ShapeCasts ⟨3, ![G, 1, 128]⟩) (h2 : (⟨3, ![G, 1, 128]⟩ : Shape).ShapeCasts ⟨3, ![G, 1, 128]⟩)
    (h3 : (⟨3, ![G, 1, 128]⟩ : Shape).Broadcasts ⟨3, ![G, 16, 128]⟩)
    (h4 : (⟨3, ![G, 16, 128]⟩ : Shape).ShapeCasts ⟨2, ![H, 128]⟩) (hb : (⟨2, ![H, 128]⟩ : Shape).Bitcasts 32 ⟨2, ![R, 128]⟩ 16)
    (r : Fin R) (l : Fin 128) :
    bitcast ⟨2, ![R, 128]⟩ 16 (shapeCast ⟨2, ![H, 128]⟩ (broadcastTo ⟨3, ![G, 16, 128]⟩ (shapeCast ⟨3, ![G, 1, 128]⟩
      (shapeCast ⟨3, ![G, 1, 128]⟩ v h1) h2) h3) h4) hb (ix2 r l) = (v (ix2 ⟨r.val / 32, by omega⟩ l)).extractLsb' (16 * (r.val % 2)) 16 := by
  have hr := r.isLt
  have hrow : (⟨2, ![R, 128]⟩ : Shape).row (ix2 r l) = r.val := rfl
  rw [bitcast_32_16]
  have hi : hb.srcIdx (ix2 r l) ((⟨2, ![R, 128]⟩ : Shape).row (ix2 r l) / 2) (fun a ha => by
      have := hb.pos_lt (ix2 r l) 0 (by decide) a ha; omega) = ix2 ⟨r.val / 2, by omega⟩ l := by
    funext c
    match c with
    | ⟨0, _⟩ => exact Fin.ext (hb.srcIdx_row _ _ _ ⟨0, Nat.zero_lt_two⟩ rfl)
    | ⟨1, _⟩ => exact Fin.ext (hb.srcIdx_other _ _ _ ⟨1, Nat.one_lt_two⟩ (by show ¬ 1 + 2 = 2; omega))
  rw [hi, hrow]
  congr 1
  rw [shapeCast_apply _ h4 _ (ix3 ⟨r.val / 32, by omega⟩ ⟨r.val / 2 % 16, by omega⟩ l) (by
    rw [Shape.rowMajor_val_three, Shape.rowMajor_val_two]
    show (r.val / 32 * 16 + r.val / 2 % 16) * 128 + l.val = r.val / 2 * 128 + l.val
    omega)]
  rw [broadcastTo_apply _ h3 _ (ix3 ⟨r.val / 32, by omega⟩ 0 l) (by
    intro a
    match a with
    | ⟨0, _⟩ => show r.val / 32 = if G = 1 then 0 else r.val / 32; split <;> omega
    | ⟨1, _⟩ => rfl
    | ⟨2, _⟩ => rfl)]
  rw [shapeCast_self, shapeCast_apply _ h1 _ (ix2 ⟨r.val / 32, by omega⟩ l) (by
    rw [Shape.rowMajor_val_three, Shape.rowMajor_val_two]
    show r.val / 32 * 128 + l.val = (r.val / 32 * 1 + 0) * 128 + l.val
    omega)]

end Cert.Scale
-- ==== Proof.Values.lean ====
/-
  What one trip of each product loop stores, element by element, from the codes, the scales' words and the rows it reads.
-/
module

public import proofs.«01_k».proof.Proof.Gen.KernelIdeal.Skeleton
public import proofs.«01_k».proof.Proof.Weights
public import Idealize.ShloMosaic.Lib.MatmulPlain
public import Idealize.ShloMosaic.Lib.Bf16PairInverse

@[expose] public section

noncomputable section

namespace Cert.Scale

open Idealize.ShloMosaic Idealize.ShloMosaic.ValueIdx

/-! ## The mathematics -/

/-- One weight: its code, less eight, times its scale. -/
def wt (b : BitVec 8) (c : BitVec 16) (p : ℕ) : EReal := ((((nib b p - 8 : ℤ) : ℝ) * sval c : ℝ) : EReal)

/-- The weight a row `r` of a contraction meets in column `o`: two codes a byte, thirty-two codes a scale. -/
def weights {O B G R : ℕ} (hB : R = 2 * B) (hG : R = 32 * G) (q : (⟨2, ![O, B]⟩ : Shape).Idx → BitVec 8)
    (s : (⟨2, ![O, G]⟩ : Shape).Idx → BitVec 16) (r : Fin R) (o : Fin O) : EReal :=
  wt (q (ix2 o ⟨r.val / 2, by omega⟩)) (s (ix2 o ⟨r.val / 32, by omega⟩)) (r.val % 2)

/-- A product of rows and weights. -/
def lin {K N : ℕ} (x : Fin 128 → Fin K → EReal) (w : Fin K → Fin N → EReal) (m : Fin 128) (o : Fin N) : EReal := ∑ k, x m k * w k o

/-- The gated values. -/
def hid (x : Fin 128 → Fin 5120 → EReal) (gw uw : Fin 5120 → Fin 4480 → EReal) (m : Fin 128) (o : Fin 4480) : EReal :=
  lin x gw m o * Ideal.logistic (lin x gw m o) * lin x uw m o

/-! ## A block of weights -/

theorem dequant_at {W B R G H : ℕ} (hR : R = 8 * W) (hB : R = 2 * B) (hH : H = 16 * G) (hR2 : R = 2 * H) (x : (⟨2, ![B, 128]⟩ : Shape).Idx → BitVec 8)
    (hb : (⟨2, ![B, 128]⟩ : Shape).Bitcasts 8 ⟨2, ![W, 128]⟩ 32)
    (h1 : (⟨2, ![W, 128]⟩ : Shape).ShapeCasts ⟨3, ![W, 1, 128]⟩) (h2 : (⟨3, ![W, 1, 128]⟩ : Shape).ShapeCasts ⟨3, ![W, 1, 128]⟩)
    (h3 : (⟨3, ![W, 1, 128]⟩ : Shape).Broadcasts ⟨3, ![W, 8, 128]⟩) (h4 : (⟨3, ![W, 8, 128]⟩ : Shape).Iotas .tc 32 [1])
    (h5 : (⟨3, ![W, 8, 128]⟩ : Shape).ShapeCasts ⟨2, ![R, 128]⟩)
    (v w : (⟨2, ![G, 128]⟩ : Shape).Idx → BitVec 32)
    (g1 : (⟨2, ![G, 128]⟩ : Shape).ShapeCasts ⟨3, ![G, 1, 128]⟩) (g2 : (⟨3, ![G, 1, 128]⟩ : Shape).ShapeCasts ⟨3, ![G, 1, 128]⟩)
    (g3 : (⟨3, ![G, 1, 128]⟩ : Shape).Broadcasts ⟨3, ![G, 16, 128]⟩)
    (g4 : (⟨3, ![G, 16, 128]⟩ : Shape).ShapeCasts ⟨2, ![H, 128]⟩) (gb : (⟨2, ![H, 128]⟩ : Shape).Bitcasts 32 ⟨2, ![R, 128]⟩ 16)
    (r : Fin R) (l : Fin 128) (c : BitVec 16)
    (hv : v (ix2 ⟨r.val / 32, by omega⟩ l) = word c) (hw : w (ix2 ⟨r.val / 32, by omega⟩ l) = swap (word c)) :
    (FloatOps.sitofp (F := Ideal) .bf16 (shapeCast ⟨2, ![R, 128]⟩ (shrsi (shli (broadcastTo ⟨3, ![W, 8, 128]⟩ (shapeCast ⟨3, ![W, 1, 128]⟩ (shapeCast ⟨3, ![W, 1, 128]⟩
        (xori (bitcast ⟨2, ![W, 128]⟩ 32 x hb) (broadcast ⟨2, ![W, 128]⟩ 2290649224#32)) h1) h2) h3)
        (subi (broadcast ⟨3, ![W, 8, 128]⟩ 28#32) (muli (broadcast ⟨3, ![W, 8, 128]⟩ 4#32) (iota .tc ⟨3, ![W, 8, 128]⟩ 32 [1] h4))))
        (broadcast ⟨3, ![W, 8, 128]⟩ 28#32)) h5 (ix2 r l)) : EReal)
      * Ideal.ofBits .bf16 (bitcast ⟨2, ![R, 128]⟩ 16 (shapeCast ⟨2, ![H, 128]⟩ (broadcastTo ⟨3, ![G, 16, 128]⟩ (shapeCast ⟨3, ![G, 1, 128]⟩
          (shapeCast ⟨3, ![G, 1, 128]⟩ v g1) g2) g3) g4) gb (ix2 r l))
      + (FloatOps.sitofp (F := Ideal) .bf16 (shapeCast ⟨2, ![R, 128]⟩ (shrsi (shli (broadcastTo ⟨3, ![W, 8, 128]⟩ (shapeCast ⟨3, ![W, 1, 128]⟩ (shapeCast ⟨3, ![W, 1, 128]⟩
        (xori (bitcast ⟨2, ![W, 128]⟩ 32 x hb) (broadcast ⟨2, ![W, 128]⟩ 2290649224#32)) h1) h2) h3)
        (subi (broadcast ⟨3, ![W, 8, 128]⟩ 28#32) (muli (broadcast ⟨3, ![W, 8, 128]⟩ 4#32) (iota .tc ⟨3, ![W, 8, 128]⟩ 32 [1] h4))))
        (broadcast ⟨3, ![W, 8, 128]⟩ 28#32)) h5 (ix2 r l)) : EReal)
      * Ideal.ofBits .bf16 (bitcast ⟨2, ![R, 128]⟩ 16 (shapeCast ⟨2, ![H, 128]⟩ (broadcastTo ⟨3, ![G, 16, 128]⟩ (shapeCast ⟨3, ![G, 1, 128]⟩
          (shapeCast ⟨3, ![G, 1, 128]⟩ w g1) g2) g3) g4) gb (ix2 r l))
      = wt (x (ix2 ⟨r.val / 2, by omega⟩ l)) c (r.val % 2) := by
  rw [halves_at hH hR2, halves_at hH hR2, hv, hw]
  have hq := codes_at hR hB x hb h1 h2 h3 h4 h5 r l
  generalize shapeCast ⟨2, ![R, 128]⟩ (shrsi (shli (broadcastTo ⟨3, ![W, 8, 128]⟩ (shapeCast ⟨3, ![W, 1, 128]⟩ (shapeCast ⟨3, ![W, 1, 128]⟩
        (xori (bitcast ⟨2, ![W, 128]⟩ 32 x hb) (broadcast ⟨2, ![W, 128]⟩ 2290649224#32)) h1) h2) h3)
        (subi (broadcast ⟨3, ![W, 8, 128]⟩ 28#32) (muli (broadcast ⟨3, ![W, 8, 128]⟩ 4#32) (iota .tc ⟨3, ![W, 8, 128]⟩ 32 [1] h4))))
        (broadcast ⟨3, ![W, 8, 128]⟩ 28#32)) h5 (ix2 r l) = z at hq ⊢
  unfold wt
  rw [← hq]
  exact weight_eq z.toInt c (r.val % 2) (Nat.mod_lt _ (by decide))

/-! ## Rows in pairs -/

section Pairs
variable {α : Type} {M N : ℕ}

theorem interleave_two {M2 : ℕ} (hM : M2 = 2 * M) (lo hi : (⟨2, ![M, N]⟩ : Shape).Idx → α)
    (h : (⟨2, ![M2, N]⟩ : Shape).Bitcasts 16 ⟨2, ![M, N]⟩ 32) (m : Fin M2) (n : Fin N) :
    interleaveRows ⟨2, ![M2, N]⟩ lo hi h (ix2 m n)
      = if m.val % 2 = 0 then lo (ix2 ⟨m.val / 2, by omega⟩ n) else hi (ix2 ⟨m.val / 2, by omega⟩ n) := by
  unfold interleaveRows
  dsimp only
  rw [show (⟨2, ![M2, N]⟩ : Shape).row (ix2 m n) = m.val from rfl]
  split
  · refine congrArg lo (funext fun b => ?_)
    match b with
    | ⟨0, _⟩ => rfl
    | ⟨1, _⟩ => rfl
  · refine congrArg hi (funext fun b => ?_)
    match b with
    | ⟨0, _⟩ => rfl
    | ⟨1, _⟩ => rfl

theorem interleave_three (lo hi : (⟨3, ![M, 1, N]⟩ : Shape).Idx → α)
    (h : (⟨3, ![M, 2, N]⟩ : Shape).Bitcasts 16 ⟨3, ![M, 1, N]⟩ 32) (i : Fin M) (p : Fin 2) (n : Fin N) :
    interleaveRows ⟨3, ![M, 2, N]⟩ lo hi h (ix3 i p n) = if p.val % 2 = 0 then lo (ix3 i 0 n) else hi (ix3 i 0 n) := by
  have hp : p.val / 2 = 0 := by omega
  unfold interleaveRows
  dsimp only
  rw [show (⟨3, ![M, 2, N]⟩ : Shape).row (ix3 i p n) = p.val from rfl]
  split
  · refine congrArg lo (funext fun b => ?_)
    match b with
    | ⟨0, _⟩ => rfl
    | ⟨1, _⟩ => exact Fin.ext hp
    | ⟨2, _⟩ => rfl
  · refine congrArg hi (funext fun b => ?_)
    match b with
    | ⟨0, _⟩ => rfl
    | ⟨1, _⟩ => exact Fin.ext hp
    | ⟨2, _⟩ => rfl

theorem unpair_at {M2 : ℕ} (hM : M2 = 2 * M) (raw : (⟨3, ![M, 2, N]⟩ : Shape).Idx → α) (h1 : (⟨3, ![M, 2, N]⟩ : Shape).Bitcasts 16 ⟨3, ![M, 1, N]⟩ 32)
    (h2 : (⟨3, ![M, 1, N]⟩ : Shape).ShapeCasts ⟨2, ![M, N]⟩) (h3 : (⟨2, ![M2, N]⟩ : Shape).Bitcasts 16 ⟨2, ![M, N]⟩ 32) (m : Fin M2) (n : Fin N) :
    interleaveRows ⟨2, ![M2, N]⟩ (shapeCast ⟨2, ![M, N]⟩ (rowsOfParity 0 ⟨3, ![M, 1, N]⟩ raw h1) h2)
      (shapeCast ⟨2, ![M, N]⟩ (rowsOfParity 1 ⟨3, ![M, 1, N]⟩ raw h1) h2) h3 (ix2 m n)
      = raw (ix3 ⟨m.val / 2, by omega⟩ ⟨m.val % 2, Nat.mod_lt _ (by decide)⟩ n) := by
  have key : ∀ (p : Fin 2) (i : Fin M), shapeCast ⟨2, ![M, N]⟩ (rowsOfParity p ⟨3, ![M, 1, N]⟩ raw h1) h2 (ix2 i n) = raw (ix3 i p n) := by
    intro p i
    rw [shapeCast_apply _ h2 (ix2 i n) (ix3 i 0 n) (by
      rw [Shape.rowMajor_val_three, Shape.rowMajor_val_two]
      show (i.val * 1 + 0) * N + n.val = i.val * N + n.val
      rw [Nat.mul_one, Nat.add_zero])]
    unfold rowsOfParity
    refine congrArg raw (funext fun a => ?_)
    match a with
    | ⟨0, _⟩ => rfl
    | ⟨1, _⟩ => exact Fin.ext (by show 2 * 0 + p.val = p.val; omega)
    | ⟨2, _⟩ => rfl
  rw [interleave_two hM, key, key]
  by_cases hm : m.val % 2 = 0
  · rw [if_pos hm]; exact congrArg (fun p => raw (ix3 _ p n)) (Fin.ext hm.symm)
  · rw [if_neg hm]; exact congrArg (fun p => raw (ix3 _ p n)) (Fin.ext (by show 1 = m.val % 2; omega))

theorem pair_at {M2 : ℕ} (hM : M2 = 2 * M) (y : (⟨2, ![M2, N]⟩ : Shape).Idx → α) (h1 : (⟨2, ![M2, N]⟩ : Shape).Bitcasts 16 ⟨2, ![M, N]⟩ 32)
    (h2 : (⟨2, ![M, N]⟩ : Shape).ShapeCasts ⟨3, ![M, 1, N]⟩) (h3 : (⟨3, ![M, 2, N]⟩ : Shape).Bitcasts 16 ⟨3, ![M, 1, N]⟩ 32)
    (i : Fin M) (p : Fin 2) (n : Fin N) :
    interleaveRows ⟨3, ![M, 2, N]⟩ (shapeCast ⟨3, ![M, 1, N]⟩ (rowsOfParity 0 ⟨2, ![M, N]⟩ y h1) h2)
      (shapeCast ⟨3, ![M, 1, N]⟩ (rowsOfParity 1 ⟨2, ![M, N]⟩ y h1) h2) h3 (ix3 i p n)
      = y (ix2 ⟨2 * i.val + p.val, by omega⟩ n) := by
  have key : ∀ (p : Fin 2) (i : Fin M), shapeCast ⟨3, ![M, 1, N]⟩ (rowsOfParity p ⟨2, ![M, N]⟩ y h1) h2 (ix3 i 0 n)
      = y (ix2 ⟨2 * i.val + p.val, by omega⟩ n) := by
    intro p i
    rw [shapeCast_apply _ h2 (ix3 i 0 n) (ix2 i n) (by
      rw [Shape.rowMajor_val_three, Shape.rowMajor_val_two]
      show i.val * N + n.val = (i.val * 1 + 0) * N + n.val
      rw [Nat.mul_one, Nat.add_zero])]
    unfold rowsOfParity
    refine congrArg y (funext fun a => ?_)
    match a with
    | ⟨0, _⟩ => rfl
    | ⟨1, _⟩ => rfl
  rw [interleave_three, key, key]
  match p with
  | ⟨0, _⟩ => rfl
  | ⟨1, _⟩ => rfl
end Pairs

end Cert.Scale

namespace Cert.KernelIdeal.Hand

open Cert.KernelIdeal Cert.KernelIdeal.Gen
open Idealize.ShloMosaic Idealize.ShloMosaic.TcCoe Idealize.ShloMosaic.ValueIdx Cert.Scale

/-! ## The slot words -/

theorem pay6_at (v : Vec Ideal S160x128 .i32) (g : Fin 160) (l : Fin 128) : k0_pay6 (F := Ideal) v (ix3 0 g l) = swap (v (ix2 g l)) := by
  unfold k0_pay6 k0_pay4
  dsimp only
  rw [shapeCast_apply _ _ (ix3 0 g l) (ix2 g l) (by rw [Shape.rowMajor_val_three, Shape.rowMajor_val_two]; show g.val * 128 + l.val = (0 * 160 + g.val) * 128 + l.val; omega),
    shapeCast_self, packElementwiseI16_apply]
  rfl
theorem pay5_at (v : Vec Ideal S160x128 .i32) (g : Fin 160) (l : Fin 128) : k0_pay5 (F := Ideal) v (ix3 0 g l) = v (ix2 g l) := by
  unfold k0_pay5 k0_pay4
  dsimp only
  rw [shapeCast_apply _ _ (ix3 0 g l) (ix2 g l) (by rw [Shape.rowMajor_val_three, Shape.rowMajor_val_two]; show g.val * 128 + l.val = (0 * 160 + g.val) * 128 + l.val; omega),
    shapeCast_self]
theorem pay8_at (v : Vec Ideal S160x128 .i32) (g : Fin 160) (l : Fin 128) : k0_pay8 (F := Ideal) v (ix3 0 g l) = v (ix2 g l) := pay5_at v g l
theorem pay10_at (v : Vec Ideal S160x128 .i32) (g : Fin 160) (l : Fin 128) :
    k0_pay10 (k0_pay7 (F := Ideal) v) k0_pay9 (ix3 0 g l) = swap (v (ix2 g l)) := pay6_at v g l
theorem pay17_at (v : Vec Ideal S140x128 .i32) (g : Fin 140) (l : Fin 128) : k0_pay17 (F := Ideal) v (ix3 0 g l) = v (ix2 g l) := by
  unfold k0_pay17 k0_pay16
  dsimp only
  rw [shapeCast_apply _ _ (ix3 0 g l) (ix2 g l) (by rw [Shape.rowMajor_val_three, Shape.rowMajor_val_two]; show g.val * 128 + l.val = (0 * 140 + g.val) * 128 + l.val; omega),
    shapeCast_self]
theorem pay18_at (v : Vec Ideal S140x128 .i32) (g : Fin 140) (l : Fin 128) : k0_pay18 (F := Ideal) v (ix3 0 g l) = swap (v (ix2 g l)) := by
  unfold k0_pay18 k0_pay16
  dsimp only
  rw [shapeCast_apply _ _ (ix3 0 g l) (ix2 g l) (by rw [Shape.rowMajor_val_three, Shape.rowMajor_val_two]; show g.val * 128 + l.val = (0 * 140 + g.val) * 128 + l.val; omega),
    shapeCast_self, packElementwiseI16_apply]
  rfl
theorem pay22_at (v : Vec Ideal S140x128 .i32) (g : Fin 140) (l : Fin 128) : k0_pay22 (F := Ideal) v (ix3 0 g l) = v (ix2 g l) := pay17_at v g l
theorem pay23_at (v : Vec Ideal S140x128 .i32) (g : Fin 140) (l : Fin 128) : k0_pay23 (F := Ideal) v (ix3 0 g l) = swap (v (ix2 g l)) := pay18_at v g l

/-! ## The weights of a trip -/

section Gate
variable (v48 v86 : Vec Ideal S128x2560 .i8) (v68 v76 v106 v114 : Vec Ideal S160x128 .i32) (r : Fin 5120) (l : Fin 128) (c : BitVec 16)

/-- The left half: the gate's weights. -/
theorem pay14_left (hv : v68 (ix2 ⟨r.val / 32, by omega⟩ l) = word c) (hw : v76 (ix2 ⟨r.val / 32, by omega⟩ l) = swap (word c)) :
    k0_pay14 (k0_pay11 v48) (k0_pay12 (F := Ideal) v76) (k0_pay13 v48 v68) v86 v106 v114 (ix2 r ⟨l.val, by omega⟩)
      = wt (v48 (ix2 l ⟨r.val / 2, by omega⟩)) c (r.val % 2) := by
  unfold k0_pay14
  refine (concatenate_pair_apply_left (s₁ := S5120x128) (s₂ := S5120x128) (t := S5120x256) 1 _ _ _ _ rfl (ix2 r l) (fun b => ?_)).trans ?_
  · match b with
    | ⟨0, _⟩ => rfl
    | ⟨1, _⟩ => rfl
  refine (dequant_at (W := 640) (B := 2560) (R := 5120) (G := 160) (H := 2560) rfl rfl rfl rfl _ _ _ _ _ _ _ v68 v76 _ _ _ _ _ r l c hv hw).trans ?_
  exact congrArg (fun b => wt b c (r.val % 2)) (transpose_apply _ _ _ _ (ix2 l ⟨r.val / 2, by omega⟩) (fun b => by
    match b with
    | ⟨0, _⟩ => rfl
    | ⟨1, _⟩ => rfl))

/-- The right half: the up projection's weights. -/
theorem pay14_right (hv : v106 (ix2 ⟨r.val / 32, by omega⟩ l) = word c) (hw : v114 (ix2 ⟨r.val / 32, by omega⟩ l) = swap (word c)) :
    k0_pay14 (k0_pay11 v48) (k0_pay12 (F := Ideal) v76) (k0_pay13 v48 v68) v86 v106 v114 (ix2 r ⟨128 + l.val, by omega⟩)
      = wt (v86 (ix2 l ⟨r.val / 2, by omega⟩)) c (r.val % 2) := by
  unfold k0_pay14
  refine (concatenate_pair_apply_right (s₁ := S5120x128) (s₂ := S5120x128) (t := S5120x256) 1 _ _ _ _ rfl rfl (ix2 r l) (fun b hb => ?_) ?_).trans ?_
  · match b with
    | ⟨0, _⟩ => rfl
    | ⟨1, _⟩ => exact absurd rfl hb
  · show l.val + 128 = 128 + l.val; omega
  refine (dequant_at (W := 640) (B := 2560) (R := 5120) (G := 160) (H := 2560) rfl rfl rfl rfl _ _ _ _ _ _ _ v106 v114 _ _ _ _ _ r l c hv hw).trans ?_
  exact congrArg (fun b => wt b c (r.val % 2)) (transpose_apply _ _ _ _ (ix2 l ⟨r.val / 2, by omega⟩) (fun b => by
    match b with
    | ⟨0, _⟩ => rfl
    | ⟨1, _⟩ => rfl))
end Gate

section Down
variable (v33 v85 : Vec Ideal S2240x128 .i8) (v52 v60 v104 v112 : Vec Ideal S140x128 .i32) (r : Fin 4480) (l : Fin 128) (c : BitVec 16)

theorem pay24_left (hv : v52 (ix2 ⟨r.val / 32, by omega⟩ l) = word c) (hw : v60 (ix2 ⟨r.val / 32, by omega⟩ l) = swap (word c)) :
    k0_pay24 (k0_pay20 (F := Ideal) (k0_pay19 (F := Ideal) v33) v52 v60) v85 v104 v112 (ix2 r ⟨l.val, by omega⟩)
      = wt (v33 (ix2 ⟨r.val / 2, by omega⟩ l)) c (r.val % 2) := by
  unfold k0_pay24
  refine (concatenate_pair_apply_left (s₁ := S4480x128) (s₂ := S4480x128) (t := S4480x256) 1 _ _ _ _ rfl (ix2 r l) (fun b => ?_)).trans ?_
  · match b with
    | ⟨0, _⟩ => rfl
    | ⟨1, _⟩ => rfl
  exact dequant_at (W := 560) (B := 2240) (R := 4480) (G := 140) (H := 2240) rfl rfl rfl rfl v33 _ _ _ _ _ _ v52 v60 _ _ _ _ _ r l c hv hw

theorem pay24_right (v68 : FVec Ideal S4480x128 .bf16) (hv : v104 (ix2 ⟨r.val / 32, by omega⟩ l) = word c) (hw : v112 (ix2 ⟨r.val / 32, by omega⟩ l) = swap (word c)) :
    k0_pay24 v68 v85 v104 v112 (ix2 r ⟨128 + l.val, by omega⟩)
      = wt (v85 (ix2 ⟨r.val / 2, by omega⟩ l)) c (r.val % 2) := by
  unfold k0_pay24
  refine (concatenate_pair_apply_right (s₁ := S4480x128) (s₂ := S4480x128) (t := S4480x256) 1 _ _ _ _ rfl rfl (ix2 r l) (fun b hb => ?_) ?_).trans ?_
  · match b with
    | ⟨0, _⟩ => rfl
    | ⟨1, _⟩ => exact absurd rfl hb
  · show l.val + 128 = 128 + l.val; omega
  exact dequant_at (W := 560) (B := 2240) (R := 4480) (G := 140) (H := 2240) rfl rfl rfl rfl v85 _ _ _ _ _ _ v104 v112 _ _ _ _ _ r l c hv hw
end Down

/-! ## The products of a trip -/

/-- From the products to what is stored: gate, gate again through the logistic, up, and the rows in pairs. -/
theorem pay2_tail (M : FVec Ideal S128x256 .f32) (i : Fin 64) (p : Fin 2) (l : Fin 128) (g u : EReal)
    (hg : M (ix2 ⟨2 * i.val + p.val, by omega⟩ ⟨l.val, by omega⟩) = g) (hu : M (ix2 ⟨2 * i.val + p.val, by omega⟩ ⟨128 + l.val, by omega⟩) = u) :
    (interleaveRows S64x2x128 (shapeCast S64x1x128 (rowsOfParity 0 S64x128 (truncf .bf16 (mulf (mulf (extractStridedSlice S128x128 ![0, 0] M slices_S128x256_o0_0_S128x128)
        (logistic (extractStridedSlice S128x128 ![0, 0] M slices_S128x256_o0_0_S128x128))) (extractStridedSlice S128x128 ![0, 128] M slices_S128x256_o0_128_S128x128)) bitsLt_bf16_f32 : FVec Ideal S128x128 .bf16)
        bitcasts_S128x128_w16_S64x128_w32) shapeCasts_S64x128_S64x1x128)
      (shapeCast S64x1x128 (rowsOfParity 1 S64x128 (truncf .bf16 (mulf (mulf (extractStridedSlice S128x128 ![0, 0] M slices_S128x256_o0_0_S128x128)
        (logistic (extractStridedSlice S128x128 ![0, 0] M slices_S128x256_o0_0_S128x128))) (extractStridedSlice S128x128 ![0, 128] M slices_S128x256_o0_128_S128x128)) bitsLt_bf16_f32 : FVec Ideal S128x128 .bf16)
        bitcasts_S128x128_w16_S64x128_w32) shapeCasts_S64x128_S64x1x128) bitcasts_S64x2x128_w16_S64x1x128_w32 : Vec Ideal S64x2x128 .bf16) (ix3 i p l)
      = g * Ideal.logistic g * u := by
  have e1 : extractStridedSlice S128x128 ![0, 0] M slices_S128x256_o0_0_S128x128 (ix2 ⟨2 * i.val + p.val, by omega⟩ l) = g := by
    rw [← hg]
    unfold extractStridedSlice
    refine congrArg M (funext fun a => Fin.ext ?_)
    match a with
    | ⟨0, _⟩ => show 0 + (2 * i.val + p.val) = 2 * i.val + p.val; omega
    | ⟨1, _⟩ => show 0 + l.val = l.val; omega
  have e2 : extractStridedSlice S128x128 ![0, 128] M slices_S128x256_o0_128_S128x128 (ix2 ⟨2 * i.val + p.val, by omega⟩ l) = u := by
    rw [← hu]
    unfold extractStridedSlice
    refine congrArg M (funext fun a => Fin.ext ?_)
    match a with
    | ⟨0, _⟩ => show 0 + (2 * i.val + p.val) = 2 * i.val + p.val; omega
    | ⟨1, _⟩ => rfl
  refine (pair_at (M := 64) (M2 := 128) (N := 128) rfl _ _ _ _ i p l).trans ?_
  rw [truncf_apply, mulf_apply, mulf_apply, e2]
  rw [show logistic (extractStridedSlice S128x128 ![0, 0] M slices_S128x256_o0_0_S128x128) (ix2 ⟨2 * i.val + p.val, by omega⟩ l)
    = Ideal.logistic (extractStridedSlice S128x128 ![0, 0] M slices_S128x256_o0_0_S128x128 (ix2 ⟨2 * i.val + p.val, by omega⟩ l)) from rfl, e1]

theorem pay2_at (w : FVec Ideal S5120x256 .bf16) (raw : Vec Ideal S64x2x5120 .bf16) (i : Fin 64) (p : Fin 2) (l : Fin 128)
    (x : Fin 128 → Fin 5120 → EReal) (gw uw : Fin 5120 → EReal)
    (hx : ∀ m k, raw (ix3 ⟨m.val / 2, by omega⟩ ⟨m.val % 2, Nat.mod_lt _ (by decide)⟩ k) = x m k)
    (hg : ∀ r, w (ix2 r ⟨l.val, by omega⟩) = gw r) (hu : ∀ r, w (ix2 r ⟨128 + l.val, by omega⟩) = uw r) :
    k0_pay2 w raw (k0_pay15 raw) (ix3 i p l)
      = (∑ k, x ⟨2 * i.val + p.val, by omega⟩ k * gw k) * Ideal.logistic (∑ k, x ⟨2 * i.val + p.val, by omega⟩ k * gw k)
        * ∑ k, x ⟨2 * i.val + p.val, by omega⟩ k * uw k := by
  have hX : ∀ (m : Fin 128) (k : Fin 5120), interleaveRows S128x5120 (k0_pay15 raw)
      (shapeCast S64x5120 (rowsOfParity 1 S64x1x5120 raw bitcasts_S64x2x5120_w16_S64x1x5120_w32) shapeCasts_S64x1x5120_S64x5120)
      bitcasts_S128x5120_w16_S64x5120_w32 (ix2 m k) = x m k := fun m k =>
    (unpair_at (M := 64) (M2 := 128) (N := 5120) rfl raw _ _ _ m k).trans (hx m k)
  have hM : ∀ (m : Fin 128) (o : Fin 256), matmul dot_S128x5120_S5120x256_S128x256_1_0_0_1_n_n none (interleaveRows S128x5120 (k0_pay15 raw)
      (shapeCast S64x5120 (rowsOfParity 1 S64x1x5120 raw bitcasts_S64x2x5120_w16_S64x1x5120_w32) shapeCasts_S64x1x5120_S64x5120)
      bitcasts_S128x5120_w16_S64x5120_w32 : FVec Ideal S128x5120 .bf16) w (constant (F := Ideal) S128x256 .f32 0x00000000#32) (ix2 m o)
      = ∑ k, x m k * w (ix2 k o) := fun m o => by
    refine (Ideal.matmul_plain_apply (M := 128) (K := 5120) (N := 256) none _ w _ m o).trans ?_
    rw [constant_apply, show Ideal.ofBits .f32 0x00000000#32 = 0 from Ideal.ofBits_zero_f32, zero_add]
    exact Finset.sum_congr rfl fun k _ => congrArg (· * w (ix2 k o)) (hX m k)
  exact pay2_tail _ i p l _ _ ((hM _ _).trans (Finset.sum_congr rfl fun k _ => by rw [hg])) ((hM _ _).trans (Finset.sum_congr rfl fun k _ => by rw [hu]))

theorem pay3_at (w : FVec Ideal S4480x256 .bf16) (raw : Vec Ideal S64x2x4480 .bf16) (m : Fin 128) (o : Fin 256)
    (x : Fin 128 → Fin 4480 → EReal) (dw : Fin 4480 → EReal)
    (hx : ∀ m k, raw (ix3 ⟨m.val / 2, by omega⟩ ⟨m.val % 2, Nat.mod_lt _ (by decide)⟩ k) = x m k)
    (hd : ∀ r, w (ix2 r o) = dw r) :
    k0_pay3 w (k0_pay25 raw) (ix2 m o) = ∑ k, x m k * dw k := by
  unfold k0_pay3
  rw [shapeCast_self]
  refine (Ideal.matmul_plain_apply (M := 128) (K := 4480) (N := 256) none _ w _ m o).trans ?_
  rw [constant_apply, show Ideal.ofBits .f32 0x00000000#32 = 0 from Ideal.ofBits_zero_f32, zero_add]
  refine Finset.sum_congr rfl fun k _ => ?_
  rw [hd]
  exact congrArg (· * dw k) ((unpair_at (M := 64) (M2 := 128) (N := 4480) rfl raw bitcasts_S64x2x4480_w16_S64x1x4480_w32
    shapeCasts_S64x1x4480_S64x4480 bitcasts_S128x4480_w16_S64x4480_w32 m k).trans (hx m k))

end Cert.KernelIdeal.Hand

end
-- ==== Proof.IdealReads.lean ====
/-
  What each reading of a trip reads, at an index: the codes from where they landed, the scales' words, the slots, the rows.
-/
module

public import proofs.«01_k».proof.Proof.IdealRun
public import proofs.«01_k».proof.Proof.Values
public import Idealize.ShloMosaic.Lib.WritesUnit
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.ValueIdx Cert.Scale

/-! ## Readings through a block -/

section Blocks
variable {sp : Space} {S : Shape} {e : EltTy}

/-- A load of a box reads the view where the box places the index. -/
theorem load_at (c : Dev nD) (M : Memref sig .tc sp S e) {o o' size : Fin S.rank → ℕ} (inb : ∀ a, o a + size a ≤ S.size a) (ho : o = o') (f : Cont (F := Ideal) c M)
    (y : (Rect.unit o size inb).toLoadRect.shape.Idx) (z : S.Idx) (hz : ∀ a, (z a).val = o' a + (y a).val) :
    View.readAt (Elt Ideal) M.view (Rect.unit o size inb).toLoadRect f y = M.view.read (Elt Ideal) f z := by
  subst ho
  refine congrArg (M.view.read (Elt Ideal) f) (funext fun a => Fin.ext ?_)
  show o a + 1 * (y a).val = (z a).val
  rw [hz, Nat.one_mul]

/-- A block read is the buffer read where the block places the index. -/
theorem block_at (c : Dev nD) (M : Memref sig .tc sp S e) {o o' size : Fin S.rank → ℕ} (inb : ∀ a, o a + size a ≤ S.size a) (ho : o = o') (f : Cont (F := Ideal) c M)
    (y : (Rect.unit o size inb).shape.Idx) (z : S.Idx) (hz : ∀ a, (z a).val = o' a + (y a).val) :
    (M.slice (Rect.unit o size inb) (fun _ => rfl)).view.read (Elt Ideal) f y = M.view.read (Elt Ideal) f z := by
  subst ho
  refine congrArg (M.view.read (Elt Ideal) f) (funext fun a => Fin.ext ?_)
  show o a + 1 * (y a).val = (z a).val
  rw [hz, Nat.one_mul]

/-- What landed in a block, read where the block places the index. -/
theorem land_at (c : Dev nD) (M : Memref sig .tc sp S e) {o o' size : Fin S.rank → ℕ} (inb : ∀ a, o a + size a ≤ S.size a) (ho : o = o') (d : Cont (F := Ideal) c M)
    (x : (Rect.unit o size inb).shape.Idx → Elt Ideal e)
    (y : (Rect.unit o size inb).shape.Idx) (z : S.Idx) (hz : ∀ a, (z a).val = o' a + (y a).val) :
    M.view.read (Elt Ideal) ((M.slice (Rect.unit o size inb) (fun _ => rfl)).view.writes (Elt Ideal) d [⟨Rect.whole _, x⟩]) z = x y :=
  (block_at c M inb ho _ y z hz).symm.trans (congrFun (View.read_writes_whole (M.view.slice (Rect.unit o size inb)) d x) y)

/-- A slot read is the buffer of slots read in that slot. -/
theorem slot_at (c : Dev nD) (M : Memref sig .tc .vmem S2x160x128 .i32) (q : Cont (F := Ideal) c M) (o : Fin 3 → ℕ)
    (h : ∀ a, o a + S1x160x128.size a ≤ S2x160x128.size a) (g : Fin 160) (l : Fin 128) (s : Fin 2) (h0 : o 0 = s.val) (h1 : o 1 = 0) (h2 : o 2 = 0) :
    ((M.slice (Rect.unit (s := S2x160x128) o S1x160x128.size h) (fun _ => rfl)).squeeze S160x128 squeezes_S1x160x128_S160x128).view.read (Elt Ideal) q (ix2 g l)
      = M.view.read (Elt Ideal) q (ix3 s g l) := by
  refine (congrArg (View.read (Elt Ideal) (M.slice (Rect.unit (s := S2x160x128) o S1x160x128.size h) (fun _ => rfl)).view q)
    (Shape.reshapeEquiv_eq_of_rowMajor (y := (ix3 0 g l : S1x160x128.Idx)) _ ?_)).trans ?_
  · rw [Shape.rowMajor_val_three, Shape.rowMajor_val_two]; show (0 * 160 + g.val) * 128 + l.val = g.val * 128 + l.val; omega
  · refine block_at c M h rfl q _ _ fun a => ?_
    match a with
    | ⟨0, _⟩ => show s.val = o 0 + 0; omega
    | ⟨1, _⟩ => show g.val = o 1 + g.val; omega
    | ⟨2, _⟩ => show l.val = o 2 + l.val; omega
end Blocks

/-! ## The slots and what is done -/

section Done
variable (c : Dev nD)

/-- Two stores, one to each slot: each slot holds its own. -/
theorem stored_slots {R : ℕ} (hR : R ≤ 160) (M : Memref sig .tc .vmem S2x160x128 .i32) (p : Cont (F := Ideal) c M)
    (i1 : ∀ a, (![1, 0, 0] : Fin 3 → ℕ) a + (⟨3, ![1, R, 128]⟩ : Shape).size a ≤ S2x160x128.size a)
    (i0 : ∀ a, (![0, 0, 0] : Fin 3 → ℕ) a + (⟨3, ![1, R, 128]⟩ : Shape).size a ≤ S2x160x128.size a)
    (w1 w0 : (⟨3, ![1, R, 128]⟩ : Shape).Idx → BitVec 32) (g : Fin R) (l : Fin 128) :
    M.view.read (Elt Ideal) (M.view.writes (Elt Ideal) p [⟨Rect.unit ![1, 0, 0] (⟨3, ![1, R, 128]⟩ : Shape).size i1, w1⟩, ⟨Rect.unit ![0, 0, 0] (⟨3, ![1, R, 128]⟩ : Shape).size i0, w0⟩])
        (ix3 1 ⟨g.val, by omega⟩ l) = w1 (ix3 0 g l)
      ∧ M.view.read (Elt Ideal) (M.view.writes (Elt Ideal) p [⟨Rect.unit ![1, 0, 0] (⟨3, ![1, R, 128]⟩ : Shape).size i1, w1⟩, ⟨Rect.unit ![0, 0, 0] (⟨3, ![1, R, 128]⟩ : Shape).size i0, w0⟩])
        (ix3 0 ⟨g.val, by omega⟩ l) = w0 (ix3 0 g l)
      ∧ M.view.read (Elt Ideal) (M.view.writes (Elt Ideal) p [⟨Rect.unit ![0, 0, 0] (⟨3, ![1, R, 128]⟩ : Shape).size i0, w0⟩])
        (ix3 0 ⟨g.val, by omega⟩ l) = w0 (ix3 0 g l) := by
  have h0 : ∀ L, M.view.read (Elt Ideal) (M.view.writes (Elt Ideal) p (⟨Rect.unit ![0, 0, 0] (⟨3, ![1, R, 128]⟩ : Shape).size i0, w0⟩ :: L))
      (ix3 0 ⟨g.val, by omega⟩ l) = w0 (ix3 0 g l) := fun L =>
    View.read_writes_cons_unit_of_mem M.view p i0 w0 L _ (ix3 0 g l) rfl fun a => by
      match a with
      | ⟨0, _⟩ => rfl
      | ⟨1, _⟩ => show g.val = 0 + g.val; omega
      | ⟨2, _⟩ => show l.val = 0 + l.val; omega
  refine ⟨?_, ?_, h0 []⟩
  · exact View.read_writes_cons_unit_of_mem M.view p i1 w1 _ _ (ix3 0 g l) rfl fun a => by
      match a with
      | ⟨0, _⟩ => rfl
      | ⟨1, _⟩ => show g.val = 0 + g.val; omega
      | ⟨2, _⟩ => show l.val = 0 + l.val; omega
  · exact (View.read_writes_cons_unit_of_not_mem M.view p i1 w1 _ _ rfl 0 (Or.inl (by show 0 < 1; omega))).trans (h0 [])

/-- The activations as rows. -/
def RowsX (X : Fin 128 → Fin 5120 → EReal) (fx : Cont (F := Ideal) c sX) : Prop :=
  ∀ (m : Fin 128) (j : Fin 5120), sX.view.read (Elt Ideal) fx (ix3 ⟨m.val / 2, by omega⟩ ⟨m.val % 2, Nat.mod_lt _ (by decide)⟩ j) = X m j

/-- The first `128·k` columns of the gated values done. -/
def DoneH (H : Fin 128 → Fin 4480 → EReal) (k : ℕ) (h : Cont (F := Ideal) c sH) : Prop :=
  ∀ (i : Fin 64) (p : Fin 2) (n : Fin 4480), n.val < 128 * k → sH.view.read (Elt Ideal) h (ix3 i p n) = H ⟨2 * i.val + p.val, by omega⟩ n

/-- The first `256·k` columns of the result done. -/
def DoneY (Y : Fin 128 → Fin 5120 → EReal) (k : ℕ) (y : Cont (F := Ideal) c sIo) : Prop :=
  ∀ (m : Fin 128) (n : Fin 5120), n.val < 256 * k → sIo.view.read (Elt Ideal) y (ix2 m n) = Y m n

theorem slot0_read (M : Memref sig .tc .vmem S2x160x128 .i32) (q : Cont (F := Ideal) c M) (g : Fin 160) (l : Fin 128) :
    slot0 c (M := M) q (ix2 g l) = M.view.read (Elt Ideal) q (ix3 0 g l) := by
  unfold slot0
  refine (load_at c ((M.slice (Rect.unit (s := S2x160x128) ![0, 0, 0] S1x160x128.size inb_S2x160x128_S1x160x128_0_0_0) (fun _ => rfl)).squeeze S160x128 squeezes_S1x160x128_S160x128) inb_S160x128_S160x128_0_0 rfl q (ix2 g l) (ix2 g l) fun a => ?_).trans
    (slot_at c M q _ inb_S2x160x128_S1x160x128_0_0_0 g l 0 rfl rfl rfl)
  match a with
  | ⟨0, _⟩ => show g.val = 0 + g.val; omega
  | ⟨1, _⟩ => show l.val = 0 + l.val; omega
theorem slot1_read (M : Memref sig .tc .vmem S2x160x128 .i32) (q : Cont (F := Ideal) c M) (g : Fin 160) (l : Fin 128) :
    slot1 c (M := M) q (ix2 g l) = M.view.read (Elt Ideal) q (ix3 1 g l) := by
  unfold slot1
  refine (load_at c ((M.slice (Rect.unit (s := S2x160x128) ![1, 0, 0] S1x160x128.size inb_S2x160x128_S1x160x128_1_0_0) (fun _ => rfl)).squeeze S160x128 squeezes_S1x160x128_S160x128) inb_S160x128_S160x128_0_0 rfl q (ix2 g l) (ix2 g l) fun a => ?_).trans
    (slot_at c M q _ inb_S2x160x128_S1x160x128_1_0_0 g l 1 rfl rfl rfl)
  match a with
  | ⟨0, _⟩ => show g.val = 0 + g.val; omega
  | ⟨1, _⟩ => show l.val = 0 + l.val; omega

theorem dslot0_read (M : Memref sig .tc .vmem S2x160x128 .i32) (q : Cont (F := Ideal) c M) (g : Fin 140) (l : Fin 128) :
    dslot0 c (M := M) q (ix2 g l) = M.view.read (Elt Ideal) q (ix3 0 ⟨g.val, by omega⟩ l) := by
  unfold dslot0
  refine (load_at c ((M.slice (Rect.unit (s := S2x160x128) ![0, 0, 0] S1x160x128.size inb_S2x160x128_S1x160x128_0_0_0) (fun _ => rfl)).squeeze S160x128 squeezes_S1x160x128_S160x128) inb_S160x128_S140x128_0_0 rfl q (ix2 g l) (ix2 ⟨g.val, by omega⟩ l) fun a => ?_).trans
    (slot_at c M q _ inb_S2x160x128_S1x160x128_0_0_0 ⟨g.val, by omega⟩ l 0 rfl rfl rfl)
  match a with
  | ⟨0, _⟩ => show g.val = 0 + g.val; omega
  | ⟨1, _⟩ => show l.val = 0 + l.val; omega
theorem dslot1_read (M : Memref sig .tc .vmem S2x160x128 .i32) (q : Cont (F := Ideal) c M) (g : Fin 140) (l : Fin 128) :
    dslot1 c (M := M) q (ix2 g l) = M.view.read (Elt Ideal) q (ix3 1 ⟨g.val, by omega⟩ l) := by
  unfold dslot1
  refine (load_at c ((M.slice (Rect.unit (s := S2x160x128) ![1, 0, 0] S1x160x128.size inb_S2x160x128_S1x160x128_1_0_0) (fun _ => rfl)).squeeze S160x128 squeezes_S1x160x128_S160x128) inb_S160x128_S140x128_0_0 rfl q (ix2 g l) (ix2 ⟨g.val, by omega⟩ l) fun a => ?_).trans
    (slot_at c M q _ inb_S2x160x128_S1x160x128_1_0_0 ⟨g.val, by omega⟩ l 1 rfl rfl rfl)
  match a with
  | ⟨0, _⟩ => show g.val = 0 + g.val; omega
  | ⟨1, _⟩ => show l.val = 0 + l.val; omega

end Done

/-! ## The row blocks -/

section Rows
variable (c : Dev nD) (f1 : Cont (F := Ideal) c mG) (f2 : Cont (F := Ideal) c mU) (fa : Cont (F := Ideal) c mGs) (fb : Cont (F := Ideal) c mUs)
  (fx : Cont (F := Ideal) c sX) (k : Fin k0_t3_loop.trips) (hk : k.val < 35)

theorem readG_at (l : Fin 128) (b : Fin 2560) : readG c f1 k (ix2 l b) = mG.view.read (Elt Ideal) f1 (ix2 ⟨128 * k.val + l.val, by omega⟩ b) := by
  unfold readG
  have hz : ∀ a : Fin 2, ((ix2 (⟨128 * k.val + l.val, by omega⟩ : Fin 4480) b : S4480x2560.Idx) a).val = (![128 * k.val, 0] : Fin 2 → ℕ) a + ((ix2 l b : S128x2560.Idx) a).val := by
    intro a
    match a with
    | ⟨0, _⟩ => rfl
    | ⟨1, _⟩ => show b.val = 0 + b.val; omega
  refine (load_at c sG _ (k0_off8_eq k) _ _ (ix2 ⟨128 * k.val + l.val, by omega⟩ b) hz).trans ?_
  refine (land_at c sG _ (k0_off6_eq k) _ _ (ix2 l b) _ hz).trans ?_
  exact block_at c mG _ (k0_off6_eq k) f1 (ix2 l b) _ hz

theorem readU_at (l : Fin 128) (b : Fin 2560) : readU c f2 k (ix2 l b) = mU.view.read (Elt Ideal) f2 (ix2 ⟨128 * k.val + l.val, by omega⟩ b) := by
  unfold readU
  have hz : ∀ a : Fin 2, ((ix2 (⟨128 * k.val + l.val, by omega⟩ : Fin 4480) b : S4480x2560.Idx) a).val = (![128 * k.val, 0] : Fin 2 → ℕ) a + ((ix2 l b : S128x2560.Idx) a).val := by
    intro a
    match a with
    | ⟨0, _⟩ => rfl
    | ⟨1, _⟩ => show b.val = 0 + b.val; omega
  refine (load_at c sU _ (k0_off8_eq k) _ _ (ix2 ⟨128 * k.val + l.val, by omega⟩ b) hz).trans ?_
  refine (land_at c sU _ (k0_off6_eq k) _ _ (ix2 l b) _ hz).trans ?_
  exact block_at c mU _ (k0_off6_eq k) f2 (ix2 l b) _ hz

theorem readGs_at (g : Fin 160) (l : Fin 128) : readGs c fa k (ix2 g l) = mGs.view.read (Elt Ideal) fa (ix2 g ⟨128 * k.val + l.val, by omega⟩) := by
  unfold readGs
  refine load_at c mGs _ (k0_off7_eq k) fa _ _ fun a => ?_
  match a with
  | ⟨0, _⟩ => show g.val = 0 + g.val; omega
  | ⟨1, _⟩ => rfl

theorem readUs_at (g : Fin 160) (l : Fin 128) : readUs c fb k (ix2 g l) = mUs.view.read (Elt Ideal) fb (ix2 g ⟨128 * k.val + l.val, by omega⟩) := by
  unfold readUs
  refine load_at c mUs _ (k0_off7_eq k) fb _ _ fun a => ?_
  match a with
  | ⟨0, _⟩ => show g.val = 0 + g.val; omega
  | ⟨1, _⟩ => rfl

section Weights
variable (gs us : S4480x160.Idx → BitVec 16)
  (ha : ∀ g o, mGs.view.read (Elt Ideal) fa (ix2 g o) = word (gs (ix2 o g))) (hb : ∀ g o, mUs.view.read (Elt Ideal) fb (ix2 g o) = word (us (ix2 o g)))

include ha in
theorem tripW_left (r : Fin 5120) (l : Fin 128) : tripW c f1 f2 fa fb k (ix2 r ⟨l.val, by omega⟩)
    = weights (O := 4480) (B := 2560) (G := 160) rfl rfl (mG.view.read (Elt Ideal) f1) gs r ⟨128 * k.val + l.val, by omega⟩ := by
  unfold tripW
  refine (pay14_left _ _ _ _ _ _ r l (gs (ix2 ⟨128 * k.val + l.val, by omega⟩ ⟨r.val / 32, by omega⟩)) ?_ ?_).trans ?_
  · rw [slot0_read]; unfold slotsHi
    refine ((stored_slots c (R := 160) (by omega) sHiLo _ inb_S2x160x128_S1x160x128_1_0_0 inb_S2x160x128_S1x160x128_0_0_0 _ _ ⟨r.val / 32, by omega⟩ l).2.1).trans ?_
    rw [pay5_at, readGs_at c fa k hk, ha]
  · rw [slot0_read]; unfold slotsLo
    refine ((stored_slots c (R := 160) (by omega) sLoHi _ inb_S2x160x128_S1x160x128_1_0_0 inb_S2x160x128_S1x160x128_0_0_0 _ _ ⟨r.val / 32, by omega⟩ l).2.1).trans ?_
    rw [pay6_at, readGs_at c fa k hk, ha]
  · rw [readG_at c f1 k hk]; rfl

include hb in
theorem tripW_right (r : Fin 5120) (l : Fin 128) : tripW c f1 f2 fa fb k (ix2 r ⟨128 + l.val, by omega⟩)
    = weights (O := 4480) (B := 2560) (G := 160) rfl rfl (mU.view.read (Elt Ideal) f2) us r ⟨128 * k.val + l.val, by omega⟩ := by
  unfold tripW
  refine (pay14_right _ _ _ _ _ _ r l (us (ix2 ⟨128 * k.val + l.val, by omega⟩ ⟨r.val / 32, by omega⟩)) ?_ ?_).trans ?_
  · rw [slot1_read]; unfold slotsHi
    refine ((stored_slots c (R := 160) (by omega) sHiLo _ inb_S2x160x128_S1x160x128_1_0_0 inb_S2x160x128_S1x160x128_0_0_0 _ _ ⟨r.val / 32, by omega⟩ l).1).trans ?_
    rw [pay8_at, readUs_at c fb k hk, hb]
  · rw [slot1_read]; unfold slotsLo
    refine ((stored_slots c (R := 160) (by omega) sLoHi _ inb_S2x160x128_S1x160x128_1_0_0 inb_S2x160x128_S1x160x128_0_0_0 _ _ ⟨r.val / 32, by omega⟩ l).1).trans ?_
    rw [pay10_at, readUs_at c fb k hk, hb]
  · rw [readU_at c f2 k hk]; rfl

include hk ha hb in
theorem doneH_step (X : Fin 128 → Fin 5120 → EReal) (hx : RowsX c X fx) (h : Cont (F := Ideal) c sH)
    (hd : DoneH c (hid X (weights (O := 4480) (B := 2560) (G := 160) rfl rfl (mG.view.read (Elt Ideal) f1) gs)
      (weights (O := 4480) (B := 2560) (G := 160) rfl rfl (mU.view.read (Elt Ideal) f2) us)) k.val h) :
    DoneH c (hid X (weights (O := 4480) (B := 2560) (G := 160) rfl rfl (mG.view.read (Elt Ideal) f1) gs)
      (weights (O := 4480) (B := 2560) (G := 160) rfl rfl (mU.view.read (Elt Ideal) f2) us)) (k.val + 1) (afterH c f1 f2 fa fb fx k h) := by
  intro i p n hn
  unfold afterH
  by_cases h1 : n.val < 128 * k.val
  · exact (View.read_writes_cons_unit_of_not_mem sH.view h (k0_off9_inb k) _ [] (ix3 i p n) (k0_off9_eq k) 2 (Or.inl h1)).trans (hd i p n h1)
  · refine (View.read_writes_cons_unit_of_mem sH.view h (k0_off9_inb k) _ [] (ix3 i p n) (ix3 i p ⟨n.val - 128 * k.val, by omega⟩) (k0_off9_eq k) fun a => ?_).trans ?_
    · match a with
      | ⟨0, _⟩ => show i.val = 0 + i.val; omega
      | ⟨1, _⟩ => show p.val = 0 + p.val; omega
      | ⟨2, _⟩ => show n.val = 128 * k.val + (n.val - 128 * k.val); omega
    · unfold tripH
      have hX : ∀ (m : Fin 128) (j : Fin 5120), readX c fx (ix3 ⟨m.val / 2, by omega⟩ ⟨m.val % 2, Nat.mod_lt _ (by decide)⟩ j) = X m j := fun m j =>
        (congrFun (View.readAt_full sX.view fx inb_S64x2x5120_S64x2x5120_0_0_0) _).trans (hx m j)
      refine (pay2_at _ _ i p ⟨n.val - 128 * k.val, by omega⟩ X _ _ hX (fun r => tripW_left c f1 f2 fa fb k hk gs ha r ⟨n.val - 128 * k.val, by omega⟩)
        (fun r => tripW_right c f1 f2 fa fb k hk us hb r ⟨n.val - 128 * k.val, by omega⟩)).trans ?_
      have e : (⟨128 * k.val + (n.val - 128 * k.val), by omega⟩ : Fin 4480) = n := Fin.ext (by show 128 * k.val + (n.val - 128 * k.val) = n.val; omega)
      simp only [e]
      rfl
end Weights
end Rows

/-! ## The column blocks -/

section Cols
variable (c : Dev nD) (f3 : Cont (F := Ideal) c mD) (fd : Cont (F := Ideal) c mDs) (fh : Cont (F := Ideal) c sH) (k : Fin k0_t4_loop.trips) (hk : k.val < 20)

theorem readD0_at (b : Fin 2240) (l : Fin 128) : readD c f3 k 0#32 (k0_off13_inb k 0) (ix2 b l) = mD.view.read (Elt Ideal) f3 (ix2 b ⟨256 * k.val + l.val, by omega⟩) := by
  unfold readD
  refine (load_at c sD _ (k0_off13_eq k 0) _ _ (ix2 b ⟨256 * k.val + l.val, by omega⟩) fun a => ?_).trans ?_
  · match a with
    | ⟨0, _⟩ => show b.val = 0 + b.val; omega
    | ⟨1, _⟩ => show 256 * k.val + l.val = 256 * k.val + 128 * 0 + l.val; omega
  have hz : ∀ a : Fin 2, ((ix2 b (⟨256 * k.val + l.val, by omega⟩ : Fin 5120) : S2240x5120.Idx) a).val = (![0, 256 * k.val] : Fin 2 → ℕ) a + ((ix2 b ⟨l.val, by omega⟩ : S2240x256.Idx) a).val := by
    intro a
    match a with
    | ⟨0, _⟩ => show b.val = 0 + b.val; omega
    | ⟨1, _⟩ => rfl
  refine (land_at c sD _ (k0_off11_eq k) _ _ (ix2 b ⟨l.val, by omega⟩) _ hz).trans ?_
  exact block_at c mD _ (k0_off11_eq k) f3 (ix2 b ⟨l.val, by omega⟩) _ hz

theorem readD1_at (b : Fin 2240) (l : Fin 128) : readD c f3 k 128#32 (k0_off13_inb k 1) (ix2 b l) = mD.view.read (Elt Ideal) f3 (ix2 b ⟨256 * k.val + (128 + l.val), by omega⟩) := by
  unfold readD
  refine (load_at c sD _ (k0_off13_eq k 1) _ _ (ix2 b ⟨256 * k.val + (128 + l.val), by omega⟩) fun a => ?_).trans ?_
  · match a with
    | ⟨0, _⟩ => show b.val = 0 + b.val; omega
    | ⟨1, _⟩ => show 256 * k.val + (128 + l.val) = 256 * k.val + 128 * 1 + l.val; omega
  have hz : ∀ a : Fin 2, ((ix2 b (⟨256 * k.val + (128 + l.val), by omega⟩ : Fin 5120) : S2240x5120.Idx) a).val = (![0, 256 * k.val] : Fin 2 → ℕ) a + ((ix2 b ⟨128 + l.val, by omega⟩ : S2240x256.Idx) a).val := by
    intro a
    match a with
    | ⟨0, _⟩ => show b.val = 0 + b.val; omega
    | ⟨1, _⟩ => rfl
  refine (land_at c sD _ (k0_off11_eq k) _ _ (ix2 b ⟨128 + l.val, by omega⟩) _ hz).trans ?_
  exact block_at c mD _ (k0_off11_eq k) f3 (ix2 b ⟨128 + l.val, by omega⟩) _ hz

theorem readDs0_at (g : Fin 140) (l : Fin 128) : readDs c fd k 0#32 (k0_off12_inb k 0) (ix2 g l) = mDs.view.read (Elt Ideal) fd (ix2 g ⟨256 * k.val + l.val, by omega⟩) := by
  unfold readDs
  refine load_at c mDs _ (k0_off12_eq k 0) fd _ _ fun a => ?_
  match a with
  | ⟨0, _⟩ => show g.val = 0 + g.val; omega
  | ⟨1, _⟩ => show 256 * k.val + l.val = 256 * k.val + 128 * 0 + l.val; omega
theorem readDs1_at (g : Fin 140) (l : Fin 128) : readDs c fd k 128#32 (k0_off12_inb k 1) (ix2 g l) = mDs.view.read (Elt Ideal) fd (ix2 g ⟨256 * k.val + (128 + l.val), by omega⟩) := by
  unfold readDs
  refine load_at c mDs _ (k0_off12_eq k 1) fd _ _ fun a => ?_
  match a with
  | ⟨0, _⟩ => show g.val = 0 + g.val; omega
  | ⟨1, _⟩ => show 256 * k.val + (128 + l.val) = 256 * k.val + 128 * 1 + l.val; omega

section Weights
variable (ds : S5120x140.Idx → BitVec 16) (hd : ∀ g o, mDs.view.read (Elt Ideal) fd (ix2 g o) = word (ds (ix2 o g)))
  (dq : S5120x2240.Idx → BitVec 8) (hq : ∀ b o, mD.view.read (Elt Ideal) f3 (ix2 b o) = dq (ix2 o b))

include hd hq in
theorem tripD_left (p : Cont (F := Ideal) c sHiLo) (q : Cont (F := Ideal) c sLoHi) (r : Fin 4480) (l : Fin 128) : tripD c f3 fd k p q (ix2 r ⟨l.val, by omega⟩)
    = weights (O := 5120) (B := 2240) (G := 140) rfl rfl dq ds r ⟨256 * k.val + l.val, by omega⟩ := by
  unfold tripD
  refine (pay24_left _ _ _ _ _ _ r l (ds (ix2 ⟨256 * k.val + l.val, by omega⟩ ⟨r.val / 32, by omega⟩)) ?_ ?_).trans ?_
  · rw [dslot0_read]; unfold dslotsHi0
    refine ((stored_slots c (R := 140) (by omega) sHiLo p inb_S2x160x128_S1x140x128_1_0_0 inb_S2x160x128_S1x140x128_0_0_0 (k0_pay17 (readDs c fd k 0#32 (k0_off12_inb k 0))) _ ⟨r.val / 32, by omega⟩ l).2.2).trans ?_
    rw [pay17_at, readDs0_at c fd k hk, hd]
  · rw [dslot0_read]; unfold dslotsLo0
    refine ((stored_slots c (R := 140) (by omega) sLoHi q inb_S2x160x128_S1x140x128_1_0_0 inb_S2x160x128_S1x140x128_0_0_0 (k0_pay17 (readDs c fd k 0#32 (k0_off12_inb k 0))) _ ⟨r.val / 32, by omega⟩ l).2.2).trans ?_
    rw [pay18_at, readDs0_at c fd k hk, hd]
  · rw [readD0_at c f3 k hk, hq]; rfl

include hd hq in
theorem tripD_right (p : Cont (F := Ideal) c sHiLo) (q : Cont (F := Ideal) c sLoHi) (r : Fin 4480) (l : Fin 128) : tripD c f3 fd k p q (ix2 r ⟨128 + l.val, by omega⟩)
    = weights (O := 5120) (B := 2240) (G := 140) rfl rfl dq ds r ⟨256 * k.val + (128 + l.val), by omega⟩ := by
  unfold tripD
  refine (pay24_right _ _ _ r l (ds (ix2 ⟨256 * k.val + (128 + l.val), by omega⟩ ⟨r.val / 32, by omega⟩)) _ ?_ ?_).trans ?_
  · rw [dslot1_read]; unfold dslotsHi
    refine ((stored_slots c (R := 140) (by omega) sHiLo p inb_S2x160x128_S1x140x128_1_0_0 inb_S2x160x128_S1x140x128_0_0_0 _ _ ⟨r.val / 32, by omega⟩ l).1).trans ?_
    rw [pay22_at, readDs1_at c fd k hk, hd]
  · rw [dslot1_read]; unfold dslotsLo
    refine ((stored_slots c (R := 140) (by omega) sLoHi q inb_S2x160x128_S1x140x128_1_0_0 inb_S2x160x128_S1x140x128_0_0_0 _ _ ⟨r.val / 32, by omega⟩ l).1).trans ?_
    rw [pay23_at, readDs1_at c fd k hk, hd]
  · rw [readD1_at c f3 k hk, hq]; rfl

include hk hd hq in
theorem doneY_step (H : Fin 128 → Fin 4480 → EReal) (hh : DoneH c H 35 fh) (p : Cont (F := Ideal) c sHiLo) (q : Cont (F := Ideal) c sLoHi) (y : Cont (F := Ideal) c sIo)
    (hy : DoneY c (lin H (weights (O := 5120) (B := 2240) (G := 140) rfl rfl dq ds)) k.val y) :
    DoneY c (lin H (weights (O := 5120) (B := 2240) (G := 140) rfl rfl dq ds)) (k.val + 1) (afterY c f3 fd fh k p q y) := by
  intro m n hn
  unfold afterY
  by_cases h1 : n.val < 256 * k.val
  · exact (View.read_writes_cons_unit_of_not_mem sIo.view y (k0_off14_inb k) _ [] (ix2 m n) (k0_off14_eq k) 1 (Or.inl h1)).trans (hy m n h1)
  · refine (View.read_writes_cons_unit_of_mem sIo.view y (k0_off14_inb k) _ [] (ix2 m n) (ix2 m ⟨n.val - 256 * k.val, by omega⟩) (k0_off14_eq k) fun a => ?_).trans ?_
    · match a with
      | ⟨0, _⟩ => show m.val = 0 + m.val; omega
      | ⟨1, _⟩ => show n.val = 256 * k.val + (n.val - 256 * k.val); omega
    · have hH : ∀ (m : Fin 128) (j : Fin 4480), readH c fh (ix3 ⟨m.val / 2, by omega⟩ ⟨m.val % 2, Nat.mod_lt _ (by decide)⟩ j) = H m j := fun m j =>
        ((congrFun (View.readAt_full sH.view fh inb_S64x2x4480_S64x2x4480_0_0_0) _).trans (hh _ _ j (by omega))).trans
          (congrArg (fun a => H a j) (Fin.ext (by show 2 * (m.val / 2) + m.val % 2 = m.val; omega)))
      refine (pay3_at _ _ m ⟨n.val - 256 * k.val, by omega⟩ H (fun r => weights (O := 5120) (B := 2240) (G := 140) rfl rfl dq ds r n) hH fun r => ?_).trans rfl
      by_cases h2 : n.val - 256 * k.val < 128
      · refine (tripD_left c f3 fd k hk ds hd dq hq p q r ⟨n.val - 256 * k.val, h2⟩).trans ?_
        exact congrArg (weights (O := 5120) (B := 2240) (G := 140) rfl rfl dq ds r) (Fin.ext (by show 256 * k.val + (n.val - 256 * k.val) = n.val; omega))
      · have e : (⟨n.val - 256 * k.val, by omega⟩ : Fin 256) = ⟨128 + (n.val - 256 * k.val - 128), by omega⟩ := Fin.ext (by show n.val - 256 * k.val = 128 + (n.val - 256 * k.val - 128); omega)
        rw [e]
        refine (tripD_right c f3 fd k hk ds hd dq hq p q r ⟨n.val - 256 * k.val - 128, by omega⟩).trans ?_
        exact congrArg (weights (O := 5120) (B := 2240) (G := 140) rfl rfl dq ds r) (Fin.ext (by show 256 * k.val + (128 + (n.val - 256 * k.val - 128)) = n.val; omega))
end Weights
end Cols

end Cert.KernelIdeal.Hand

end
-- ==== Proof.IdealValueRun.lean ====
/-
  The kernel run with what it leaves in the result.
-/
module

public import proofs.«01_k».proof.Proof.IdealFrame
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a plan of the run says on a core: the activations' rows in pairs, the gated values column block by column block, the
result column block by column block, and the result. -/
structure Plan (c : Dev nD) where
  PX : Cont (F := F) c sX → Prop
  P3 : ℕ → Cont (F := F) c sH → Prop
  P4 : ℕ → Cont (F := F) c sIo → Prop
  out : Cont (F := F) c mO
  hX : ∀ g, PX (pairX c (V m c main_v264) g)
  h30 : ∀ h, P3 0 h
  h3 : ∀ x, PX x → ∀ (k : Fin k0_t3_loop.trips) (h : Cont (F := F) c sH), P3 k.val h →
    P3 (k.val + 1) (afterH c (V m c main_arg1) (V m c main_arg3) (V m c main_v87) (V m c main_v175) x k h)
  h40 : ∀ y, P4 0 y
  h4 : ∀ h, P3 35 h → ∀ (k : Fin k0_t4_loop.trips) p q (y : Cont (F := F) c sIo), P4 k.val y →
    P4 (k.val + 1) (afterY c (V m c main_v265) (V m c main_v263) h k p q y)
  hO : ∀ y g, P4 20 y → outO c y g = out

/-- The buffers' contents with the result named. -/
def Gout (P : (c : Dev nD) → Plan m c) (c : Dev nD) (b : Ref sig .tc) : Buf (Elt F) ((c.tc : Thread nD τ).loc b) :=
  if h : b = main_v266 then h ▸ (P c).out else V m c b

variable (P : (c : Dev nD) → Plan m c)

theorem Gout_out (c : Dev nD) : Gout m P c main_v266 = (P c).out := dif_pos rfl

theorem routed0_eq (c : Dev nD) (W : (b : Ref sig .tc) → Buf (Elt F) ((c.tc : Thread nD τ).loc b)) :
    (Pipeline.routed R0 c W : sProp 𝕄) = pt c mO (W main_v266) := by
  unfold Pipeline.routed; rw [BI.bigSep_eq_bigSepL_of_eq [main_v266] (by decide) (by decide)]; rfl

theorem PhiDRG0_eq (G : (c : Dev nD) → (b : Ref sig .tc) → Buf (Elt F) ((c.tc : Thread nD τ).loc b)) (c : Dev nD) :
    (Pipeline.ΦDRG osem0 cfg0.spec H0 R0 (V m) G c : sProp 𝕄)
      = iprop(iprop((∃ f : Cont (F := F) c sIo, pt c sIo f) ∗ (∃ f : Cont (F := F) c sG, pt c sG f) ∗ (∃ f : Cont (F := F) c sU, pt c sU f) ∗ (∃ f : Cont (F := F) c sD, pt c sD f)
            ∗ (∃ f : Cont (F := F) c sX, pt c sX f) ∗ (∃ f : Cont (F := F) c sH, pt c sH f) ∗ (∃ f : Cont (F := F) c sHiLo, pt c sHiLo f) ∗ (∃ f : Cont (F := F) c sLoHi, pt c sLoHi f))
          ∗ (∃ r, prngReg c r)
          ∗ iprop(cellIn c ∗ cellsR c ∗ cellsD c ∗ cellOut c)
          ∗ iprop(pt c mX (V m c main_v264) ∗ pt c mG (V m c main_arg1) ∗ pt c mU (V m c main_arg3) ∗ pt c mD (V m c main_v265)
              ∗ pt c mGs (V m c main_v87) ∗ pt c mUs (V m c main_v175) ∗ pt c mDs (V m c main_v263))
          ∗ pt c mO (G c main_v266)) := by
  rw [Pipeline.ΦDRG_eq, scopedRest0_eq, ownSems00_eq, hbmPts0_eq, routed0_eq]

/-! ## The proof data and the body's obligation -/

def datsV (_ : Fin 1) (c : Dev nD) : Dat τ (Elt F) Unit ℕ (Pipeline.UD sig nD τ) ℕ cfg0 c where
  A w := w.elim0
  after w _ := w.elim0
  Φ t := if t.val = 0 then Pipeline.ΦDRG osem0 cfg0.spec H0 R0 (V m) (V m) c else Pipeline.ΦDRG osem0 cfg0.spec H0 R0 (V m) (Gout m P) c
  q _ := fullShare
  owed _ := 0

theorem sound_bodyV (c : Dev nD) (t : Fin cfg0.N) :
    iprop((datsV m P 0 c).Φ t.castSucc ∗ (datsV m P 0 c).owesAt () t.castSucc)
      ⊢ wp Idealize.ShloMosaic.frame (wpE (defs₀ (F := F)) Variants.none c none) Set.univ (bodyAt0 t)
          (fun _ => iprop((datsV m P 0 c).Φ t.succ ∗ (datsV m P 0 c).owesAt () t.succ)) := by
  have ht : t.val = 0 := by have h : t.val < 1 := t.isLt; omega
  rw [show (datsV m P 0 c).Φ t.succ = Pipeline.ΦDRG osem0 cfg0.spec H0 R0 (V m) (Gout m P) c from
    if_neg (t := Pipeline.ΦDRG osem0 cfg0.spec H0 R0 (V m) (V m) c) (Nat.succ_ne_zero t.val)]
  rw [show (datsV m P 0 c).Φ t.castSucc = Pipeline.ΦDRG osem0 cfg0.spec H0 R0 (V m) (V m) c from
    if_pos (e := Pipeline.ΦDRG osem0 cfg0.spec H0 R0 (V m) (Gout m P) c) ht, PhiDRG0_eq, PhiDRG0_eq, Gout_out]
  unfold Dat.owesAt Pipeline.owesWithin
  rw [show (datsV m P 0 c).owed t.castSucc = 0 from rfl, show (datsV m P 0 c).owed t.succ = 0 from rfl]
  iintro ⟨⟨Hs, Hg, Hc, Hh, Hy⟩, ⟨%W, -, HW⟩⟩
  iapply (wp_wand_r Idealize.ShloMosaic.frame (wpE (defs₀ (F := F)) Variants.none c none) (Q := fun _ => iprop(held c (V m c main_v264) (V m c main_arg1) (V m c main_arg3) (V m c main_v265) (V m c main_v87) (V m c main_v175) (V m c main_v263) (fun y => y = (P c).out)
    ∗ ∃ W', owes (c : Thread nD τ) 0 W')))
  isplitl [Hs Hc Hh Hy HW]
  · unfold bodyAt0
    iapply (bodyRun c (V m c main_v264) (V m c main_arg1) (V m c main_arg3) (V m c main_v265) (V m c main_v87) (V m c main_v175) (V m c main_v263) W
      (P c).PX (P c).P3 (P c).P4 (fun y => y = (P c).out) (P c).hX (P c).h30 (P c).h3 (P c).h40 (P c).h4 (P c).hO)
    isplitr [HW]
    · unfold held
      isplitl [Hs]; · iexact Hs
      isplitl [Hc]; · iexact Hc
      isplitl [Hh]; · iexact Hh
      iexists (V m c main_v266)
      isplitr; · ipureintro; trivial
      iexact Hy
    iexact HW
  unfold held
  iintro %r ⟨⟨Hs, Hc, Hh, ⟨%y, %hy, Hy⟩⟩, ⟨%W', HW'⟩⟩
  subst hy
  isplitr [HW']
  · isplitl [Hs]; · iexact Hs
    isplitl [Hg]; · iexact Hg
    isplitl [Hc]; · iexact Hc
    isplitl [Hh]; · iexact Hh
    iexact Hy
  iexists W'; isplitr; · ipureintro; exact fun _ _ => Or.inl trivial
  iexact HW'

theorem body_obligationV (c : Dev nD) : BodyObligation (datsV (F := F) m P 0 c) (defs₀ (F := F)) Variants.none () Set.univ := fun t => by
  rw [no_windows, no_windows, defs₀_row]
  refine triple_restated (sound_bodyV m P c t) ?_ ?_ fun _ => ?_
  · rfl
  · iintro ⟨H1, H2, -⟩
    isplitl [H1]; · iexact H1
    iexact H2
  · iintro ⟨H1, H2⟩
    isplitl [H1]; · iexact H1
    isplitl [H2]; · iexact H2
    iempintro

set_option backward.isDefEq.respectTransparency.types false in
theorem run_mainV : θ_run defs (onTc (τ := τ) (main (F := F))) (s₀ m ρ)
    (fun r => Pipeline.FramePostRG cfgs (datsV m P) 0 R0 (V m) (Gout m P) r ∧ r.2.sem = fun _ => 0) :=
  Pipeline.θ_run_frame_dmaRG (Q' := _) cfgs (datsV m P) (0 : Fin 1) launch0 osem0 defs₀ Variants.none ownSemFacts0 H0 R0 H0_sub R0_sub m ρ main
    (hbody := fun c => (body_obligationV m P c).loose) (hshare := fun c => (datsV m P 0 c).share_full fun _ => rfl)
    (howed := fun _ _ => rfl) (V := V m) (hmain := hmainD m Variants.none) (hA := fun c w => w.elim0) (G := Gout m P)
    (hin := fun _ => .rfl) (hout := fun _ => .rfl)

/-- The run: the result as planned, every argument as launched. -/
theorem run_value : θ_run defs (onTc (τ := τ) (main (F := F))) ⟨m, fun _ => 0, ρ⟩ (fun r => ∀ c : Dev nD,
      r.2.mem ((c.tc : Thread nD τ).loc main_v266) = (P c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.written c (by decide)).trans (Gout_out m P c),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c)⟩)
    (run_mainV m ρ P)

end Cert.KernelIdeal.Hand

end
-- ==== Proof.Host.lean ====
/-
  The host operations in front of the kernel: the scales' words, the rows of x, the codes turned over.
-/
module

public import proofs.«01_k».proof.Proof.Gen.KernelIdeal.Frame
public import Idealize.ShloMosaic.Lib.StableHlo.RunRead
public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- What the buffers hold when the kernel starts, from what they held at launch. -/
def atStart (V0 : Valuation τ sig (Elt F)) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]) V0

set_option maxHeartbeats 4000000 in
/-- The gate's scales as words. -/
theorem atStart_gate (V0 : Valuation τ sig (Elt F)) : atStart V0 (Proc.devRef .tc main_v87)
    = fun i => Scale.word (transpose S160x4480 [1, 0] (V0 (Proc.devRef .tc main_arg2)) transposes_S4480x160_S160x4480_1_0 i) := by
  unfold atStart
  after_reads_simp
  rfl

set_option maxHeartbeats 4000000 in
/-- The up projection's. -/
theorem atStart_up (V0 : Valuation τ sig (Elt F)) : atStart V0 (Proc.devRef .tc main_v175)
    = fun i => Scale.word (transpose S160x4480 [1, 0] (V0 (Proc.devRef .tc main_arg4)) transposes_S4480x160_S160x4480_1_0 i) := by
  unfold atStart
  after_reads_simp
  rfl

set_option maxHeartbeats 4000000 in
/-- The down projection's. -/
theorem atStart_down (V0 : Valuation τ sig (Elt F)) : atStart V0 (Proc.devRef .tc main_v263)
    = fun i => Scale.word (transpose S140x5120 [1, 0] (V0 (Proc.devRef .tc main_arg6)) transposes_S5120x140_S140x5120_1_0 i) := by
  unfold atStart
  after_reads_simp
  rfl

set_option maxHeartbeats 4000000 in
/-- The rows of x. -/
theorem atStart_rows (V0 : Valuation τ sig (Elt F)) : atStart V0 (Proc.devRef .tc main_v264)
    = shapeCast S128x5120 (V0 (Proc.devRef .tc main_arg0)) shapeCasts_S128x1x5120_S128x5120 := by
  unfold atStart
  after_reads_simp
  rfl

set_option maxHeartbeats 4000000 in
/-- The down codes turned over. -/
theorem atStart_codes (V0 : Valuation τ sig (Elt F)) : atStart V0 (Proc.devRef .tc main_v265)
    = transpose S2240x5120 [1, 0] (V0 (Proc.devRef .tc main_arg5)) transposes_S5120x2240_S2240x5120_1_0 := by
  unfold atStart
  after_reads_simp

end Cert.KernelIdeal.Hand
-- ==== Proof.IdealPlan.lean ====
/-
  The kernel's run with its result as a function of the arguments: rows times the gate's and the up projection's weights, gated,
  times the down projection's weights.
-/
module

public import proofs.«01_k».proof.Proof.IdealReads
public import proofs.«01_k».proof.Proof.IdealValueRun
public import proofs.«01_k».proof.Proof.Host

@[expose] public section

set_option maxRecDepth 65536

noncomputable section

namespace Cert.Scale

open Idealize.ShloMosaic Idealize.ShloMosaic.ValueIdx

/-- The result's element, from the arguments. -/
def mlp (x : (⟨3, ![128, 1, 5120]⟩ : Shape).Idx → EReal) (gq : (⟨2, ![4480, 2560]⟩ : Shape).Idx → BitVec 8) (gs : (⟨2, ![4480, 160]⟩ : Shape).Idx → BitVec 16)
    (uq : (⟨2, ![4480, 2560]⟩ : Shape).Idx → BitVec 8) (us : (⟨2, ![4480, 160]⟩ : Shape).Idx → BitVec 16)
    (dq : (⟨2, ![5120, 2240]⟩ : Shape).Idx → BitVec 8) (ds : (⟨2, ![5120, 140]⟩ : Shape).Idx → BitVec 16) (m : Fin 128) (o : Fin 5120) : EReal :=
  lin (hid (fun m k => x (ix3 m 0 k)) (weights (O := 4480) (B := 2560) (G := 160) rfl rfl gq gs) (weights (O := 4480) (B := 2560) (G := 160) rfl rfl uq us))
    (weights (O := 5120) (B := 2240) (G := 140) rfl rfl dq ds) m o

end Cert.Scale

namespace Cert.KernelIdeal.Hand

open Cert.KernelIdeal Cert.KernelIdeal.Gen
open Idealize.ShloMosaic Idealize.ShloMosaic.TcCoe Idealize.ShloMosaic.ValueIdx Cert.Scale

/-- The activations landed and paired: as rows again. -/
theorem rowsX_pairX (c : Dev nD) (f0 : Cont (F := Ideal) c mX) (g : Cont (F := Ideal) c sIo) (X : Fin 128 → Fin 5120 → EReal)
    (hX : ∀ m k, mX.view.read (Elt Ideal) f0 (ix2 m k) = X m k) : RowsX c X (pairX c f0 g) := by
  intro m j
  unfold pairX
  refine (congrFun (View.read_writes_full sX.view sX.view.junk inb_S64x2x5120_S64x2x5120_0_0_0 _ []) _).trans ?_
  unfold k0_pay1
  refine (pair_at (M := 64) (M2 := 128) (N := 5120) rfl _ _ _ _ _ _ j).trans ?_
  refine (congrFun (View.readAt_full sIo.view _ inb_S128x5120_S128x5120_0_0) _).trans ?_
  refine (congrFun (View.read_write_univ (v := sIo.view) g _) _).trans ?_
  refine Eq.trans ?_ (hX m j)
  exact congrArg (fun a => mX.view.read (Elt Ideal) f0 (ix2 a j)) (Fin.ext (by show 2 * (m.val / 2) + m.val % 2 = m.val; omega))

/-- A buffer overwritten whole holds what was written. -/
theorem overwritten (c : Dev nD) {sp : Space} {S : Shape} {e : EltTy} (M : Memref sig .tc sp S e) (g : Cont (F := Ideal) c M) (x : S.Idx → Elt Ideal e) :
    M.view.read (Elt Ideal) (View.write (Elt Ideal) M.view g x Finset.univ) = x := View.read_write_univ (v := M.view) g x

/-- What the last transfer leaves, at an index. -/
theorem outO_at (c : Dev nD) (y : Cont (F := Ideal) c sIo) (g : Cont (F := Ideal) c mO) (i : S128x5120.Idx) :
    outO c y g i = sIo.view.read (Elt Ideal) y (ix2 (i 0) (i 1)) := by
  have e : i = (ix2 (i 0) (i 1) : S128x5120.Idx) := funext fun a => by
    match a with
    | ⟨0, _⟩ => rfl
    | ⟨1, _⟩ => rfl
  have h : mO.view.read (Elt Ideal) (outO c y g) = sIo.view.read (Elt Ideal) y := by
    unfold outO
    exact overwritten c mO g _
  exact (congrFun h i).trans (congrArg (View.read (Elt Ideal) sIo.view y) e)

variable (m : (ℓ : Loc nD τ sig) → Buf (Elt Ideal) ℓ) (ρ : Dev nD → PrngReg) (c : Dev nD)

/-- What the result holds. -/
def result : Cont (F := Ideal) c mO := fun i =>
  mlp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (i 0) (i 1)

theorem words_gate (g : Fin 160) (o : Fin 4480) : mGs.view.read (Elt Ideal) (V m c main_v87) (ix2 g o)
    = word ((m ((c.tc : Thread nD τ).loc main_arg2) : S4480x160.Idx → BitVec 16) (ix2 o g)) := by
  refine (congrFun (atStart_gate _) (ix2 g o)).trans ?_
  refine congrArg word (transpose_apply _ _ _ _ (ix2 o g) fun b => ?_)
  match b with
  | ⟨0, _⟩ => rfl
  | ⟨1, _⟩ => rfl
theorem words_up (g : Fin 160) (o : Fin 4480) : mUs.view.read (Elt Ideal) (V m c main_v175) (ix2 g o)
    = word ((m ((c.tc : Thread nD τ).loc main_arg4) : S4480x160.Idx → BitVec 16) (ix2 o g)) := by
  refine (congrFun (atStart_up _) (ix2 g o)).trans ?_
  refine congrArg word (transpose_apply _ _ _ _ (ix2 o g) fun b => ?_)
  match b with
  | ⟨0, _⟩ => rfl
  | ⟨1, _⟩ => rfl
theorem words_down (g : Fin 140) (o : Fin 5120) : mDs.view.read (Elt Ideal) (V m c main_v263) (ix2 g o)
    = word ((m ((c.tc : Thread nD τ).loc main_arg6) : S5120x140.Idx → BitVec 16) (ix2 o g)) := by
  refine (congrFun (atStart_down _) (ix2 g o)).trans ?_
  refine congrArg word (transpose_apply _ _ _ _ (ix2 o g) fun b => ?_)
  match b with
  | ⟨0, _⟩ => rfl
  | ⟨1, _⟩ => rfl
theorem codes_down (b : Fin 2240) (o : Fin 5120) : mD.view.read (Elt Ideal) (V m c main_v265) (ix2 b o)
    = (m ((c.tc : Thread nD τ).loc main_arg5) : S5120x2240.Idx → BitVec 8) (ix2 o b) := by
  refine (congrFun (atStart_codes _) (ix2 b o)).trans ?_
  refine transpose_apply _ _ _ _ (ix2 o b) fun b => ?_
  match b with
  | ⟨0, _⟩ => rfl
  | ⟨1, _⟩ => rfl
theorem rows_x (i : Fin 128) (k : Fin 5120) : mX.view.read (Elt Ideal) (V m c main_v264) (ix2 i k)
    = (m ((c.tc : Thread nD τ).loc main_arg0) : S128x1x5120.Idx → EReal) (ix3 i 0 k) := by
  refine (congrFun (atStart_rows _) (ix2 i k)).trans ?_
  refine shapeCast_apply _ _ (ix2 i k) (ix3 i 0 k) ?_
  rw [Shape.rowMajor_val_three, Shape.rowMajor_val_two]
  show (i.val * 1 + 0) * 5120 + k.val = i.val * 5120 + k.val
  omega
theorem codes_gate : mG.view.read (Elt Ideal) (V m c main_arg1) = (m ((c.tc : Thread nD τ).loc main_arg1) : S4480x2560.Idx → BitVec 8) := by
  rw [V_main_arg1]; rfl
theorem codes_up : mU.view.read (Elt Ideal) (V m c main_arg3) = (m ((c.tc : Thread nD τ).loc main_arg3) : S4480x2560.Idx → BitVec 8) := by
  rw [V_main_arg3]; rfl

/-- The plan of the run on a core. -/
def plan : Plan (F := Ideal) m c where
  PX := RowsX c (fun i k => (m ((c.tc : Thread nD τ).loc main_arg0) : S128x1x5120.Idx → EReal) (ix3 i 0 k))
  P3 := DoneH c (hid (fun i k => (m ((c.tc : Thread nD τ).loc main_arg0) : S128x1x5120.Idx → EReal) (ix3 i 0 k))
    (weights (O := 4480) (B := 2560) (G := 160) rfl rfl (m ((c.tc : Thread nD τ).loc main_arg1)) (m ((c.tc : Thread nD τ).loc main_arg2)))
    (weights (O := 4480) (B := 2560) (G := 160) rfl rfl (m ((c.tc : Thread nD τ).loc main_arg3)) (m ((c.tc : Thread nD τ).loc main_arg4))))
  P4 := DoneY c (mlp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)))
  out := result m c
  hX g := rowsX_pairX c _ g _ (rows_x m c)
  h30 h := fun i p n hn => absurd hn (Nat.not_lt_zero _)
  h3 x hx k h hh := by
    have hk : k.val < 35 := trips3 ▸ k.isLt
    have := doneH_step c (V m c main_arg1) (V m c main_arg3) (V m c main_v87) (V m c main_v175) x k hk _ _ (words_gate m c) (words_up m c) _ hx h
    rw [codes_gate, codes_up] at this
    exact this hh
  h40 y := fun i n hn => absurd hn (Nat.not_lt_zero _)
  h4 h hh k p q y hy := by
    have hk : k.val < 20 := trips4 ▸ k.isLt
    exact doneY_step c (V m c main_v265) (V m c main_v263) h k hk _ (words_down m c) _ (codes_down m c) _ hh p q y hy
  hO y g hy := funext fun i => (outO_at c y g i).trans (hy (i 0) (i 1) (i 1).isLt)

end Cert.KernelIdeal.Hand

end
-- ==== Proof.RefValue.lean ====
/-
  The reference's result read at an index: rows times the gate's and the up projection's weights, gated, times the down projection's.
-/
module

public import proofs.«01_k».proof.Proof.Values
public import proofs.«01_k».proof.Proof.IdealPlan
public import proofs.«01_k».proof.Proof.Gen.ReferenceIdeal.Run
public import Idealize.ShloMosaic.Lib.IdealHost
public import Idealize.ShloMosaic.Lib.MatmulPlain

@[expose] public section

noncomputable section

namespace Cert.Scale

open Idealize.ShloMosaic Idealize.ShloMosaic.ValueIdx
open scoped BigOperators

/-- A sum over pairs: the even places and the odd places. -/
theorem sum_pairs {B R : ℕ} (hR : R = 2 * B) (f : Fin R → EReal) :
    ∑ r, f r = (∑ b : Fin B, f ⟨2 * b.val, by omega⟩) + ∑ b : Fin B, f ⟨2 * b.val + 1, by omega⟩ := by
  obtain rfl : R = B * 2 := by omega
  rw [← Equiv.sum_comp finProdFinEquiv, Fintype.sum_prod_type, ← Finset.sum_add_distrib]
  refine Finset.sum_congr rfl fun b _ => ?_
  rw [Fin.sum_univ_two]
  refine congrArg₂ (· + ·) (congrArg f (Fin.ext ?_)) (congrArg f (Fin.ext ?_))
  · show 0 + 2 * b.val = 2 * b.val; omega
  · show 1 + 2 * b.val = 2 * b.val + 1; omega

/-- Rows times a transposed matrix, at an index. -/
theorem rows_dot {K O : ℕ} {φ₁ φ₂ : FTy}
    (w : DotDims.WF ⟨3, ![128, 1, K]⟩ ⟨2, ![O, K]⟩ ⟨3, ![128, 1, O]⟩ [2] [1] [0, 1] [0] [] [])
    (prec : Option ContractPrecision) (A : FVec Ideal ⟨3, ![128, 1, K]⟩ φ₁) (B : FVec Ideal ⟨2, ![O, K]⟩ φ₂) (m : Fin 128) (o : Fin O) :
    Host.dotGeneral (⟨[2], [1], [0, 1], [0], [], [], w⟩ : DotDims _ _ _) prec A B (ix3 m 0 o) = ∑ k : Fin K, A (ix3 m 0 k) * B (ix2 o k) := by
  show FloatOps.dotGeneral _ prec _ A B (ix3 m 0 o) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![128, 1, K]⟩ ⟨2, ![O, K]⟩ ⟨3, ![128, 1, O]⟩) K rfl rfl c
  have l3 : (⟨[2], [1], [0, 1], [0], [], [], w⟩ : DotDims ⟨3, ![128, 1, K]⟩ ⟨2, ![O, K]⟩ ⟨3, ![128, 1, O]⟩).lhsIdx (ix3 m 0 o)
      ((contrEquiv1 _ K rfl rfl).symm c) = ix3 m 0 c := by
    funext ax; apply Fin.ext
    match ax with
    | ⟨0, _⟩ => simp [DotDims.lhsIdx]; rfl
    | ⟨1, _⟩ => simp [DotDims.lhsIdx]
    | ⟨2, _⟩ => simp [DotDims.lhsIdx]; exact c3
  have r3 : (⟨[2], [1], [0, 1], [0], [], [], w⟩ : DotDims ⟨3, ![128, 1, K]⟩ ⟨2, ![O, K]⟩ ⟨3, ![128, 1, O]⟩).rhsIdx (ix3 m 0 o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact c3
  rw [l3, r3]

/-! ## The reference's scales and weights -/

section Reference
variable {O B G R : ℕ}

/-- The scales as the reference computes them from their patterns. -/
abbrev refScales (s : (⟨2, ![O, G]⟩ : Shape).Idx → BitVec 16) (hb : (⟨0, ![]⟩ : Shape).BroadcastsInDim ⟨2, ![O, G]⟩ ![]) : FVec Ideal ⟨2, ![O, G]⟩ .f32 :=
  let k (n : BitVec 32) := broadcastInDim ⟨2, ![O, G]⟩ ![] hb (constantI ⟨0, ![]⟩ 32 n)
  let v := extui 32 s (by decide)
  let e := andi (Host.shrsi v (k 10#32)) (k 31#32)
  let n := andi v (k 1023#32)
  let g : FVec Ideal ⟨2, ![O, G]⟩ .f32 := mulf (sitofp .f32 (select (cmpi .eq e (k 0#32)) n (addi n (k 1024#32))))
    (bitcastToFloat (F := Ideal) .f32 (Host.shli (addi (maxsi e (k 1#32)) (k 102#32)) (k 23#32)))
  select (cmpi .eq (Host.shrsi v (k 15#32)) (k 1#32)) (Host.negf g) g

theorem refScales_at (s : (⟨2, ![O, G]⟩ : Shape).Idx → BitVec 16) (hb : (⟨0, ![]⟩ : Shape).BroadcastsInDim ⟨2, ![O, G]⟩ ![])
    (i : (⟨2, ![O, G]⟩ : Shape).Idx) : refScales s hb i = ((sval (s i) : ℝ) : EReal) :=
  Eq.trans rfl (refScale_eq (s i))

theorem kept {n : ℕ} (x : Fin n) {p : n = 1 → 0 < n} {q : ¬ n = 1 → x.val < n} : (if h : n = 1 then (⟨0, p h⟩ : Fin n) else ⟨x.val, q h⟩) = x := by
  apply Fin.ext
  split
  · show 0 = x.val; omega
  · rfl

/-- Each scale repeated over its sixteen bytes. -/
theorem repeated_at (hB : B = 16 * G) (t : FVec Ideal ⟨2, ![O, G]⟩ .f32) (hb : (⟨2, ![O, G]⟩ : Shape).BroadcastsInDim ⟨3, ![O, G, 16]⟩ ![0, 1])
    (hc : (⟨3, ![O, G, 16]⟩ : Shape).ShapeCasts ⟨2, ![O, B]⟩) (o : Fin O) (b : Fin B) :
    shapeCast ⟨2, ![O, B]⟩ (broadcastInDim ⟨3, ![O, G, 16]⟩ ![0, 1] hb t) hc (ix2 o b) = t (ix2 o ⟨b.val / 16, by omega⟩) := by
  rw [shapeCast_apply _ hc (ix2 o b) (ix3 o ⟨b.val / 16, by omega⟩ ⟨b.val % 16, Nat.mod_lt _ (by decide)⟩) (by
    rw [Shape.rowMajor_val_three, Shape.rowMajor_val_two]
    subst hB
    show (o.val * G + b.val / 16) * 16 + b.val % 16 = o.val * (16 * G) + b.val
    have : o.val * (16 * G) = o.val * G * 16 := by ring
    omega)]
  refine congrArg t (funext fun a => ?_)
  match a with
  | ⟨0, _⟩ => exact kept o
  | ⟨1, _⟩ => exact kept (n := G) ⟨b.val / 16, by omega⟩

theorem eight : Ideal.ofBits .f32 0x41000000#32 = ((8 : ℝ) : EReal) := by
  simp [Ideal.ofBits, Ideal.ieee, -EReal.coe_mul]; norm_num

theorem low_code : ∀ b : BitVec 8, (IntOp.andi (b.setWidth 32) 15#32).toInt = nib b 0 := by decide +kernel
theorem high_code : ∀ b : BitVec 8, (IntOp.shrsi .host (b.setWidth 32) 4#32).toInt = nib b 1 := by decide +kernel

theorem code_times (z : ℤ) (v : ℝ) : (((z : ℝ) : EReal) - ((8 : ℝ) : EReal)) * (v : EReal) = ((((z - 8 : ℤ) : ℝ) * v : ℝ) : EReal) := by
  rw [← EReal.coe_sub, ← EReal.coe_mul]
  push_cast; rfl

theorem even_at (q : (⟨2, ![O, B]⟩ : Shape).Idx → BitVec 8) (S : FVec Ideal ⟨2, ![O, B]⟩ .f32)
    (hb : (⟨0, ![]⟩ : Shape).BroadcastsInDim ⟨2, ![O, B]⟩ ![]) (h8 : 8 < 32) (ht : FTy.bf16.bits < FTy.f32.bits) (i : (⟨2, ![O, B]⟩ : Shape).Idx) (c : BitVec 16)
    (hS : S i = ((sval c : ℝ) : EReal)) :
    truncf .bf16 (mulf (subf (sitofp (F := Ideal) .f32 (andi (extui 32 q h8) (broadcastInDim ⟨2, ![O, B]⟩ ![] hb (constantI ⟨0, ![]⟩ 32 15#32))))
      (broadcastInDim ⟨2, ![O, B]⟩ ![] hb (constant ⟨0, ![]⟩ .f32 0x41000000#32))) S) ht i = wt (q i) c 0 := by
  show ((((IntOp.andi ((q i).setWidth 32) 15#32).toInt : ℝ) : EReal) - Ideal.ofBits .f32 0x41000000#32) * S i = _
  rw [low_code, eight, hS]
  exact code_times _ _

theorem odd_at (q : (⟨2, ![O, B]⟩ : Shape).Idx → BitVec 8) (S : FVec Ideal ⟨2, ![O, B]⟩ .f32)
    (hb : (⟨0, ![]⟩ : Shape).BroadcastsInDim ⟨2, ![O, B]⟩ ![]) (h8 : 8 < 32) (ht : FTy.bf16.bits < FTy.f32.bits) (i : (⟨2, ![O, B]⟩ : Shape).Idx) (c : BitVec 16)
    (hS : S i = ((sval c : ℝ) : EReal)) :
    truncf .bf16 (mulf (subf (sitofp (F := Ideal) .f32 (Host.shrsi (extui 32 q h8) (broadcastInDim ⟨2, ![O, B]⟩ ![] hb (constantI ⟨0, ![]⟩ 32 4#32))))
      (broadcastInDim ⟨2, ![O, B]⟩ ![] hb (constant ⟨0, ![]⟩ .f32 0x41000000#32))) S) ht i = wt (q i) c 1 := by
  show ((((IntOp.shrsi .host ((q i).setWidth 32) 4#32).toInt : ℝ) : EReal) - Ideal.ofBits .f32 0x41000000#32) * S i = _
  rw [high_code, eight, hS]
  exact code_times _ _

/-- A projection of the reference, at an index. -/
theorem project_at (hR : R = 2 * B) (hG : R = 32 * G) (x : FVec Ideal ⟨3, ![128, 1, R]⟩ .bf16)
    (q : (⟨2, ![O, B]⟩ : Shape).Idx → BitVec 8) (s : (⟨2, ![O, G]⟩ : Shape).Idx → BitVec 16)
    (w : DotDims.WF ⟨3, ![128, 1, B]⟩ ⟨2, ![O, B]⟩ ⟨3, ![128, 1, O]⟩ [2] [1] [0, 1] [0] [] [])
    (s0 : (⟨3, ![128, 1, R]⟩ : Shape).SlicesBy ![0, 0, 0] ![1, 1, 2] ⟨3, ![128, 1, B]⟩)
    (s1 : (⟨3, ![128, 1, R]⟩ : Shape).SlicesBy ![0, 0, 1] ![1, 1, 2] ⟨3, ![128, 1, B]⟩)
    (hb : (⟨0, ![]⟩ : Shape).BroadcastsInDim ⟨2, ![O, B]⟩ ![]) (hg : (⟨0, ![]⟩ : Shape).BroadcastsInDim ⟨2, ![O, G]⟩ ![])
    (hr : (⟨2, ![O, G]⟩ : Shape).BroadcastsInDim ⟨3, ![O, G, 16]⟩ ![0, 1]) (hc : (⟨3, ![O, G, 16]⟩ : Shape).ShapeCasts ⟨2, ![O, B]⟩)
    (h8 : 8 < 32) (ht : FTy.bf16.bits < FTy.f32.bits) (m : Fin 128) (o : Fin O) :
    addf (F := Ideal) (Host.dotGeneral (⟨[2], [1], [0, 1], [0], [], [], w⟩ : DotDims _ _ _) none (Host.slice ⟨3, ![128, 1, B]⟩ ![0, 0, 0] ![1, 1, 2] x s0)
        (truncf .bf16 (mulf (subf (sitofp (F := Ideal) .f32 (andi (extui 32 q h8) (broadcastInDim ⟨2, ![O, B]⟩ ![] hb (constantI ⟨0, ![]⟩ 32 15#32))))
          (broadcastInDim ⟨2, ![O, B]⟩ ![] hb (constant ⟨0, ![]⟩ .f32 0x41000000#32)))
          (shapeCast ⟨2, ![O, B]⟩ (broadcastInDim ⟨3, ![O, G, 16]⟩ ![0, 1] hr (refScales s hg)) hc)) ht))
      (Host.dotGeneral (⟨[2], [1], [0, 1], [0], [], [], w⟩ : DotDims _ _ _) none (Host.slice ⟨3, ![128, 1, B]⟩ ![0, 0, 1] ![1, 1, 2] x s1)
        (truncf .bf16 (mulf (subf (sitofp (F := Ideal) .f32 (Host.shrsi (extui 32 q h8) (broadcastInDim ⟨2, ![O, B]⟩ ![] hb (constantI ⟨0, ![]⟩ 32 4#32))))
          (broadcastInDim ⟨2, ![O, B]⟩ ![] hb (constant ⟨0, ![]⟩ .f32 0x41000000#32)))
          (shapeCast ⟨2, ![O, B]⟩ (broadcastInDim ⟨3, ![O, G, 16]⟩ ![0, 1] hr (refScales s hg)) hc)) ht)) (ix3 m 0 o)
      = lin (fun m k => x (ix3 m 0 k)) (weights hR hG q s) m o := by
  have hB : B = 16 * G := by omega
  have hS (b : Fin B) : shapeCast ⟨2, ![O, B]⟩ (broadcastInDim ⟨3, ![O, G, 16]⟩ ![0, 1] hr (refScales s hg)) hc (ix2 o b)
      = ((sval (s (ix2 o ⟨b.val / 16, by omega⟩)) : ℝ) : EReal) := by
    rw [repeated_at hB, refScales_at s hg]
  generalize shapeCast ⟨2, ![O, B]⟩ (broadcastInDim ⟨3, ![O, G, 16]⟩ ![0, 1] hr (refScales s hg)) hc = S at hS ⊢
  unfold lin
  rw [sum_pairs hR]
  refine congrArg₂ (fun a b : EReal => a + b) ((rows_dot w none _ _ m o).trans (Finset.sum_congr rfl fun b _ => ?_))
    ((rows_dot w none _ _ m o).trans (Finset.sum_congr rfl fun b _ => ?_))
  · rw [even_at q S hb h8 ht (ix2 o b) _ (hS b)]
    refine congrArg₂ (fun a b : EReal => a * b) (congrArg x (funext fun a => ?_)) ?_
    · match a with
      | ⟨0, _⟩ => exact Fin.ext (by show 0 + 1 * m.val = m.val; omega)
      | ⟨1, _⟩ => rfl
      | ⟨2, _⟩ => exact Fin.ext (by show 0 + 2 * b.val = 2 * b.val; omega)
    · unfold weights
      congr 1
      · exact congrArg (fun z => q (ix2 o z)) (Fin.ext (by show b.val = 2 * b.val / 2; omega))
      · exact congrArg (fun z => s (ix2 o z)) (Fin.ext (by show b.val / 16 = 2 * b.val / 32; omega))
      · show 0 = 2 * b.val % 2; omega
  · rw [odd_at q S hb h8 ht (ix2 o b) _ (hS b)]
    refine congrArg₂ (fun a b : EReal => a * b) (congrArg x (funext fun a => ?_)) ?_
    · match a with
      | ⟨0, _⟩ => exact Fin.ext (by show 0 + 1 * m.val = m.val; omega)
      | ⟨1, _⟩ => rfl
      | ⟨2, _⟩ => exact Fin.ext (by show 1 + 2 * b.val = 2 * b.val + 1; omega)
    · unfold weights
      congr 1
      · exact congrArg (fun z => q (ix2 o z)) (Fin.ext (by show b.val = (2 * b.val + 1) / 2; omega))
      · exact congrArg (fun z => s (ix2 o z)) (Fin.ext (by show b.val / 16 = (2 * b.val + 1) / 32; omega))
      · show 1 = (2 * b.val + 1) % 2; omega

end Reference

end Cert.Scale

namespace Cert.ReferenceIdeal.Value

open Cert.ReferenceIdeal Cert.ReferenceIdeal.Gen Idealize.ShloMosaic Idealize.ShloMosaic.TcCoe Idealize.SL.Sem Idealize.ShloMosaic.StableHlo Idealize.ShloMosaic.ValueIdx Cert.Scale

section
variable (V : Valuation τ sig (Elt Ideal))

set_option maxRecDepth 8192 in
theorem gate_at (m : Fin 128) (o : Fin 4480) :
    (res_main_v48 V : S128x1x4480.Idx → EReal) (ix3 m 0 o)
      = lin (fun m k => (V (Proc.devRef .tc main_arg0) : S128x1x5120.Idx → EReal) (ix3 m 0 k))
          (weights (O := 4480) (B := 2560) (G := 160) (R := 5120) rfl rfl (V (Proc.devRef .tc main_arg1)) (V (Proc.devRef .tc main_arg2))) m o :=
  project_at (O := 4480) (B := 2560) (G := 160) (R := 5120) rfl rfl (V (Proc.devRef .tc main_arg0)) (V (Proc.devRef .tc main_arg1)) (V (Proc.devRef .tc main_arg2))
    Facts₀.dot_S128x1x2560_S4480x2560_S128x1x4480_2_1_01_0_n_n_wf
    slicesBy_S128x1x5120_S128x1x2560_0s1_0s1_0s2 slicesBy_S128x1x5120_S128x1x2560_0s1_0s1_1s2 bcast_S_S4480x2560 bcast_S_S4480x160
    bcast_S4480x160_S4480x160x16_0_1 shapeCasts_S4480x160x16_S4480x2560 natLt_8_32 bitsLt_bf16_f32 m o

set_option maxRecDepth 8192 in
theorem gated_at (m : Fin 128) (o : Fin 4480) :
    (res_main_v106 V : S128x1x4480.Idx → EReal) (ix3 m 0 o)
      = hid (fun m k => (V (Proc.devRef .tc main_arg0) : S128x1x5120.Idx → EReal) (ix3 m 0 k))
          (weights (O := 4480) (B := 2560) (G := 160) (R := 5120) rfl rfl (V (Proc.devRef .tc main_arg1)) (V (Proc.devRef .tc main_arg2)))
          (weights (O := 4480) (B := 2560) (G := 160) (R := 5120) rfl rfl (V (Proc.devRef .tc main_arg3)) (V (Proc.devRef .tc main_arg4))) m o := by
  have e1 := gate_at V m o
  have e2 := project_at (O := 4480) (B := 2560) (G := 160) (R := 5120) rfl rfl (V (Proc.devRef .tc main_arg0)) (V (Proc.devRef .tc main_arg3)) (V (Proc.devRef .tc main_arg4))
    Facts₀.dot_S128x1x2560_S4480x2560_S128x1x4480_2_1_01_0_n_n_wf
    slicesBy_S128x1x5120_S128x1x2560_0s1_0s1_0s2 slicesBy_S128x1x5120_S128x1x2560_0s1_0s1_1s2 bcast_S_S4480x2560 bcast_S_S4480x160
    bcast_S4480x160_S4480x160x16_0_1 shapeCasts_S4480x160x16_S4480x2560 natLt_8_32 bitsLt_bf16_f32 m o
  unfold hid
  unfold res_main_v106
  refine congrArg₂ (fun a b : EReal => a * b) (congrArg₂ (fun a b : EReal => a * b) e1 ?_) e2
  refine Eq.trans ?_ (congrArg Ideal.logistic e1)
  show Ideal.div (Ideal.ofBits .f32 0x3F800000#32) (Ideal.ofBits .f32 0x3F800000#32 + _) = _
  rw [Ideal.ofBits_one_f32]
  rfl

set_option maxRecDepth 8192 in
theorem down_at (i : S128x5120.Idx) :
    (shapeCast S128x5120 (truncf .bf16 (addf (F := Ideal) (Host.dotGeneral (φ₁ := .bf16) dot_S128x1x2240_S5120x2240_S128x1x5120_2_1_01_0_n_n none (Host.slice S128x1x2240 ![0, 0, 0] ![1, 1, 2] (res_main_v106 V : S128x1x4480.Idx → Ideal .bf16) slicesBy_S128x1x4480_S128x1x2240_0s1_0s1_0s2) (truncf .bf16 (mulf (subf (sitofp .f32 (andi (res_main_v136 V) (broadcastInDim S5120x2240 ![] bcast_S_S5120x2240 (constantI S_ 32 15#32)))) (broadcastInDim S5120x2240 ![] bcast_S_S5120x2240 (constant S_ .f32 0x41000000#32))) (res_main_v135 V)) bitsLt_bf16_f32)) (Host.dotGeneral (φ₁ := .bf16) dot_S128x1x2240_S5120x2240_S128x1x5120_2_1_01_0_n_n none (Host.slice S128x1x2240 ![0, 0, 1] ![1, 1, 2] (res_main_v106 V : S128x1x4480.Idx → Ideal .bf16) slicesBy_S128x1x4480_S128x1x2240_0s1_0s1_1s2) (truncf .bf16 (mulf (subf (sitofp .f32 (Host.shrsi (res_main_v136 V) (broadcastInDim S5120x2240 ![] bcast_S_S5120x2240 (constantI S_ 32 4#32)))) (broadcastInDim S5120x2240 ![] bcast_S_S5120x2240 (constant S_ .f32 0x41000000#32))) (res_main_v135 V)) bitsLt_bf16_f32))) bitsLt_bf16_f32) shapeCasts_S128x1x5120_S128x5120 : S128x5120.Idx → EReal) i
      = mlp (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (i 0) (i 1) := by
  refine (shapeCast_apply _ shapeCasts_S128x1x5120_S128x5120 i (ix3 (i 0) 0 (i 1)) (by
    rw [Shape.rowMajor_val_three, Shape.rowMajor_val_two]
    show ((i 0).val * 1 + 0) * 5120 + (i 1).val = (i 0).val * 5120 + (i 1).val
    omega)).trans ?_
  have e := project_at (O := 5120) (B := 2240) (G := 140) (R := 4480) rfl rfl (res_main_v106 V) (V (Proc.devRef .tc main_arg5)) (V (Proc.devRef .tc main_arg6))
    Facts₀.dot_S128x1x2240_S5120x2240_S128x1x5120_2_1_01_0_n_n_wf
    slicesBy_S128x1x4480_S128x1x2240_0s1_0s1_0s2 slicesBy_S128x1x4480_S128x1x2240_0s1_0s1_1s2 bcast_S_S5120x2240 bcast_S_S5120x140
    bcast_S5120x140_S5120x140x16_0_1 shapeCasts_S5120x140x16_S5120x2240 natLt_8_32 bitsLt_bf16_f32 (i 0) (i 1)
  refine Eq.trans e ?_
  unfold mlp
  exact congrArg (fun x => lin x (weights (O := 5120) (B := 2240) (G := 140) (R := 4480) rfl rfl (V (Proc.devRef .tc main_arg5)) (V (Proc.devRef .tc main_arg6))) (i 0) (i 1))
    (funext fun m => funext fun k => gated_at V m k)

end

/-- Every run of the reference ends with the result the arguments give, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v157) = (fun i : S128x5120.Idx => mlp (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (funext fun i => down_at (launchContents m c) i), (h c).2⟩) (run m ρ)

end Cert.ReferenceIdeal.Value

end
-- ==== Proof.lean ====
/-
  The proof of `Cert.Claim`: the kernel's frame over bit patterns and over extended reals, the reference's frame, the
  equality of what the kernel's rewritten bit-casts do, and the equality of the two results.
-/
module

public import proofs.«01_k».proof.Defs
public import proofs.«01_k».proof.Proof.BitsFrame
public import proofs.«01_k».proof.Proof.IdealFrame
public import proofs.«01_k».proof.Proof.IdealPlan
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Adequacy
public import Idealize.ShloMosaic.Init

@[expose] public section

set_option maxRecDepth 65536

noncomputable section

namespace Cert.Proof

open Idealize.ShloMosaic Idealize.SL.Sem

/-- Each bit-cast that the ideal program replaces, and each of its two word buffers, agrees with the replacement. -/
theorem preserves : Cert.preserves_Kernel_KernelIdeal :=
  ⟨IdealRules.bf16_pair.bufferStatement _ _, IdealRules.bf16_pair.bufferStatement _ _, IdealRules.bf16_pair.statement _ _,
    IdealRules.bf16_pair.statement _ _, IdealRules.bf16_pair.statement _ _, IdealRules.bf16_pair.statement _ _,
    IdealRules.bf16_pair.statement _ _, IdealRules.bf16_pair.statement _ _⟩

/-- The reference leaves its arguments unchanged; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result and the reference's are the same function of the arguments. -/
theorem algebraic : Cert.algebraic_KernelIdeal_ReferenceIdeal := fun m ρ m' ρ' _ h =>
  ⟨fun c => Cert.KernelIdeal.Hand.result m c, Cert.KernelIdeal.Hand.run_value m ρ fun c => Cert.KernelIdeal.Hand.plan m c,
    (θ_run Cert.ReferenceIdeal.defs _ _).mono (fun r hr c => ⟨(hr c).1.trans (by
        obtain ⟨h0, h1, h2, h3, h4, h5, h6⟩ := h c
        rw [h0, h1, h2, h3, h4, h5, h6]
        rfl), (hr c).2⟩)
      (Cert.ReferenceIdeal.Value.run_value m' ρ')⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, frame_reference, preserves, algebraic⟩

end Cert.Proof

end
